-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnReferenceIdeal (m : (ℓ : Loc Cert.XattnReferenceIdeal.nD Cert.XattnReferenceIdeal.τ Cert.XattnReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)) (v2 : (c : Dev Cert.MemKvIdeal.nD) → Buf (Elt Ideal) ((c.tc : Thread Cert.MemKvIdeal.nD Cert.MemKvIdeal.τ).loc Cert.MemKvIdeal.main_v3_2)) (v3 : (c : Dev Cert.MemKvIdeal.nD) → Buf (Elt Ideal) ((c.tc : Thread Cert.MemKvIdeal.nD Cert.MemKvIdeal.τ).loc Cert.MemKvIdeal.main_v3_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_v3_2) = v2 c
          ∧ r.2.mem ((c.tc : Thread Cert.MemKvIdeal.nD Cert.MemKvIdeal.τ).loc Cert.MemKvIdeal.main_v3_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v4) = v0 c
          ∧ r.2.mem ((c.tc : Thread Cert.MemKvReferenceIdeal.nD Cert.MemKvReferenceIdeal.τ).loc Cert.MemKvReferenceIdeal.main_v5) = v1 c
          ∧ r.2.mem ((c.tc : Thread Cert.MemKvReferenceIdeal.nD Cert.MemKvReferenceIdeal.τ).loc Cert.MemKvReferenceIdeal.main_v1) = v2 c
          ∧ r.2.mem ((c.tc : Thread Cert.MemKvReferenceIdeal.nD Cert.MemKvReferenceIdeal.τ).loc Cert.MemKvReferenceIdeal.main_v3) = v3 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v31) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Xattn_XattnIdeal : Prop :=
  True

def algebraic_XattnIdeal_XattnReferenceIdeal [hXattnIdeal : Cert.XattnIdeal.Facts] [hXattnReferenceIdeal : Cert.XattnReferenceIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)
      ∧ m' ((c.tc : Thread Cert.XattnReferenceIdeal.nD Cert.XattnReferenceIdeal.τ).loc Cert.XattnReferenceIdeal.main_arg6) = m ((c.tc : Thread Cert.XattnIdeal.nD Cert.XattnIdeal.τ).loc Cert.XattnIdeal.main_arg6)) →
    ∃ (v0 : (c : Dev Cert.XattnIdeal.nD) → Buf (Elt Ideal) ((c.tc : Thread Cert.XattnIdeal.nD Cert.XattnIdeal.τ).loc Cert.XattnIdeal.main_v7)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v7) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v47) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v6)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v6) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v34) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemKv : Cert.MemKv.Facts) (hMemKvIdeal : Cert.MemKvIdeal.Facts) (hMemKvReferenceIdeal : Cert.MemKvReferenceIdeal.Facts) (hOutProj : Cert.OutProj.Facts) (hOutProjIdeal : Cert.OutProjIdeal.Facts) (hOutProjReferenceIdeal : Cert.OutProjReferenceIdeal.Facts) (hXattn : Cert.Xattn.Facts) (hXattnIdeal : Cert.XattnIdeal.Facts) (hXattnReferenceIdeal : Cert.XattnReferenceIdeal.Facts) (hFfnSample : Cert.FfnSample.Facts) (hFfnSampleIdeal : Cert.FfnSampleIdeal.Facts) (hFfnSampleReferenceIdeal : Cert.FfnSampleReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Xattn (hXattn := hXattn)
    ∧ quiescent_XattnIdeal (hXattnIdeal := hXattnIdeal)
    ∧ quiescent_XattnReferenceIdeal (hXattnReferenceIdeal := hXattnReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_MemKv_MemKvIdeal
    ∧ algebraic_MemKvIdeal_MemKvReferenceIdeal (hMemKvIdeal := hMemKvIdeal) (hMemKvReferenceIdeal := hMemKvReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Xattn_XattnIdeal
    ∧ algebraic_XattnIdeal_XattnReferenceIdeal (hXattnIdeal := hXattnIdeal) (hXattnReferenceIdeal := hXattnReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_finite_scores.lean ====
abbrev S256x1024 : Shape := ⟨2, ![256, 1024]⟩
abbrev S1x8x2048x8x128 : Shape := ⟨5, ![1, 8, 2048, 8, 128]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x8x2048x8x128 : S_.BroadcastsInDim S1x8x2048x8x128 (![] : Fin 0 → Fin S1x8x2048x8x128.rank)
  reducesTo_S1x8x2048x8x128_S_d0_1_2_3_4 : S1x8x2048x8x128.ReducesTo [0, 1, 2, 3, 4] S_

variable [Facts]

def fn {F : FTy → Type} [FloatOps F] (main_arg0 : FVec F S256x1024 .bf16) (main_arg1 : FVec F S256x1024 .bf16) (main_arg2 : FVec F S256x1024 .bf16) (main_arg3 : FVec F S1x8x2048x8x128 .f32) (main_arg4 : FVec F S1x8x2048x8x128 .f32) : IVec S_ 1 :=
  let main_v0 : FVec F S256x1024 .f32 := (extf .f32 · bitsLt_bf16_f32) main_arg0
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_c : IVec S_ 1 := constantI S_ 1 1#1
  let main_v4 : IVec S_ 1 := (fun x v => Host.reduce IntOp.andi x v reducesTo_S256x1024_S_d0_1 h_S_) main_v3 main_c
  let main_v5 : FVec F S256x1024 .f32 := (extf .f32 · bitsLt_bf16_f32) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  let main_v11 : FVec F S1x8x2048x8x128 .f32 := Host.absf main_arg3
  let main_cst_2 : FVec F S_ .f32 := constant S_ .f32 0x7F800000#32
  let main_v12 : FVec F S1x8x2048x8x128 .f32 := broadcastInDim S1x8x2048x8x128 ![] bcast_S_S1x8x2048x8x128 main_cst_2
  let main_v13 : IVec S1x8x2048x8x128 1 := cmpf .olt main_v11 main_v12
  let main_c_3 : IVec S_ 1 := constantI S_ 1 1#1
  let main_v14 : IVec S_ 1 := (fun x v => Host.reduce IntOp.andi x v reducesTo_S1x8x2048x8x128_S_d0_1_2_3_4 h_S_) main_v13 main_c_3
  let main_v15 : IVec S_ 1 := andi main_v10 main_v14
  main_v15
-- ==== Kernel.lean ====
abbrev S256x1024 : Shape := ⟨2, ![256, 1024]⟩
abbrev S1x8x2048x8x128 : Shape := ⟨5, ![1, 8, 2048, 8, 128]⟩
abbrev S8x2048x8x128 : Shape := ⟨4, ![8, 2048, 8, 128]⟩
abbrev S8x16384x128 : Shape := ⟨3, ![8, 16384, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x1024 : Shape := ⟨2, ![32, 1024]⟩
abbrev S1x16384x128 : Shape := ⟨3, ![1, 16384, 128]⟩
abbrev S32x128 : Shape := ⟨2, ![32, 128]⟩
abbrev S512x32 : Shape := ⟨2, ![512, 32]⟩
abbrev S1x256x128 : Shape := ⟨3, ![1, 256, 128]⟩
abbrev S256x128 : Shape := ⟨2, ![256, 128]⟩
abbrev S32x256 : Shape := ⟨2, ![32, 256]⟩
abbrev S512x256 : Shape := ⟨2, ![512, 256]⟩

abbrev nBuf : Space → Nat
  | .hbm => 24
  | .vmem => 14
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x1024, .bf16⟩
  | .hbm, ⟨3, _⟩ => ⟨S1x8x2048x8x128, .f32⟩
  | .hbm, ⟨4, _⟩ => ⟨S1x8x2048x8x128, .f32⟩
  | .hbm, ⟨5, _⟩ => ⟨S8x2048x8x128, .f32⟩
  | .hbm, ⟨6, _⟩ => ⟨S8x16384x128, .f32⟩
  | .hbm, ⟨7, _⟩ => ⟨S8x2048x8x128, .f32⟩
  | .hbm, ⟨8, _⟩ => ⟨S8x16384x128, .f32⟩
  | .hbm, ⟨9, _⟩ => ⟨S32, .i32⟩
  | .hbm, ⟨10, _⟩ => ⟨S32x1, .i32⟩
  | .hbm, ⟨11, _⟩ => ⟨S1x32, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S32x32, .bf16⟩
  | .hbm, ⟨16, _⟩ => ⟨S256, .i32⟩
  | .hbm, ⟨17, _⟩ => ⟨S256x1, .i32⟩
  | .hbm, ⟨18, _⟩ => ⟨S1x256, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .bf16⟩
  | .hbm, ⟨23, _⟩ => ⟨S256x1024, .bf16⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S1x16384x128, .f32⟩
  | .local _ .vmem, ⟨7, _⟩ => ⟨S1x16384x128, .f32⟩
  | .local _ .vmem, ⟨8, _⟩ => ⟨S1x16384x128, .f32⟩
  | .local _ .vmem, ⟨9, _⟩ => ⟨S1x16384x128, .f32⟩
  | .local _ .vmem, ⟨10, _⟩ => ⟨S32x32, .bf16⟩
  | .local _ .vmem, ⟨11, _⟩ => ⟨S256x256, .bf16⟩
  | .local _ .vmem, ⟨12, _⟩ => ⟨S32x1024, .bf16⟩
  | .local _ .vmem, ⟨13, _⟩ => ⟨S32x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S256x1024 : Shape := ⟨2, ![256, 1024]⟩
abbrev S1x8x2048x8x128 : Shape := ⟨5, ![1, 8, 2048, 8, 128]⟩
abbrev S8x2048x8x128 : Shape := ⟨4, ![8, 2048, 8, 128]⟩
abbrev S8x32x8x128 : Shape := ⟨4, ![8, 32, 8, 128]⟩
abbrev S8x2080x8x128 : Shape := ⟨4, ![8, 2080, 8, 128]⟩
abbrev S32 : Shape := ⟨1, ![32]⟩
abbrev S_ : Shape := ⟨0, ![]⟩
abbrev S2080 : Shape := ⟨1, ![2080]⟩
abbrev S8x8x32x2080 : Shape := ⟨4, ![8, 8, 32, 2080]⟩
abbrev S1x2080 : Shape := ⟨2, ![1, 2080]⟩
abbrev S32x1 : Shape := ⟨2, ![32, 1]⟩
abbrev S32x2080 : Shape := ⟨2, ![32, 2080]⟩
abbrev S8x8x128x32 : Shape := ⟨4, ![8, 8, 128, 32]⟩

abbrev nBuf : Space → Nat
  | .hbm => 82
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x1024, .bf16⟩
  | .hbm, ⟨3, _⟩ => ⟨S1x8x2048x8x128, .f32⟩
  | .hbm, ⟨4, _⟩ => ⟨S1x8x2048x8x128, .f32⟩
  | .hbm, ⟨5, _⟩ => ⟨S8x2048x8x128, .f32⟩
  | .hbm, ⟨6, _⟩ => ⟨S256x1024, .f32⟩
  | .hbm, ⟨7, _⟩ => ⟨S8x32x8x128, .f32⟩
  | .hbm, ⟨8, _⟩ => ⟨S8x2080x8x128, .f32⟩
  | .hbm, ⟨9, _⟩ => ⟨S8x2048x8x128, .f32⟩
  | .hbm, ⟨10, _⟩ => ⟨S256x1024, .f32⟩
  | .hbm, ⟨11, _⟩ => ⟨S8x32x8x128, .f32⟩
  | .hbm, ⟨12, _⟩ => ⟨S8x2080x8x128, .f32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S2080, .i32⟩
  | .hbm, ⟨18, _⟩ => ⟨S256x1024, .f32⟩
  | .hbm, ⟨19, _⟩ => ⟨S8x32x8x128, .f32⟩
  | .hbm, ⟨20, _⟩ => ⟨S8x8x32x2080, .f32⟩
  | .hbm, ⟨21, _⟩ => ⟨S_, .f32⟩
  | .hbm, ⟨22, _⟩ => ⟨S8x8x32x2080, .f32⟩
  | .hbm, ⟨23, _⟩ => ⟨S8x8x32x2080, .f32⟩
  | .hbm, ⟨24, _⟩ => ⟨S1x2080, .i32⟩
  | .hbm, ⟨25, _⟩ => ⟨S32x1, .i32⟩
  | .hbm, ⟨26, _⟩ => ⟨S32x2080, .i32⟩
  | .hbm, ⟨27, _⟩ => ⟨S32x2080, .i32⟩
  | .hbm, ⟨28, _⟩ => ⟨S32x2080, .i1⟩
  | .hbm, ⟨29, _⟩ => ⟨S8x8x32x2080, .f32⟩
  | .hbm, ⟨30, _⟩ => ⟨S8x8x32x2080, .f32⟩
  | .hbm, ⟨31, _⟩ => ⟨S_, .f32⟩
  | .hbm, ⟨32, _⟩ => ⟨S8x8x32x2080, .f32⟩
  | .hbm, ⟨33, _⟩ => ⟨S8x8x32x2080, .f32⟩
  | .hbm, ⟨34, _⟩ => ⟨S8x8x32x2080, .f32⟩
  | .hbm, ⟨35, _⟩ => ⟨S8x8x32x2080, .f32⟩
  | .hbm, ⟨36, _⟩ => ⟨S8x8x32x2080, .i1⟩
  | .hbm, ⟨37, _⟩ => ⟨S8x8x32x2080, .f32⟩
  | .hbm, ⟨38, _⟩ => ⟨S8x8x32x2080, .f32⟩
  | .hbm, ⟨39, _⟩ => ⟨S8x8x32x2080, .f32⟩
  | .hbm, ⟨40, _⟩ => ⟨S8x8x32x2080, .f32⟩
  | .hbm, ⟨41, _⟩ => ⟨S8x8x32x2080, .f32⟩
  | .hbm, ⟨42, _⟩ => ⟨S8x8x32x2080, .f32⟩
  | .hbm, ⟨43, _⟩ => ⟨S8x8x32x2080, .f32⟩
  | .hbm, ⟨44, _⟩ => ⟨S8x8x32x2080, .f32⟩
  | .hbm, ⟨45, _⟩ => ⟨S8x8x32x2080, .f32⟩
  | .hbm, ⟨46, _⟩ => ⟨S_, .f32⟩
  | .hbm, ⟨47, _⟩ => ⟨S_, .f32⟩
  | .hbm, ⟨48, _⟩ => ⟨S8x8x32x2080, .i1⟩
  | .hbm, ⟨49, _⟩ => ⟨S8x8x32x2080, .f32⟩
  | .hbm, ⟨50, _⟩ => ⟨S8x8x32x2080, .f32⟩
  | .hbm, ⟨51, _⟩ => ⟨S_, .f32⟩
  | .hbm, ⟨52, _⟩ => ⟨S_, .f32⟩
  | .hbm, ⟨53, _⟩ => ⟨S8x8x32x2080, .f32⟩
  | .hbm, ⟨54, _⟩ => ⟨S8x8x32x2080, .f32⟩
  | .hbm, ⟨55, _⟩ => ⟨S8x8x32x2080, .f32⟩
  | .hbm, ⟨56, _⟩ => ⟨S_, .f32⟩
  | .hbm, ⟨57, _⟩ => ⟨S8x8x32x2080, .f32⟩
  | .hbm, ⟨58, _⟩ => ⟨S8x8x32x2080, .f32⟩
  | .hbm, ⟨59, _⟩ => ⟨S8x8x32x2080, .f32⟩
  | .hbm, ⟨60, _⟩ => ⟨S8x8x32x2080, .f32⟩
  | .hbm, ⟨61, _⟩ => ⟨S8x8x32x2080, .i1⟩
  | .hbm, ⟨62, _⟩ => ⟨S8x8x32x2080, .f32⟩
  | .hbm, ⟨63, _⟩ => ⟨S8x8x32x2080, .f32⟩
  | .hbm, ⟨64, _⟩ => ⟨S8x8x32x2080, .f32⟩
  | .hbm, ⟨65, _⟩ => ⟨S8x8x32x2080, .f32⟩
  | .hbm, ⟨66, _⟩ => ⟨S8x8x32x2080, .f32⟩
  | .hbm, ⟨67, _⟩ => ⟨S8x8x32x2080, .f32⟩
  | .hbm, ⟨68, _⟩ => ⟨S8x8x32x2080, .f32⟩
  | .hbm, ⟨69, _⟩ => ⟨S8x8x32x2080, .f32⟩
  | .hbm, ⟨70, _⟩ => ⟨S8x8x32x2080, .f32⟩
  | .hbm, ⟨71, _⟩ => ⟨S8x8x32x2080, .f32⟩
  | .hbm, ⟨72, _⟩ => ⟨S8x8x32x2080, .f32⟩
  | .hbm, ⟨73, _⟩ => ⟨S_, .f32⟩
  | .hbm, ⟨74, _⟩ => ⟨S_, .f32⟩
  | .hbm, ⟨75, _⟩ => ⟨S8x8x32x2080, .i1⟩
  | .hbm, ⟨76, _⟩ => ⟨S8x8x32x2080, .f32⟩
  | .hbm, ⟨77, _⟩ => ⟨S8x8x32x2080, .f32⟩
  | .hbm, ⟨78, _⟩ => ⟨S8x8x128x32, .f32⟩
  | .hbm, ⟨79, _⟩ => ⟨S8x32x8x128, .f32⟩
  | .hbm, ⟨80, _⟩ => ⟨S8x32x8x128, .bf16⟩
  | .hbm, ⟨81, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_call2_cst : Ref sig .tc := ⟨.hbm, 51, rfl⟩
abbrev main_call2_v0 : Ref sig .tc := ⟨.hbm, 52, rfl⟩
abbrev main_v25 : Ref sig .tc := ⟨.hbm, 53, rfl⟩
abbrev main_v26 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]
-- ==== Ffn.lean ====
abbrev S8x2048x2048 : Shape := ⟨3, ![8, 2048, 2048]⟩
abbrev S2048x5632 : Shape := ⟨2, ![2048, 5632]⟩
abbrev S5632x2048 : Shape := ⟨2, ![5632, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnIdeal.lean ====
abbrev S8x2048x2048 : Shape := ⟨3, ![8, 2048, 2048]⟩
abbrev S2048x5632 : Shape := ⟨2, ![2048, 5632]⟩
abbrev S5632x2048 : Shape := ⟨2, ![5632, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnReferenceIdeal.lean ====
abbrev S8x2048x2048 : Shape := ⟨3, ![8, 2048, 2048]⟩
abbrev S2048x5632 : Shape := ⟨2, ![2048, 5632]⟩
abbrev S5632x2048 : Shape := ⟨2, ![5632, 2048]⟩
abbrev S2048 : Shape := ⟨1, ![2048]⟩
abbrev S8x2048x5632 : Shape := ⟨3, ![8, 2048, 5632]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8x2048x5632, .f32⟩
  | .hbm, ⟨7, _⟩ => ⟨S8x2048x5632, .f32⟩
  | .hbm, ⟨8, _⟩ => ⟨S8x2048x5632, .f32⟩
  | .hbm, ⟨9, _⟩ => ⟨S_, .f32⟩
  | .hbm, ⟨10, _⟩ => ⟨S8x2048x5632, .f32⟩
  | .hbm, ⟨11, _⟩ => ⟨S8x2048x5632, .f32⟩
  | .hbm, ⟨12, _⟩ => ⟨S_, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x5632, .f32⟩
  | .hbm, ⟨17, _⟩ => ⟨S8x2048x5632, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S1x1x2048, .f32⟩
  | .hbm, ⟨53, _⟩ => ⟨S8x2048x2048, .f32⟩
  | .hbm, ⟨54, _⟩ => ⟨S8x2048x2048, .f32⟩
  | .hbm, ⟨55, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== MemKv.lean ====
abbrev S8x256x2048 : Shape := ⟨3, ![8, 256, 2048]⟩
abbrev S2048x1024 : Shape := ⟨2, ![2048, 1024]⟩
abbrev S2048x2048 : Shape := ⟨2, ![2048, 2048]⟩
abbrev S8x256x4x256 : Shape := ⟨4, ![8, 256, 4, 256]⟩
abbrev S512x2048 : Shape := ⟨2, ![512, 2048]⟩
abbrev S512x1024 : Shape := ⟨2, ![512, 1024]⟩
abbrev S2x256x4x256 : Shape := ⟨4, ![2, 256, 4, 256]⟩
abbrev S256x256 : Shape := ⟨2, ![256, 256]⟩
abbrev S1x256x1x256 : Shape := ⟨4, ![1, 256, 1, 256]⟩

abbrev nBuf : Space → Nat
  | .hbm => 10
  | .vmem => 12
  | .smem => 0
  | _ => 0

abbrev bufTy : (tb : Table) → Fin (tcTables nBuf tb) → BufTy
  | .hbm, ⟨0, _⟩ => ⟨S8x256x2048, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S8x256x4x256, .f32⟩
  | .hbm, ⟨9, _⟩ => ⟨S8x256x4x256, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x256x4x256, .f32⟩
  | .local _ .vmem, ⟨9, _⟩ => ⟨S2x256x4x256, .f32⟩
  | .local _ .vmem, ⟨10, _⟩ => ⟨S2x256x4x256, .f32⟩
  | .local _ .vmem, ⟨11, _⟩ => ⟨S2x256x4x256, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvReferenceIdeal.lean ====
abbrev S8x256x2048 : Shape := ⟨3, ![8, 256, 2048]⟩
abbrev S2048x1024 : Shape := ⟨2, ![2048, 1024]⟩
abbrev S8x256x1024 : Shape := ⟨3, ![8, 256, 1024]⟩
abbrev S8x256x4x256 : Shape := ⟨4, ![8, 256, 4, 256]⟩

abbrev nBuf : Space → Nat
  | .hbm => 9
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048x1024, .f32⟩
  | .hbm, ⟨2, _⟩ => ⟨S2048x1024, .f32⟩
  | .hbm, ⟨3, _⟩ => ⟨S8x256x1024, .f32⟩
  | .hbm, ⟨4, _⟩ => ⟨S8x256x4x256, .f32⟩
  | .hbm, ⟨5, _⟩ => ⟨S8x256x1024, .f32⟩
  | .hbm, ⟨6, _⟩ => ⟨S8x256x4x256, .f32⟩
  | .hbm, ⟨7, _⟩ => ⟨S2048x1024, .f32⟩
  | .hbm, ⟨8, _⟩ => ⟨S2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S8x2048x2048 : Shape := ⟨3, ![8, 2048, 2048]⟩
abbrev S8x2048x1024 : Shape := ⟨3, ![8, 2048, 1024]⟩
abbrev S2048x2048 : Shape := ⟨2, ![2048, 2048]⟩
abbrev S2048 : Shape := ⟨1, ![2048]⟩
abbrev S16384x2048 : Shape := ⟨2, ![16384, 2048]⟩
abbrev S16384x1024 : Shape := ⟨2, ![16384, 1024]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S16384x1024, .bf16⟩
  | .hbm, ⟨8, _⟩ => ⟨S16384x1024, .bf16⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S8x2048x2048 : Shape := ⟨3, ![8, 2048, 2048]⟩
abbrev S8x2048x1024 : Shape := ⟨3, ![8, 2048, 1024]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S1x1x2048, .f32⟩
  | .hbm, ⟨38, _⟩ => ⟨S8x2048x2048, .f32⟩
  | .hbm, ⟨39, _⟩ => ⟨S8x2048x2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Xattn.lean ====
abbrev S8x2048x2048 : Shape := ⟨3, ![8, 2048, 2048]⟩
abbrev S8x256x4x256 : Shape := ⟨4, ![8, 256, 4, 256]⟩
abbrev S2048x1024 : Shape := ⟨2, ![2048, 1024]⟩
abbrev S1024x2048 : Shape := ⟨2, ![1024, 2048]⟩
abbrev S2048 : Shape := ⟨1, ![2048]⟩
abbrev S16384x2048 : Shape := ⟨2, ![16384, 2048]⟩
abbrev S8x256x1024 : Shape := ⟨3, ![8, 256, 1024]⟩
abbrev S1x2048 : Shape := ⟨2, ![1, 2048]⟩
abbrev S1x256x1024 : Shape := ⟨3, ![1, 256, 1024]⟩
abbrev S256x1024 : Shape := ⟨2, ![256, 1024]⟩
abbrev S512x2048 : Shape := ⟨2, ![512, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x256x4x256, .f32⟩
  | .hbm, ⟨2, _⟩ => ⟨S8x256x4x256, .f32⟩
  | .hbm, ⟨3, _⟩ => ⟨S2048x1024, .f32⟩
  | .hbm, ⟨4, _⟩ => ⟨S1024x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S8x256x1024, .f32⟩
  | .hbm, ⟨9, _⟩ => ⟨S8x256x1024, .f32⟩
  | .hbm, ⟨10, _⟩ => ⟨S2048x1024, .bf16⟩
  | .hbm, ⟨11, _⟩ => ⟨S1024x2048, .bf16⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S2048x1024, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XattnReferenceIdeal.lean ====
abbrev S8x2048x2048 : Shape := ⟨3, ![8, 2048, 2048]⟩
abbrev S8x256x4x256 : Shape := ⟨4, ![8, 256, 4, 256]⟩
abbrev S2048x1024 : Shape := ⟨2, ![2048, 1024]⟩
abbrev S1024x2048 : Shape := ⟨2, ![1024, 2048]⟩
abbrev S2048 : Shape := ⟨1, ![2048]⟩
abbrev S8x2048x1024 : Shape := ⟨3, ![8, 2048, 1024]⟩
abbrev S8x2048x4x256 : Shape := ⟨4, ![8, 2048, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x256x4x256, .f32⟩
  | .hbm, ⟨2, _⟩ => ⟨S8x256x4x256, .f32⟩
  | .hbm, ⟨3, _⟩ => ⟨S2048x1024, .f32⟩
  | .hbm, ⟨4, _⟩ => ⟨S1024x2048, .f32⟩
  | .hbm, ⟨5, _⟩ => ⟨S2048, .f32⟩
  | .hbm, ⟨6, _⟩ => ⟨S2048, .f32⟩
  | .hbm, ⟨7, _⟩ => ⟨S8x2048x1024, .f32⟩
  | .hbm, ⟨8, _⟩ => ⟨S8x2048x4x256, .f32⟩
  | .hbm, ⟨9, _⟩ => ⟨S8x4x2048x256, .f32⟩
  | .hbm, ⟨10, _⟩ => ⟨S_, .f32⟩
  | .hbm, ⟨11, _⟩ => ⟨S8x4x2048x256, .f32⟩
  | .hbm, ⟨12, _⟩ => ⟨S8x4x2048x256, .f32⟩
  | .hbm, ⟨13, _⟩ => ⟨S_, .f32⟩
  | .hbm, ⟨14, _⟩ => ⟨S8x4x2048, .f32⟩
  | .hbm, ⟨15, _⟩ => ⟨S_, .f32⟩
  | .hbm, ⟨16, _⟩ => ⟨S8x4x2048, .f32⟩
  | .hbm, ⟨17, _⟩ => ⟨S8x4x2048, .f32⟩
  | .hbm, ⟨18, _⟩ => ⟨S8x4x2048x1, .f32⟩
  | .hbm, ⟨19, _⟩ => ⟨S8x4x2048x256, .f32⟩
  | .hbm, ⟨20, _⟩ => ⟨S8x4x2048x256, .f32⟩
  | .hbm, ⟨21, _⟩ => ⟨S8x4x2048x256, .f32⟩
  | .hbm, ⟨22, _⟩ => ⟨S_, .f32⟩
  | .hbm, ⟨23, _⟩ => ⟨S8x4x2048, .f32⟩
  | .hbm, ⟨24, _⟩ => ⟨S8x4x2048x1, .f32⟩
  | .hbm, ⟨25, _⟩ => ⟨S8x4x2048x256, .f32⟩
  | .hbm, ⟨26, _⟩ => ⟨S8x4x2048x256, .f32⟩
  | .hbm, ⟨27, _⟩ => ⟨S8x4x256x2048, .f32⟩
  | .hbm, ⟨28, _⟩ => ⟨S8x2048x4x256, .f32⟩
  | .hbm, ⟨29, _⟩ => ⟨S8x2048x1024, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S1x1x2048, .f32⟩
  | .hbm, ⟨59, _⟩ => ⟨S8x2048x2048, .f32⟩
  | .hbm, ⟨60, _⟩ => ⟨S8x2048x2048, .f32⟩
  | .hbm, ⟨61, _⟩ => ⟨S1x1x2048, .f32⟩
  | .hbm, ⟨62, _⟩ => ⟨S8x2048x2048, .f32⟩
  | .hbm, ⟨63, _⟩ => ⟨S8x2048x2048, .f32⟩
  | .hbm, ⟨64, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== FfnSample.lean ====
abbrev S8x32x2048 : Shape := ⟨3, ![8, 32, 2048]⟩
abbrev S2048x5632 : Shape := ⟨2, ![2048, 5632]⟩
abbrev S5632x2048 : Shape := ⟨2, ![5632, 2048]⟩
abbrev S2048 : Shape := ⟨1, ![2048]⟩
abbrev S256x2048 : Shape := ⟨2, ![256, 2048]⟩
abbrev S1x2048 : Shape := ⟨2, ![1, 2048]⟩
abbrev S2048x512 : Shape := ⟨2, ![2048, 512]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x32x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S256x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S256x2048, .f32⟩
  | .local _ .vmem, ⟨0, _⟩ => ⟨S256x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleReferenceIdeal.lean ====
abbrev S8x32x2048 : Shape := ⟨3, ![8, 32, 2048]⟩
abbrev S2048x5632 : Shape := ⟨2, ![2048, 5632]⟩
abbrev S5632x2048 : Shape := ⟨2, ![5632, 2048]⟩
abbrev S2048 : Shape := ⟨1, ![2048]⟩
abbrev S8x32x5632 : Shape := ⟨3, ![8, 32, 5632]⟩
abbrev S_ : Shape := ⟨0, ![]⟩
abbrev S8x32 : Shape := ⟨2, ![8, 32]⟩
abbrev S8x32x1 : Shape := ⟨3, ![8, 32, 1]⟩
abbrev S1x1x2048 : Shape := ⟨3, ![1, 1, 2048]⟩
abbrev S256x2048 : Shape := ⟨2, ![256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x32x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8x32x5632, .f32⟩
  | .hbm, ⟨7, _⟩ => ⟨S8x32x5632, .f32⟩
  | .hbm, ⟨8, _⟩ => ⟨S8x32x5632, .f32⟩
  | .hbm, ⟨9, _⟩ => ⟨S_, .f32⟩
  | .hbm, ⟨10, _⟩ => ⟨S8x32x5632, .f32⟩
  | .hbm, ⟨11, _⟩ => ⟨S8x32x5632, .f32⟩
  | .hbm, ⟨12, _⟩ => ⟨S_, .f32⟩
  | .hbm, ⟨13, _⟩ => ⟨S8x32x5632, .f32⟩
  | .hbm, ⟨14, _⟩ => ⟨S8x32x5632, .f32⟩
  | .hbm, ⟨15, _⟩ => ⟨S8x32x5632, .f32⟩
  | .hbm, ⟨16, _⟩ => ⟨S8x32x5632, .f32⟩
  | .hbm, ⟨17, _⟩ => ⟨S8x32x5632, .f32⟩
  | .hbm, ⟨18, _⟩ => ⟨S8x32x2048, .f32⟩
  | .hbm, ⟨19, _⟩ => ⟨S_, .f32⟩
  | .hbm, ⟨20, _⟩ => ⟨S8x32x2048, .f32⟩
  | .hbm, ⟨21, _⟩ => ⟨S8x32x2048, .f32⟩
  | .hbm, ⟨22, _⟩ => ⟨S_, .f32⟩
  | .hbm, ⟨23, _⟩ => ⟨S8x32x2048, .f32⟩
  | .hbm, ⟨24, _⟩ => ⟨S8x32x2048, .f32⟩
  | .hbm, ⟨25, _⟩ => ⟨S8x32x2048, .f32⟩
  | .hbm, ⟨26, _⟩ => ⟨S_, .f32⟩
  | .hbm, ⟨27, _⟩ => ⟨S8x32, .f32⟩
  | .hbm, ⟨28, _⟩ => ⟨S8x32x1, .f32⟩
  | .hbm, ⟨29, _⟩ => ⟨S_, .f32⟩
  | .hbm, ⟨30, _⟩ => ⟨S8x32x1, .f32⟩
  | .hbm, ⟨31, _⟩ => ⟨S8x32x1, .f32⟩
  | .hbm, ⟨32, _⟩ => ⟨S8x32x2048, .f32⟩
  | .hbm, ⟨33, _⟩ => ⟨S8x32x2048, .f32⟩
  | .hbm, ⟨34, _⟩ => ⟨S8x32x2048, .f32⟩
  | .hbm, ⟨35, _⟩ => ⟨S_, .f32⟩
  | .hbm, ⟨36, _⟩ => ⟨S8x32, .f32⟩
  | .hbm, ⟨37, _⟩ => ⟨S8x32x1, .f32⟩
  | .hbm, ⟨38, _⟩ => ⟨S_, .f32⟩
  | .hbm, ⟨39, _⟩ => ⟨S8x32x1, .f32⟩
  | .hbm, ⟨40, _⟩ => ⟨S8x32x1, .f32⟩
  | .hbm, ⟨41, _⟩ => ⟨S8x32x2048, .f32⟩
  | .hbm, ⟨42, _⟩ => ⟨S8x32x2048, .f32⟩
  | .hbm, ⟨43, _⟩ => ⟨S_, .f32⟩
  | .hbm, ⟨44, _⟩ => ⟨S8x32x1, .f32⟩
  | .hbm, ⟨45, _⟩ => ⟨S8x32x1, .f32⟩
  | .hbm, ⟨46, _⟩ => ⟨S8x32x1, .f32⟩
  | .hbm, ⟨47, _⟩ => ⟨S8x32x2048, .f32⟩
  | .hbm, ⟨48, _⟩ => ⟨S8x32x2048, .f32⟩
  | .hbm, ⟨49, _⟩ => ⟨S1x1x2048, .f32⟩
  | .hbm, ⟨50, _⟩ => ⟨S8x32x2048, .f32⟩
  | .hbm, ⟨51, _⟩ => ⟨S8x32x2048, .f32⟩
  | .hbm, ⟨52, _⟩ => ⟨S1x1x2048, .f32⟩
  | .hbm, ⟨53, _⟩ => ⟨S8x32x2048, .f32⟩
  | .hbm, ⟨54, _⟩ => ⟨S8x32x2048, .f32⟩
  | .hbm, ⟨55, _⟩ => ⟨S256x2048, .f32⟩
  | _, _ => ⟨S8x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.SbBody.lean ====
/- The stick-breaking attention's body on one batch element, written once as functions of its operands: eight heads, the
   sample's own 32 keys first (masked to the strictly earlier ones), then the cache's eight blocks of 256 keys from the last
   to the first. `headOut` is what one head stores. Everything is stated for any float values `F`. -/
module

public import proofs.«01_k».proof.Proof.Gen.KernelIdeal.Value
public import Idealize.ShloMosaic.Lib.MatmulPlain

@[expose] public section

noncomputable section

namespace Cert.KernelIdeal.Sb

open Idealize.ShloMosaic Cert.KernelIdeal Cert.KernelIdeal.Gen

/-- A matrix of `r` rows and `c` columns. -/
abbrev M (r c : Nat) : Shape := ⟨2, ![r, c]⟩

theorem slices_part (n o : Nat) (h : o + 32 ≤ 512) : (M 512 n).Slices ![o, 0] (M 32 n) := by
  refine ⟨rfl, fun a => ?_⟩
  match a with
  | ⟨0, _⟩ => exact h
  | ⟨1, _⟩ => simp

theorem broadcasts_col (n : Nat) : S32x1.Broadcasts (M 32 n) := by
  refine ⟨le_refl 2, fun a => ?_⟩
  match a with
  | ⟨0, _⟩ => exact Or.inr fun _ => rfl
  | ⟨1, _⟩ => exact Or.inl rfl

theorem reduces_row (n : Nat) : (M 32 n).Reduces [1] S32 :=
  ⟨rfl, Nat.one_pos, fun b => by match b with | ⟨0, _⟩ => rfl⟩

variable {F : FTy → Type} [FloatOps F] [Named F]

/-- A block's scores: the products of the queries' and the keys' rows, scaled. -/
def score {n : Nat} (q : FVec F S32x128 .bf16) (k : FVec F (M n 128) .bf16) : FVec F (M 32 n) .f32 :=
  mulf (matmul (DotDims.transposedRhs 32 128 n) none q k (constant (M 32 n) .f32 0x00000000#32))
    (broadcast (M 32 n) (Scalar.ofBits .f32 0x3DB504F3#32))

/-- The softplus of a block of scores: `max z 0 + log (1 + 2 ^ (-|z| · log₂ e))`. -/
def softplus {n : Nat} (z : FVec F (M 32 n) .f32) : FVec F (M 32 n) .f32 :=
  addf (maximumf z (broadcast (M 32 n) (Scalar.ofBits .f32 0x00000000#32)))
    (log (addf (broadcast (M 32 n) (Scalar.ofBits .f32 0x3F800000#32))
      (exp2 (mulf (absf z) (broadcast (M 32 n) (Named.named κ "neg_log2_e" 0xBFB8AA3B#32))))))

/-- A block split into the part a short float holds (even) and what remains of it (odd). -/
def part {n : Nat} (sp : Fin 8 → FVec F (M 32 n) .f32) (p : Fin 16) : FVec F (M 32 n) .bf16 :=
  bif p.val % 2 == 0 then truncf .bf16 (sp ⟨p.val / 2, by omega⟩) bitsLt_bf16_f32
  else truncf .bf16 (subf (sp ⟨p.val / 2, by omega⟩) (extf .f32 (truncf .bf16 (sp ⟨p.val / 2, by omega⟩) bitsLt_bf16_f32) bitsLt_bf16_f32)) bitsLt_bf16_f32

theorem concatenates_parts {n : Nat} (f : Fin 16 → FVec F (M 32 n) .bf16) :
    Shape.Concatenates ((List.ofFn fun p : Fin 16 => (⟨M 32 n, f p⟩ : (s : Shape) × FVec F s .bf16)).map (·.1)) (M 512 n) 0 := by
  have e : ((List.ofFn fun p : Fin 16 => (⟨M 32 n, f p⟩ : (s : Shape) × FVec F s .bf16)).map (·.1)) = List.replicate 16 (M 32 n) := by
    rw [List.map_ofFn]; exact List.ofFn_const 16 _
  rw [e]
  refine ⟨by simp, fun s hs => ?_, ?_⟩
  · obtain rfl := List.eq_of_mem_replicate hs
    refine ⟨rfl, fun b hb => ?_⟩
    match b with
    | ⟨0, _⟩ => exact absurd rfl hb
    | ⟨1, _⟩ => rfl
  · rw [List.map_replicate, List.sum_replicate]; rfl

/-- Both parts of all heads' blocks, stacked, times the table of ones below the diagonal. -/
def sums {n : Nat} (tri : FVec F (M n n) .bf16) (sp : Fin 8 → FVec F (M 32 n) .f32) : FVec F (M 512 n) .f32 :=
  matmul (DotDims.plain 512 n n) none
    (concatenate (M 512 n) 0 (List.ofFn fun p : Fin 16 => (⟨M 32 n, part sp p⟩ : (s : Shape) × FVec F s .bf16)) (concatenates_parts _))
    tri (constant (M 512 n) .f32 0x00000000#32)

/-- One head's sums over the block's later keys: its two parts' rows of `sums`, added. -/
def later {n : Nat} (tri : FVec F (M n n) .bf16) (sp : Fin 8 → FVec F (M 32 n) .f32) (a : Fin 8) : FVec F (M 32 n) .f32 :=
  addf (extractStridedSlice (M 32 n) ![64 * a.val, 0] (sums tri sp) (slices_part n _ (by omega)))
    (extractStridedSlice (M 32 n) ![64 * a.val + 32, 0] (sums tri sp) (slices_part n _ (by omega)))

/-- The attention weights of a block: `exp (z - softplus - later - carry)`. -/
def weight {n : Nat} (z sp later : FVec F (M 32 n) .f32) (carry : FVec F S32x1 .f32) : FVec F (M 32 n) .f32 :=
  exp (subf (subf (subf z sp) later) (broadcastTo (M 32 n) carry (broadcasts_col n)))

/-- A block's row sums, as a column. -/
def rowTotal {n : Nat} (sp : FVec F (M 32 n) .f32) : FVec F S32x1 .f32 :=
  shapeCast S32x1 (multiReduction .add [1] S32 sp 0x00000000#32 (reduces_row n) (.inl rfl) rfl) shapeCasts_S32_S32x1

/-- The weighted sum of a block's values. -/
def gain {n : Nat} (w : FVec F (M 32 n) .f32) (v : FVec F (M n 128) .bf16) : FVec F S32x128 .f32 :=
  matmul (DotDims.plain 32 n 128) none (truncf .bf16 w bitsLt_bf16_f32) v (constant S32x128 .f32 0x00000000#32)

/-- The mask of the sample's own keys: key `c` is before query `r`. -/
def mask : IVec S32x32 1 := cmpi .slt (iota .tc S32x32 32 [1] iota_S32x32_d1_w32) (iota .tc S32x32 32 [0] iota_S32x32_d0_w32)

section
variable (q kn vn : Fin 8 → FVec F S32x128 .bf16) (kp vp : Nat → Fin 8 → FVec F S256x128 .bf16)
  (tn : FVec F S32x32 .bf16) (tp : FVec F S256x256 .bf16)

/-- The masked softplus of head `a`'s own-key scores. -/
def spNew (a : Fin 8) : FVec F (M 32 32) .f32 :=
  select mask (softplus (score (n := 32) (q a) (kn a))) (broadcast S32x32 (Scalar.ofBits .f32 0x00000000#32))

/-- Head `a`'s weights of the sample's own keys. -/
def wNew (a : Fin 8) : FVec F (M 32 32) .f32 :=
  select mask (weight (score (n := 32) (q a) (kn a)) (spNew q kn a) (later (n := 32) tn (spNew q kn) a) (broadcast S32x1 (Scalar.ofBits .f32 0x00000000#32)))
    (broadcast S32x32 (Scalar.ofBits .f32 0x00000000#32))

/-- The softplus of head `a`'s scores in the cache's block visited at step `i`. -/
def spPast (i : Nat) (a : Fin 8) : FVec F (M 32 256) .f32 := softplus (score (n := 256) (q a) (kp i a))

/-- The carried sum of head `a` before the cache's visit `i`. -/
def carry (i : Nat) : Fin 8 → FVec F S32x1 .f32 :=
  Nat.rec (motive := fun _ => Fin 8 → FVec F S32x1 .f32)
    (fun a => addf (broadcast S32x1 (Scalar.ofBits .f32 0x00000000#32)) (rowTotal (spNew q kn a)))
    (fun i c a => addf (c a) (rowTotal (spPast q kp i a))) i

/-- Head `a`'s weights of the cache's block visited at step `i`. -/
def wPast (i : Nat) (a : Fin 8) : FVec F (M 32 256) .f32 :=
  weight (score (n := 256) (q a) (kp i a)) (spPast q kp i a) (later (n := 256) tp (spPast q kp i) a) (carry q kn kp i a)

/-- The accumulated output of head `a` before the cache's visit `i`. -/
def acc (i : Nat) : Fin 8 → FVec F S32x128 .f32 :=
  Nat.rec (motive := fun _ => Fin 8 → FVec F S32x128 .f32)
    (fun a => addf (broadcast S32x128 (Scalar.ofBits .f32 0x00000000#32)) (gain (wNew q kn tn a) (vn a)))
    (fun i c a => addf (c a) (gain (wPast q kn kp tp i a) (vp i a))) i

/-- What head `a` stores. -/
def headOut (a : Fin 8) : FVec F S32x128 .bf16 := truncf .bf16 (acc q kn vn kp vp tn tp 8 a) bitsLt_bf16_f32
end

end Cert.KernelIdeal.Sb
-- ==== Proof.SbRun.lean ====
/- What the attention's body stores at one grid point, from the values its staging buffers hold: head `a`'s block of 128
   columns is `headOut` of the operands read out of the buffers. -/
module

public import proofs.«01_k».proof.Proof.SbBody

@[expose] public section

noncomputable section

namespace Cert.KernelIdeal.Sb

open Idealize.ShloMosaic Idealize.ShloMosaic.Tactic Cert.KernelIdeal Cert.KernelIdeal.Gen

variable {F : FTy → Type} [FloatOps F] [Named F]

theorem inb_head (a : Fin 8) : ∀ x, (![0, 128 * a.val] : Fin 2 → Nat) x + S32x128.size x ≤ S32x1024.size x := fun x => by
  match x with
  | ⟨0, _⟩ => exact le_refl 32
  | ⟨1, _⟩ => show 128 * a.val + 128 ≤ 1024; omega

/-- Head `a`'s 128 columns. -/
abbrev cols (a : Fin 8) : Rect S32x1024 := Rect.unit ![0, 128 * a.val] S32x128.size (inb_head a)

theorem inb_rows (i : Nat) (a : Fin 8) : ∀ x, S1x256x128.size x = 0 ∨
    (![0, 14336 - 2048 * i + a.val, 0] : Fin 3 → Nat) x + (![1, 8, 1] : Fin 3 → Nat) x * (S1x256x128.size x - 1) < S1x16384x128.size x := fun x => by
  match x with
  | ⟨0, _⟩ => exact Or.inr Nat.one_pos
  | ⟨1, _⟩ => exact Or.inr (by show 14336 - 2048 * i + a.val + 8 * 255 < 16384; omega)
  | ⟨2, _⟩ => exact Or.inr (by show 0 + 1 * 127 < 128; omega)

/-- The 256 rows of head `a` that the cache's visit `i` reads: every eighth row. -/
abbrev rows (i : Nat) (a : Fin 8) : LoadRect S1x16384x128 where
  off := ![0, 14336 - 2048 * i + a.val, 0]
  size := S1x256x128.size
  stride := ![1, 8, 1]
  inb := inb_rows i a

/-- Head `a`'s block out of a staging buffer of all heads. -/
abbrev headLoad (g : Memref sig .tc .vmem S32x1024 .bf16) (hg : g.IsWhole) (x : Vec F S32x1024 .bf16) (a : Fin 8) : FVec F S32x128 .bf16 :=
  View.readAt (Elt F) g.view (cols a).toLoadRect (hg.unread x)

/-- Head `a`'s cached rows of visit `i`, rounded to the short float. -/
abbrev rowsLoad (g : Memref sig .tc .vmem S1x16384x128 .f32) (hg : g.IsWhole) (x : Vec F S1x16384x128 .f32) (i : Nat) (a : Fin 8) : FVec F S256x128 .bf16 :=
  truncf .bf16 (shapeCast S256x128 (View.readAt (Elt F) g.view (rows i a) (hg.unread x)) shapeCasts_S1x256x128_S256x128) bitsLt_bf16_f32

section
variable (c : Dev nD) (i : grid0.Coords) (arg1 : Memref sig .tc .vmem S32x1024 .bf16) (harg1 : arg1.IsWhole) (arg2 : Memref sig .tc .vmem S32x1024 .bf16) (harg2 : arg2.IsWhole) (arg3 : Memref sig .tc .vmem S32x1024 .bf16) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S32x32 .bf16) (harg6 : arg6.IsWhole) (arg7 : Memref sig .tc .vmem S256x256 .bf16) (harg7 : arg7.IsWhole) (arg8 : Memref sig .tc .vmem S32x1024 .bf16) (harg8 : arg8.IsWhole)
    (x0 : Vec F S32x1024 .bf16) (x1 : Vec F S32x1024 .bf16) (x2 : Vec F S32x1024 .bf16) (x3 : Vec F S1x16384x128 .f32) (x4 : Vec F S1x16384x128 .f32) (x5 : Vec F S32x32 .bf16) (x6 : Vec F S256x256 .bf16)

/-- What head `a` stores, over the buffers' reads. -/
def stored (a : Fin 8) : FVec F S32x128 .bf16 :=
  headOut (headLoad arg1 harg1 x0) (headLoad arg2 harg2 x1) (headLoad arg3 harg3 x2) (rowsLoad arg4 harg4 x3) (rowsLoad arg5 harg5 x4)
    (shapeCast S32x32 (View.readAt (Elt F) arg6.view (Rect.unit ![0, 0] S32x32.size inb_S32x32_S32x32_0_0).toLoadRect (harg6.unread x5)) shapeCasts_S32x32_S32x32)
    (shapeCast S256x256 (View.readAt (Elt F) arg7.view (Rect.unit ![0, 0] S256x256.size inb_S256x256_S256x256_0_0).toLoadRect (harg7.unread x6)) shapeCasts_S256x256_S256x256) a

set_option maxRecDepth 100000 in
/-- The body's stores, last first. -/
theorem run_pieces :
    (kernelRun0_A c i arg1 harg1 arg2 harg2 arg3 harg3 arg4 harg4 arg5 harg5 arg6 harg6 arg7 harg7 arg8 harg8 x0 x1 x2 x3 x4 x5 x6).1
      = [⟨cols 7, stored arg1 harg1 arg2 harg2 arg3 harg3 arg4 harg4 arg5 harg5 arg6 harg6 arg7 harg7 x0 x1 x2 x3 x4 x5 x6 7⟩,
        ⟨cols 6, stored arg1 harg1 arg2 harg2 arg3 harg3 arg4 harg4 arg5 harg5 arg6 harg6 arg7 harg7 x0 x1 x2 x3 x4 x5 x6 6⟩,
        ⟨cols 5, stored arg1 harg1 arg2 harg2 arg3 harg3 arg4 harg4 arg5 harg5 arg6 harg6 arg7 harg7 x0 x1 x2 x3 x4 x5 x6 5⟩,
        ⟨cols 4, stored arg1 harg1 arg2 harg2 arg3 harg3 arg4 harg4 arg5 harg5 arg6 harg6 arg7 harg7 x0 x1 x2 x3 x4 x5 x6 4⟩,
        ⟨cols 3, stored arg1 harg1 arg2 harg2 arg3 harg3 arg4 harg4 arg5 harg5 arg6 harg6 arg7 harg7 x0 x1 x2 x3 x4 x5 x6 3⟩,
        ⟨cols 2, stored arg1 harg1 arg2 harg2 arg3 harg3 arg4 harg4 arg5 harg5 arg6 harg6 arg7 harg7 x0 x1 x2 x3 x4 x5 x6 2⟩,
        ⟨cols 1, stored arg1 harg1 arg2 harg2 arg3 harg3 arg4 harg4 arg5 harg5 arg6 harg6 arg7 harg7 x0 x1 x2 x3 x4 x5 x6 1⟩,
        ⟨cols 0, stored arg1 harg1 arg2 harg2 arg3 harg3 arg4 harg4 arg5 harg5 arg6 harg6 arg7 harg7 x0 x1 x2 x3 x4 x5 x6 0⟩] := by
  sl_kernel_rfl
end

end Cert.KernelIdeal.Sb
-- ==== Proof.SbMath.lean ====
/- The real-number functions of the stick-breaking attention and the ideal values of its literals. -/
module

public import Idealize.ShloMosaic.Lib.ValueIdx
public import Idealize.ShloMosaic.Lib.IdealHost
public import Idealize.ShloMosaic.PureOps.Ideal.Laws

@[expose] public section

noncomputable section

namespace Sb

open Idealize.ShloMosaic

/-- The softplus function. -/
def sp (x : ℝ) : ℝ := max x 0 + Real.log (1 + Real.exp (-|x|))

/-- The score scale, the real number its float literal denotes. -/
def scale : ℝ := 11863283 / 134217728

theorem ofBits_scale : Ideal.ofBits .f32 0x3DB504F3#32 = ((scale : ℝ) : EReal) := by
  unfold scale
  simp [Ideal.ofBits, Ideal.ieee, -EReal.coe_mul]
  norm_num

/-- A finite sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

theorem coe_abs (x : ℝ) : max (x : EReal) (-(x : EReal)) = ((|x| : ℝ) : EReal) := by
  rw [← EReal.coe_neg, ← coe_max]; rfl

/-- Softplus as the kernel spells it, with a power of two. -/
theorem sp_exp2 (x : ℝ) :
    max (x : EReal) 0 + Ideal.log (1 + Ideal.exp2 (max (x : EReal) (-(x : EReal)) * ((-((Real.log 2)⁻¹) : ℝ) : EReal))) = (sp x : EReal) := by
  have h2 : (0 : ℝ) < Real.log 2 := Real.log_pos (by norm_num)
  have e : Real.rpow 2 (|x| * -(Real.log 2)⁻¹) = Real.exp (-|x|) := by
    show (2 : ℝ) ^ (|x| * -(Real.log 2)⁻¹) = _
    rw [Real.rpow_def_of_pos (by norm_num)]
    congr 1
    field_simp
  rw [coe_abs, ← EReal.coe_mul, Ideal.exp2_coe, e, ← EReal.coe_one, ← EReal.coe_add, Ideal.log_coe,
    if_neg (by have := Real.exp_pos (-|x|); linarith), ← EReal.coe_zero, ← coe_max, ← EReal.coe_add]
  rfl

/-- Softplus as the textbook spells it, with `log1p`. -/
theorem sp_log1p (x : ℝ) :
    max (x : EReal) 0 + Ideal.log1p (Ideal.exp (-(max (x : EReal) (-(x : EReal))))) = (sp x : EReal) := by
  rw [coe_abs, ← EReal.coe_neg, Ideal.exp_coe, Ideal.log1p, ← EReal.coe_one, ← EReal.coe_add, Ideal.log_coe,
    if_neg (by have := Real.exp_pos (-|x|); linarith), ← EReal.coe_zero, ← coe_max, ← EReal.coe_add]
  rfl

/-- `softplus (-x) = softplus x - x`. -/
theorem sp_neg (x : ℝ) : sp (-x) = sp x - x := by
  unfold sp
  rw [abs_neg]
  rcases le_total x 0 with h | h
  · rw [max_eq_left (by linarith), max_eq_right h]; ring
  · rw [max_eq_right (by linarith), max_eq_left h]; ring

/-! ## The weights, over the keys' positions -/

/-- A query's stick-breaking terms: the softplus of its scores before position `m`, nothing from there on. -/
def term (m : ℕ) (Z : ℕ → ℝ) (j : ℕ) : ℝ := if j < m then sp (Z j) else 0

/-- What the keys after `j` take of the stick, of `N` keys. -/
def after (N m : ℕ) (Z : ℕ → ℝ) (j : ℕ) : ℝ := ∑ k ∈ Finset.Ico (j + 1) N, term m Z k

/-- The attention weight of key `j`. -/
def wt (N m : ℕ) (Z : ℕ → ℝ) (j : ℕ) : ℝ := if j < m then Real.exp (Z j - term m Z j - after N m Z j) else 0

/-- A sum over a block of `n` positions from `b`. -/
theorem sum_block {A : Type*} [AddCommMonoid A] (b n : ℕ) (f : ℕ → A) : ∑ k : Fin n, f (b + k.val) = ∑ k ∈ Finset.Ico b (b + n), f k := by
  rw [Finset.sum_Ico_eq_sum_range, Nat.add_sub_cancel_left, Finset.sum_range]

/-- The part of such a sum after its position `c`. -/
theorem sum_block_after {A : Type*} [AddCommMonoid A] (b n : ℕ) (c : Fin n) (f : ℕ → A) :
    ∑ k : Fin n, (if c < k then f (b + k.val) else 0) = ∑ k ∈ Finset.Ico (b + c.val + 1) (b + n), f k := by
  have h := Finset.sum_range (n := n) fun k => if c.val < k then f (b + k) else 0
  have e : ∑ k : Fin n, (if c < k then f (b + k.val) else 0) = ∑ k ∈ Finset.range n, if c.val < k then f (b + k) else 0 := by
    rw [h]; rfl
  rw [e, ← Finset.sum_filter]
  refine Finset.sum_bij (fun k _ => b + k) ?_ ?_ ?_ ?_
  · intro k hk; simp only [Finset.mem_filter, Finset.mem_range] at hk; simp only [Finset.mem_Ico]; omega
  · intro k _ l _ h; exact Nat.add_left_cancel h
  · intro k hk
    simp only [Finset.mem_Ico] at hk
    exact ⟨k - b, by simp only [Finset.mem_filter, Finset.mem_range]; omega, by omega⟩
  · intro k _; rfl

/-! ## The attention's result -/

open ValueIdx (ix2 ix5)

/-- Batch element `b`'s row `j` of head `a` in the keys (or the values): the cache's first 2048, then the sample's own 32. -/
def kv (own : (⟨2, ![256, 1024]⟩ : Shape).Idx → EReal) (cache : (⟨5, ![1, 8, 2048, 8, 128]⟩ : Shape).Idx → EReal)
    (b a : Fin 8) (j : ℕ) (x : Fin 128) : EReal :=
  if h : j < 2048 then cache (ix5 (0 : Fin 1) b (⟨j, h⟩ : Fin 2048) a x)
  else own (ix2 (⟨32 * b.val + (j - 2048) % 32, by omega⟩ : Fin 256) (⟨128 * a.val + x.val, by omega⟩ : Fin 1024))

/-- The scores of one query. -/
abbrev scores (Q : Fin 128 → ℝ) (K : ℕ → Fin 128 → ℝ) (j : ℕ) : ℝ := (∑ x, Q x * K j x) * scale

/-- One entry of the attention: batch element `b`, query `r`, head `a`, column `d`. -/
def attend (q k v : (⟨2, ![256, 1024]⟩ : Shape).Idx → EReal) (ck cv : (⟨5, ![1, 8, 2048, 8, 128]⟩ : Shape).Idx → EReal)
    (b : Fin 8) (r : Fin 32) (a : Fin 8) (d : Fin 128) : EReal :=
  ∑ j ∈ Finset.range 2080,
    (wt 2080 (2048 + r.val) (scores (fun x => (q (ix2 (⟨32 * b.val + r.val, by omega⟩ : Fin 256) (⟨128 * a.val + x.val, by omega⟩ : Fin 1024))).toReal)
      fun j x => (kv k ck b a j x).toReal) j : EReal) * kv v cv b a j d

end Sb
-- ==== Proof.SbIdeal.lean ====
/- The attention's vocabulary read at an index over the extended reals, where the scores are real numbers. -/
module

public import proofs.«01_k».proof.Proof.SbBody
public import proofs.«01_k».proof.Proof.SbMath
public import Idealize.ShloMosaic.Lib.ValueLayoutCasts
public import Idealize.ShloMosaic.Lib.Pointwise.Reduce

@[expose] public section

noncomputable section

namespace Cert.KernelIdeal.Sb

open Idealize.ShloMosaic hiding ix0 ix1 ix2 ix3 ix4 ix5
open Idealize.ShloMosaic.ValueIdx Cert.KernelIdeal Cert.KernelIdeal.Gen _root_.Sb

/-- The named constant is `-1 / log 2`. -/
theorem neg_log2_e : (Named.named (F := Ideal) (φ := .f32) κ "neg_log2_e" 0xBFB8AA3B#32 : EReal) = ((-((Real.log 2)⁻¹) : ℝ) : EReal) :=
  IdealRules.named_const.ideal_named_scalar _ _ _ _ rfl

variable {n : Nat}

theorem score_coe (q : FVec Ideal S32x128 .bf16) (k : FVec Ideal (M n 128) .bf16) (r : Fin 32) (c : Fin n) (Q K : Fin 128 → ℝ)
    (hq : ∀ d, q (ix2 r d) = (Q d : EReal)) (hk : ∀ d, k (ix2 c d) = (K d : EReal)) :
    score q k (ix2 r c) = (((∑ d, Q d * K d) * scale : ℝ) : EReal) := by
  show FloatOps.matmul (DotDims.transposedRhs 32 128 n) none q k (constant (M 32 n) .f32 0x00000000#32) (ix2 r c) * Ideal.ofBits .f32 0x3DB504F3#32 = _
  rw [Ideal.matmul_transposedRhs_apply, ofBits_scale]
  show (Ideal.ofBits .f32 0x00000000#32 + _) * _ = _
  rw [Ideal.ofBits_zero_f32, zero_add, EReal.coe_mul, coe_sum]
  simp only [hq, hk, EReal.coe_mul]

theorem softplus_coe (z : FVec Ideal (M 32 n) .f32) (j : (M 32 n).Idx) (x : ℝ) (h : z j = (x : EReal)) : softplus z j = (sp x : EReal) := by
  show max (z j) (Ideal.ofBits .f32 0x00000000#32) + Ideal.log (Ideal.ofBits .f32 0x3F800000#32
    + Ideal.exp2 (max (z j) (-(z j)) * (Named.named (F := Ideal) (φ := .f32) κ "neg_log2_e" 0xBFB8AA3B#32 : EReal))) = _
  rw [neg_log2_e, h, Ideal.ofBits_zero_f32, Ideal.ofBits_one_f32, sp_exp2]

/-- A table of ones strictly below the diagonal. -/
def IsLower (tri : FVec Ideal (M n n) .bf16) : Prop := ∀ k c : Fin n, tri (ix2 k c) = if c < k then (1 : EReal) else 0

theorem sums_apply (tri : FVec Ideal (M n n) .bf16) (f : Fin 8 → FVec Ideal (M 32 n) .f32) (p : Fin 16) (r : Fin 32) (c : Fin n) :
    sums tri f (ix2 ⟨32 * p.val + r.val, by omega⟩ c) = ∑ k, part f p (ix2 r k) * tri (ix2 k c) := by
  show FloatOps.matmul (DotDims.plain 512 n n) none _ _ _ _ = _
  rw [Ideal.matmul_plain_apply]
  show Ideal.ofBits .f32 0x00000000#32 + _ = _
  rw [Ideal.ofBits_zero_f32, zero_add]
  refine Finset.sum_congr rfl fun k _ => ?_
  rw [concatenate_ofFn_apply (t := M 512 n) (s₁ := M 32 n) 0 (part f) _ rfl 32 rfl _ p (by
      show (32 * p.val + r.val) / 32 = p.val; omega) (ix2 r k)
      (by show r.val = (32 * p.val + r.val) % 32; omega)
      (fun b hb => by
        match b with
        | ⟨0, _⟩ => exact absurd rfl hb
        | ⟨1, _⟩ => rfl)]

theorem later_coe (tri : FVec Ideal (M n n) .bf16) (htri : IsLower tri) (f : Fin 8 → FVec Ideal (M 32 n) .f32) (a : Fin 8) (r : Fin 32) (c : Fin n)
    (S : Fin n → ℝ) (hS : ∀ k, f a (ix2 r k) = (S k : EReal)) :
    later tri f a (ix2 r c) = ((∑ k, if c < k then S k else 0 : ℝ) : EReal) := by
  have e0 : extractStridedSlice (M 32 n) ![64 * a.val, 0] (sums tri f) (slices_part n _ (by omega)) (ix2 r c)
      = ∑ k, part f ⟨2 * a.val, by omega⟩ (ix2 r k) * tri (ix2 k c) := by
    rw [← sums_apply]
    refine extractStridedSlice_apply _ _ _ _ _ fun x => ?_
    match x with
    | ⟨0, _⟩ => show 32 * (2 * a.val) + r.val = 64 * a.val + r.val; omega
    | ⟨1, _⟩ => exact (Nat.zero_add _).symm
  have e1 : extractStridedSlice (M 32 n) ![64 * a.val + 32, 0] (sums tri f) (slices_part n _ (by omega)) (ix2 r c)
      = ∑ k, part f ⟨2 * a.val + 1, by omega⟩ (ix2 r k) * tri (ix2 k c) := by
    rw [← sums_apply]
    refine extractStridedSlice_apply _ _ _ _ _ fun x => ?_
    match x with
    | ⟨0, _⟩ => show 32 * (2 * a.val + 1) + r.val = 64 * a.val + 32 + r.val; omega
    | ⟨1, _⟩ => exact (Nat.zero_add _).symm
  have p0 : ∀ k, part f ⟨2 * a.val, by omega⟩ (ix2 r k) = (S k : EReal) := fun k => by
    have h : (2 * a.val % 2 == 0) = true := by simp
    have h' : (⟨2 * a.val / 2, by omega⟩ : Fin 8) = a := Fin.ext (by simp)
    unfold part
    simp only [h, h', cond_true]
    exact hS k
  have p1 : ∀ k, part f ⟨2 * a.val + 1, by omega⟩ (ix2 r k) = 0 := fun k => by
    have h : ((2 * a.val + 1) % 2 == 0) = false := by simp [Nat.add_mod]
    have h' : (⟨(2 * a.val + 1) / 2, by omega⟩ : Fin 8) = a := Fin.ext (by show (2 * a.val + 1) / 2 = a.val; omega)
    unfold part
    simp only [h, h', cond_false]
    show f a (ix2 r k) - f a (ix2 r k) = 0
    rw [hS k, ← EReal.coe_sub, sub_self, EReal.coe_zero]
  show extractStridedSlice (M 32 n) ![64 * a.val, 0] (sums tri f) _ (ix2 r c) + extractStridedSlice (M 32 n) ![64 * a.val + 32, 0] (sums tri f) _ (ix2 r c) = _
  rw [e0, e1, coe_sum]
  simp only [p0, p1, zero_mul, Finset.sum_const_zero, add_zero]
  refine Finset.sum_congr rfl fun k _ => ?_
  rw [htri]
  split <;> simp

theorem weight_coe (z s l : FVec Ideal (M 32 n) .f32) (cr : FVec Ideal S32x1 .f32) (r : Fin 32) (c : Fin n) (x y u v : ℝ)
    (hz : z (ix2 r c) = (x : EReal)) (hs : s (ix2 r c) = (y : EReal)) (hl : l (ix2 r c) = (u : EReal)) (hc : cr (ix2 r 0) = (v : EReal)) :
    weight z s l cr (ix2 r c) = ((Real.exp (x - y - u - v) : ℝ) : EReal) := by
  have e : broadcastTo (M 32 n) cr (broadcasts_col n) (ix2 r c) = cr (ix2 r 0) := by
    refine broadcastTo_apply _ _ _ _ fun x => ?_
    match x with
    | ⟨0, _⟩ => rfl
    | ⟨1, _⟩ => rfl
  show Ideal.exp (z (ix2 r c) - s (ix2 r c) - l (ix2 r c) - broadcastTo (M 32 n) cr (broadcasts_col n) (ix2 r c)) = _
  rw [e, hz, hs, hl, hc, ← EReal.coe_sub, ← EReal.coe_sub, ← EReal.coe_sub, Ideal.exp_coe]

theorem rowTotal_coe (s : FVec Ideal (M 32 n) .f32) (r : Fin 32) (S : Fin n → ℝ) (hS : ∀ k, s (ix2 r k) = (S k : EReal)) :
    rowTotal s (ix2 r 0) = ((∑ k, S k : ℝ) : EReal) := by
  unfold rowTotal
  rw [shapeCast_a_a1_apply]
  show Ideal.reduceAdd (reduces_row n) s (ix1 r) = _
  rw [Ideal.reduceAdd_r2_a1, coe_sum]
  exact Finset.sum_congr rfl fun k _ => hS k

theorem gain_apply (w : FVec Ideal (M 32 n) .f32) (v : FVec Ideal (M n 128) .bf16) (r : Fin 32) (d : Fin 128) :
    gain w v (ix2 r d) = ∑ c, w (ix2 r c) * v (ix2 c d) := by
  show FloatOps.matmul (DotDims.plain 32 n 128) none _ _ _ _ = _
  rw [Ideal.matmul_plain_apply]
  show Ideal.ofBits .f32 0x00000000#32 + _ = _
  rw [Ideal.ofBits_zero_f32, zero_add]
  rfl

/-- The mask at `(r, c)`: key `c` is before query `r`. -/
theorem select_mask {x y : FVec Ideal S32x32 .f32} (r c : Fin 32) :
    select mask x y (ix2 r c) = if c < r then x (ix2 r c) else y (ix2 r c) := by
  have h : ∀ r c : Fin 32, mask (ix2 r c) = if c < r then 1#1 else 0#1 := by decide +kernel
  show (if mask (ix2 r c) = 1#1 then x (ix2 r c) else y (ix2 r c)) = _
  rw [h]
  split <;> rfl

end Cert.KernelIdeal.Sb
-- ==== Proof.SbHead.lean ====
/- What one head of the attention stores, over the extended reals: the values weighted by the stick-breaking weights of the
   2080 keys, the cache's 2048 before the sample's own 32. -/
module

public import proofs.«01_k».proof.Proof.SbIdeal

@[expose] public section

noncomputable section

namespace Cert.KernelIdeal.Sb

open Idealize.ShloMosaic hiding ix0 ix1 ix2 ix3 ix4 ix5
open Idealize.ShloMosaic.ValueIdx Cert.KernelIdeal Cert.KernelIdeal.Gen _root_.Sb

section
variable (q kn vn : Fin 8 → FVec Ideal S32x128 .bf16) (kp vp : Nat → Fin 8 → FVec Ideal S256x128 .bf16)
  (tn : FVec Ideal S32x32 .bf16) (tp : FVec Ideal S256x256 .bf16)
  (a : Fin 8) (r : Fin 32) (d : Fin 128) (Q : Fin 128 → ℝ) (K : ℕ → Fin 128 → ℝ) (V : ℕ → EReal)

/-- The operands of one query of one head as numbers: its own row `Q`, the keys `K` and one column `V` of the values by
    position, and the two tables of ones below the diagonal. -/
structure Reads : Prop where
  q : ∀ x, q a (ix2 r x) = (Q x : EReal)
  kn : ∀ (c : Fin 32) x, kn a (ix2 c x) = (K (2048 + c.val) x : EReal)
  kp : ∀ i, i < 8 → ∀ (c : Fin 256) x, kp i a (ix2 c x) = (K (1792 - 256 * i + c.val) x : EReal)
  vn : ∀ c : Fin 32, vn a (ix2 c d) = V (2048 + c.val)
  vp : ∀ i, i < 8 → ∀ c : Fin 256, vp i a (ix2 c d) = V (1792 - 256 * i + c.val)
  tn : IsLower (n := 32) tn
  tp : IsLower (n := 256) tp

variable {q kn vn kp vp tn tp a r d Q K V} (H : Reads q kn vn kp vp tn tp a r d Q K V)
include H

theorem spNew_coe (c : Fin 32) : spNew q kn a (ix2 r c) = (term (2048 + r.val) (scores Q K) (2048 + c.val) : EReal) := by
  unfold spNew term
  rw [select_mask, softplus_coe _ _ _ (score_coe (n := 32) _ _ r c Q (K (2048 + c.val)) H.q (H.kn c))]
  by_cases h : c < r
  · rw [if_pos h, if_pos (by omega)]
  · rw [if_neg h, if_neg (by omega)]
    exact Ideal.ofBits_zero_f32

theorem spPast_coe (i : ℕ) (hi : i < 8) (c : Fin 256) :
    spPast q kp i a (ix2 r c) = (term (2048 + r.val) (scores Q K) (1792 - 256 * i + c.val) : EReal) := by
  unfold spPast term
  rw [softplus_coe _ _ _ (score_coe (n := 256) _ _ r c Q (K (1792 - 256 * i + c.val)) H.q (H.kp i hi c)), if_pos (by omega)]

theorem wNew_coe (c : Fin 32) : wNew q kn tn a (ix2 r c) = (wt 2080 (2048 + r.val) (scores Q K) (2048 + c.val) : EReal) := by
  unfold wNew wt
  rw [select_mask, weight_coe _ _ _ _ r c _ _ _ 0 (score_coe (n := 32) _ _ r c Q (K (2048 + c.val)) H.q (H.kn c)) (spNew_coe H c)
    (later_coe tn H.tn _ a r c _ (spNew_coe H)) Ideal.ofBits_zero_f32]
  by_cases h : c < r
  · rw [if_pos h, if_pos (by omega), sum_block_after 2048 32 c (term (2048 + r.val) (scores Q K)), sub_zero]
    rfl
  · rw [if_neg h, if_neg (by omega)]
    exact Ideal.ofBits_zero_f32

theorem carry_coe : ∀ i, i ≤ 8 → carry q kn kp i a (ix2 r 0) = ((∑ k ∈ Finset.Ico (2048 - 256 * i) 2080, term (2048 + r.val) (scores Q K) k : ℝ) : EReal)
  | 0, _ => by
    show Ideal.ofBits .f32 0x00000000#32 + rowTotal (spNew q kn a) (ix2 r 0) = _
    rw [Ideal.ofBits_zero_f32, zero_add, rowTotal_coe _ r _ (spNew_coe H), sum_block 2048 32 (term (2048 + r.val) (scores Q K))]
  | i + 1, hi => by
    show carry q kn kp i a (ix2 r 0) + rowTotal (spPast q kp i a) (ix2 r 0) = _
    rw [carry_coe i (by omega), rowTotal_coe _ r _ (spPast_coe H i (by omega)), ← EReal.coe_add,
      sum_block (1792 - 256 * i) 256 (term (2048 + r.val) (scores Q K)), add_comm,
      show 1792 - 256 * i + 256 = 2048 - 256 * i by omega, Finset.sum_Ico_consecutive _ (by omega) (by omega),
      show 2048 - 256 * (i + 1) = 1792 - 256 * i by omega]

theorem wPast_coe (i : ℕ) (hi : i < 8) (c : Fin 256) :
    wPast q kn kp tp i a (ix2 r c) = (wt 2080 (2048 + r.val) (scores Q K) (1792 - 256 * i + c.val) : EReal) := by
  unfold wPast wt
  rw [weight_coe _ _ _ _ r c _ _ _ _ (score_coe (n := 256) _ _ r c Q (K (1792 - 256 * i + c.val)) H.q (H.kp i hi c)) (spPast_coe H i hi c)
    (later_coe tp H.tp _ a r c _ (spPast_coe H i hi)) (carry_coe H i (by omega)), if_pos (by omega),
    sum_block_after (1792 - 256 * i) 256 c (term (2048 + r.val) (scores Q K)), sub_sub _ _ (∑ k ∈ Finset.Ico (2048 - 256 * i) 2080, _),
    show 1792 - 256 * i + 256 = 2048 - 256 * i by omega, Finset.sum_Ico_consecutive _ (by omega) (by omega)]
  rfl

theorem acc_apply : ∀ i, i ≤ 8 → acc q kn vn kp vp tn tp i a (ix2 r d)
      = ∑ k ∈ Finset.Ico (2048 - 256 * i) 2080, (wt 2080 (2048 + r.val) (scores Q K) k : EReal) * V k
  | 0, _ => by
    show Ideal.ofBits .f32 0x00000000#32 + gain (wNew q kn tn a) (vn a) (ix2 r d) = _
    rw [Ideal.ofBits_zero_f32, zero_add, gain_apply]
    simp only [wNew_coe H, H.vn]
    exact sum_block 2048 32 fun k => (wt 2080 (2048 + r.val) (scores Q K) k : EReal) * V k
  | i + 1, hi => by
    show acc q kn vn kp vp tn tp i a (ix2 r d) + gain (wPast q kn kp tp i a) (vp i a) (ix2 r d) = _
    rw [acc_apply i (by omega), gain_apply]
    simp only [wPast_coe H i (by omega), H.vp i (by omega)]
    rw [sum_block (1792 - 256 * i) 256 fun k => (wt 2080 (2048 + r.val) (scores Q K) k : EReal) * V k, add_comm,
      show 1792 - 256 * i + 256 = 2048 - 256 * i by omega, Finset.sum_Ico_consecutive _ (by omega) (by omega),
      show 2048 - 256 * (i + 1) = 1792 - 256 * i by omega]

/-- One entry of what a head stores: its values, weighted. -/
theorem headOut_apply : headOut q kn vn kp vp tn tp a (ix2 r d)
    = ∑ k ∈ Finset.range 2080, (wt 2080 (2048 + r.val) (scores Q K) k : EReal) * V k := by
  rw [Finset.range_eq_Ico]
  exact acc_apply H 8 (le_refl 8)
end

end Cert.KernelIdeal.Sb
-- ==== Proof.SbBlock.lean ====
/- The attention's staging buffers and arrays: what a grid point's buffers hold of the arguments, what the body leaves in its
   output's buffer, and so what the result array ends holding. -/
module

public import proofs.«01_k».proof.Proof.SbRun
public import proofs.«01_k».proof.Proof.SbHead
public import Idealize.ShloMosaic.Lib.Pipeline.ValueKit

@[expose] public section

noncomputable section

namespace Cert.KernelIdeal.Sb

open Idealize.ShloMosaic hiding ix0 ix1 ix2 ix3 ix4 ix5
open Idealize.ShloMosaic.TcCoe Idealize.SL.Sem
open Idealize.ShloMosaic.ValueIdx Idealize.ShloMosaic.Tactic Cert.KernelIdeal Cert.KernelIdeal.Gen _root_.Sb
open Idealize.ShloMosaic.Pipeline (Dat)

section
variable {F : FTy → Type} [FloatOps F] [Named F]

theorem headLoad_apply (g : Memref sig .tc .vmem S32x1024 .bf16) (hg : g.IsWhole) (x : Vec F S32x1024 .bf16) (a : Fin 8) (r : Fin 32) (d : Fin 128) :
    headLoad g hg x a (ix2 r d) = x (ix2 r (⟨128 * a.val + d.val, by omega⟩ : Fin 1024)) := by
  show g.view.read (Elt F) (hg.unread x) _ = _
  rw [hg.read_unread]
  refine congrArg x (funext fun z => Fin.ext ?_)
  match z with
  | ⟨0, _⟩ => show 0 + 1 * r.val = r.val; omega
  | ⟨1, _⟩ => show 128 * a.val + 1 * d.val = 128 * a.val + d.val; omega

theorem wholeLoad {e : EltTy} {n0 n1 : Nat} (g : Memref sig .tc .vmem (⟨2, ![n0, n1]⟩ : Shape) e) (hg : g.IsWhole) (x : Vec F (⟨2, ![n0, n1]⟩ : Shape) e)
    (inb : ∀ z, (![0, 0] : Fin 2 → Nat) z + (![n0, n1] : Fin 2 → Nat) z ≤ (![n0, n1] : Fin 2 → Nat) z) (r : Fin n0) (d : Fin n1) :
    View.readAt (Elt F) g.view (Rect.unit (s := (⟨2, ![n0, n1]⟩ : Shape)) ![0, 0] ![n0, n1] inb).toLoadRect (hg.unread x) (ix2 r d) = x (ix2 r d) := by
  show g.view.read (Elt F) (hg.unread x) _ = _
  rw [hg.read_unread]
  refine congrArg x (funext fun z => Fin.ext ?_)
  match z with
  | ⟨0, _⟩ => show 0 + 1 * r.val = r.val; omega
  | ⟨1, _⟩ => show 0 + 1 * d.val = d.val; omega
end

theorem rowsLoad_apply (g : Memref sig .tc .vmem S1x16384x128 .f32) (hg : g.IsWhole) (x : Vec Ideal S1x16384x128 .f32) (i : ℕ) (a : Fin 8) (c : Fin 256) (d : Fin 128) :
    rowsLoad g hg x i a (ix2 c d) = x (ix3 (0 : Fin 1) (⟨14336 - 2048 * i + a.val + 8 * c.val, by omega⟩ : Fin 16384) d) := by
  show shapeCast S256x128 (View.readAt (Elt Ideal) g.view (rows i a) (hg.unread x)) shapeCasts_S1x256x128_S256x128 (ix2 c d) = _
  rw [shapeCast_1ab_ab_apply]
  show g.view.read (Elt Ideal) (hg.unread x) _ = _
  rw [hg.read_unread]
  refine congrArg x (funext fun z => Fin.ext ?_)
  match z with
  | ⟨0, _⟩ => rfl
  | ⟨1, _⟩ => rfl
  | ⟨2, _⟩ => show 0 + 1 * d.val = d.val; omega

section
variable {F : FTy → Type} [FloatOps F] [Named F]
variable (c : Dev nD) (i : grid0.Coords) (arg1 : Memref sig .tc .vmem S32x1024 .bf16) (harg1 : arg1.IsWhole) (arg2 : Memref sig .tc .vmem S32x1024 .bf16) (harg2 : arg2.IsWhole) (arg3 : Memref sig .tc .vmem S32x1024 .bf16) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S32x32 .bf16) (harg6 : arg6.IsWhole) (arg7 : Memref sig .tc .vmem S256x256 .bf16) (harg7 : arg7.IsWhole) (arg8 : Memref sig .tc .vmem S32x1024 .bf16) (harg8 : arg8.IsWhole)
    (x0 : Vec F S32x1024 .bf16) (x1 : Vec F S32x1024 .bf16) (x2 : Vec F S32x1024 .bf16) (x3 : Vec F S1x16384x128 .f32) (x4 : Vec F S1x16384x128 .f32) (x5 : Vec F S32x32 .bf16) (x6 : Vec F S256x256 .bf16)

/-- The output's buffer after the body: column `128 a + d` holds what head `a` stores at column `d`. -/
def block (y : S32x1024.Idx) : Elt F .bf16 :=
  stored arg1 harg1 arg2 harg2 arg3 harg3 arg4 harg4 arg5 harg5 arg6 harg6 arg7 harg7 x0 x1 x2 x3 x4 x5 x6
    ⟨(y 1).val / 128, by have h : (y 1).val < 1024 := (y 1).isLt; omega⟩ (ix2 (y 0) ⟨(y 1).val % 128, Nat.mod_lt _ (by decide)⟩)

theorem block_piece (a : Fin 8) (x : (cols a).shape.Idx) :
    stored arg1 harg1 arg2 harg2 arg3 harg3 arg4 harg4 arg5 harg5 arg6 harg6 arg7 harg7 x0 x1 x2 x3 x4 x5 x6 a x
      = block arg1 harg1 arg2 harg2 arg3 harg3 arg4 harg4 arg5 harg5 arg6 harg6 arg7 harg7 x0 x1 x2 x3 x4 x5 x6 ((cols a).emb x) := by
  have h1 : (x 1).val < 128 := (x 1).isLt
  have e1 : (((cols a).emb x) 1).val = 128 * a.val + (x 1).val := by
    show 128 * a.val + 1 * (x 1).val = _; omega
  have e0 : (((cols a).emb x) 0).val = (x 0).val := by
    show 0 + 1 * (x 0).val = _; omega
  unfold block
  congr 1
  · exact Fin.ext (by show a.val = _; dsimp only; rw [e1]; omega)
  · refine funext fun z => Fin.ext ?_
    match z with
    | ⟨0, _⟩ => exact e0.symm
    | ⟨1, _⟩ => show (x 1).val = (((cols a).emb x) 1).val % 128; rw [e1]; omega

theorem out_eq : out0_A_7 c i arg1 harg1 arg2 harg2 arg3 harg3 arg4 harg4 arg5 harg5 arg6 harg6 arg7 harg7 arg8 harg8 x0 x1 x2 x3 x4 x5 x6
    = block arg1 harg1 arg2 harg2 arg3 harg3 arg4 harg4 arg5 harg5 arg6 harg6 arg7 harg7 x0 x1 x2 x3 x4 x5 x6 := by
  funext y
  unfold out0_A_7
  refine View.read_writes_apply_of_pieces _ _ _ _ ?_ y (cover0_A_7 c i arg1 harg1 arg2 harg2 arg3 harg3 arg4 harg4 arg5 harg5 arg6 harg6 arg7 harg7 arg8 harg8 x0 x1 x2 x3 x4 x5 x6 y)
  rw [run_pieces]
  simp only [List.forall_mem_cons, List.not_mem_nil, false_imp_iff, implies_true, and_true]
  refine ⟨?_, ?_, ?_, ?_, ?_, ?_, ?_, ?_⟩ <;> exact fun _ => block_piece ..
end

end Cert.KernelIdeal.Sb
-- ==== Proof.SbTables.lean ====
/- What the host code prepares for the attention: the caches as rows and the two tables; and see SbArray.
   What the attention's result array ends holding: at row `32 b + r` and column `128 a + d`, the textbook's weighted sum of
   batch element `b`, query `r`, head `a`, column `d`, of the launched arguments. -/
module

public import proofs.«01_k».proof.Proof.SbBlock
public import Idealize.ShloMosaic.Lib.WordCmp

@[expose] public section

noncomputable section

namespace Cert.KernelIdeal.Sb

open Idealize.ShloMosaic hiding ix0 ix1 ix2 ix3 ix4 ix5
open Idealize.ShloMosaic.TcCoe Idealize.SL.Sem
open Idealize.ShloMosaic.ValueIdx Idealize.ShloMosaic.Tactic Cert.KernelIdeal Cert.KernelIdeal.Gen _root_.Sb
open Idealize.ShloMosaic.Pipeline (Dat)

variable (m : (ℓ : Loc nD τ sig) → Buf (Elt Ideal) ℓ) (c : Dev nD)

abbrev argQ : Vec Ideal S256x1024 .bf16 := m ((c : Thread nD τ).loc main_arg0)
abbrev argK : Vec Ideal S256x1024 .bf16 := m ((c : Thread nD τ).loc main_arg1)
abbrev argV : Vec Ideal S256x1024 .bf16 := m ((c : Thread nD τ).loc main_arg2)
abbrev argCK : Vec Ideal S1x8x2048x8x128 .f32 := m ((c : Thread nD τ).loc main_arg3)
abbrev argCV : Vec Ideal S1x8x2048x8x128 .f32 := m ((c : Thread nD τ).loc main_arg4)

/-! ## The arrays the call's windows read -/

theorem V_cacheK : (V m c main_v1 : Vec Ideal S8x16384x128 .f32)
    = shapeCast S8x16384x128 (shapeCast S8x2048x8x128 (argCK m c) shapeCasts_S1x8x2048x8x128_S8x2048x8x128) shapeCasts_S8x2048x8x128_S8x16384x128 := by
  show StableHlo.after hostOps0 _ main_v1 = _
  after_results
  rfl

theorem V_cacheV : (V m c main_v3 : Vec Ideal S8x16384x128 .f32)
    = shapeCast S8x16384x128 (shapeCast S8x2048x8x128 (argCV m c) shapeCasts_S1x8x2048x8x128_S8x2048x8x128) shapeCasts_S8x2048x8x128_S8x16384x128 := by
  show StableHlo.after hostOps0 _ main_v3 = _
  after_results
  rfl

/-- The cache as the call reads it: row `8 j + a` of a batch element is its position `j` of head `a`. -/
theorem cache_apply (x : Vec Ideal S1x8x2048x8x128 .f32) (b a : Fin 8) (j : Fin 2048) (d : Fin 128) (R : Fin 16384) (hR : R.val = 8 * j.val + a.val) :
    shapeCast S8x16384x128 (shapeCast S8x2048x8x128 x shapeCasts_S1x8x2048x8x128_S8x2048x8x128) shapeCasts_S8x2048x8x128_S8x16384x128 (ix3 b R d)
      = x (ix5 (0 : Fin 1) b j a d) := by
  rw [shapeCast_apply _ _ (ix3 b R d) (ix4 b j a d), shapeCast_apply _ _ (ix4 b j a d) (ix5 (0 : Fin 1) b j a d)]
  · rw [Shape.rowMajor_val_five, Shape.rowMajor_val_four]
    show ((((0 * 8 + b.val) * 2048 + j.val) * 8 + a.val) * 128 + d.val) = ((b.val * 2048 + j.val) * 8 + a.val) * 128 + d.val
    omega
  · rw [Shape.rowMajor_val_four, Shape.rowMajor_val_three]
    show ((b.val * 2048 + j.val) * 8 + a.val) * 128 + d.val = (b.val * 16384 + R.val) * 128 + d.val
    omega

/-- Positions as 32-bit words compare as themselves. -/
theorem sgt_word (k d : ℕ) (hk : k < 256) (hd : d < 256) :
    IntOp.cmpi .sgt (BitVec.ofNat 32 k) (BitVec.ofNat 32 d) = if d < k then 1#1 else 0#1 := by
  rw [WordCmp.cmpi_sgt_ofNat (by omega) (by omega)]
  by_cases h : d < k <;> simp [h]

theorem lower_of_words {n : Nat} (hn : n ≤ 256) (tri : FVec Ideal (M n n) .bf16)
    (h : ∀ k d : Fin n, tri (ix2 k d) = FloatOps.uitofp (F := Ideal) .bf16 (IntOp.cmpi .sgt (BitVec.ofNat 32 k.val) (BitVec.ofNat 32 d.val))) : IsLower tri := by
  intro k d
  rw [h, sgt_word _ _ (by omega) (by omega)]
  by_cases hd : d < k
  · rw [if_pos hd, if_pos (by exact hd)]; show (((1 : ℕ) : ℝ) : EReal) = 1; simp
  · rw [if_neg hd, if_neg (by exact hd)]; show (((0 : ℕ) : ℝ) : EReal) = 0; simp

theorem V_lower32 : IsLower (n := 32) (V m c main_v10 : Vec Ideal S32x32 .bf16) := by
  have e : @Eq (FVec Ideal S32x32 .bf16) (V m c main_v10) (uitofp .bf16 (cmpi .sgt
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0))))) := by
    show StableHlo.after hostOps0 _ main_v10 = _
    after_results
  rw [e]
  exact lower_of_words (by omega) _ fun k d => rfl

theorem V_lower256 : IsLower (n := 256) (V m c main_v17 : Vec Ideal S256x256 .bf16) := by
  have e : @Eq (FVec Ideal S256x256 .bf16) (V m c main_v17) (uitofp .bf16 (cmpi .sgt
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))) := by
    show StableHlo.after hostOps0 _ main_v17 = _
    after_results
  rw [e]
  exact lower_of_words (by omega) _ fun k d => rfl

end Cert.KernelIdeal.Sb
-- ==== Proof.SbArray.lean ====
/- What the attention's result array ends holding: at row `32 b + r` and column `128 a + d`, the textbook's weighted sum of
   batch element `b`, query `r`, head `a`, column `d`, of the launched arguments. -/
module

public import proofs.«01_k».proof.Proof.SbTables

@[expose] public section

noncomputable section

namespace Cert.KernelIdeal.Sb

open Idealize.ShloMosaic hiding ix0 ix1 ix2 ix3 ix4 ix5
open Idealize.ShloMosaic.TcCoe Idealize.SL.Sem
open Idealize.ShloMosaic.ValueIdx Idealize.ShloMosaic.Tactic Cert.KernelIdeal Cert.KernelIdeal.Gen _root_.Sb
open Idealize.ShloMosaic.Pipeline (Dat)

variable (m : (ℓ : Loc nD τ sig) → Buf (Elt Ideal) ℓ) (c : Dev nD)

/-! ## The blocks of a grid point -/

theorem index_rows (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) := by
  revert t; decide +kernel

theorem index_cache (t : Fin cfg0.N) : (win0_3.index t 0 = t.val ∧ win0_3.index t 1 = 0 ∧ win0_3.index t 2 = 0)
    ∧ (win0_4.index t 0 = t.val ∧ win0_4.index t 1 = 0 ∧ win0_4.index t 2 = 0) := by
  revert t; decide +kernel

theorem index_tables (t : Fin cfg0.N) : (win0_5.index t 0 = 0 ∧ win0_5.index t 1 = 0) ∧ (win0_6.index t 0 = 0 ∧ win0_6.index t 1 = 0) := by
  revert t; decide +kernel

theorem lt8 (t : Fin cfg0.N) : t.val < 8 := lt_of_lt_of_eq t.isLt N_0

/-- The batch element of a grid point. -/
abbrev bat (t : Fin cfg0.N) : Fin 8 := ⟨t.val, lt8 t⟩

theorem iblk_q (t : Fin cfg0.N) (r : Fin 32) (y : Fin 1024) :
    (iblk m c 0 t : Vec Ideal S32x1024 .bf16) (ix2 r y) = argQ m c (ix2 (⟨32 * (bat t).val + r.val, by omega⟩ : Fin 256) y) := by
  unfold iblk
  rw [View.read_apply]
  show V m c main_arg0 _ = _
  rw [V_main_arg0]
  refine congrArg (argQ m c) (funext fun a => Fin.ext ?_)
  match a with
  | ⟨0, _⟩ => show win0_0.index t 0 * 32 + 1 * r.val = 32 * t.val + r.val; rw [(index_rows t).1.1]; omega
  | ⟨1, _⟩ => show win0_0.index t 1 * 1024 + 1 * y.val = y.val; rw [(index_rows t).1.2]; omega

theorem iblk_k (t : Fin cfg0.N) (r : Fin 32) (y : Fin 1024) :
    (iblk m c 1 t : Vec Ideal S32x1024 .bf16) (ix2 r y) = argK m c (ix2 (⟨32 * (bat t).val + r.val, by omega⟩ : Fin 256) y) := by
  unfold iblk
  rw [View.read_apply]
  show V m c main_arg1 _ = _
  rw [V_main_arg1]
  refine congrArg (argK m c) (funext fun a => Fin.ext ?_)
  match a with
  | ⟨0, _⟩ => show win0_1.index t 0 * 32 + 1 * r.val = 32 * t.val + r.val; rw [(index_rows t).2.1.1]; omega
  | ⟨1, _⟩ => show win0_1.index t 1 * 1024 + 1 * y.val = y.val; rw [(index_rows t).2.1.2]; omega

theorem iblk_v (t : Fin cfg0.N) (r : Fin 32) (y : Fin 1024) :
    (iblk m c 2 t : Vec Ideal S32x1024 .bf16) (ix2 r y) = argV m c (ix2 (⟨32 * (bat t).val + r.val, by omega⟩ : Fin 256) y) := by
  unfold iblk
  rw [View.read_apply]
  show V m c main_arg2 _ = _
  rw [V_main_arg2]
  refine congrArg (argV m c) (funext fun a => Fin.ext ?_)
  match a with
  | ⟨0, _⟩ => show win0_2.index t 0 * 32 + 1 * r.val = 32 * t.val + r.val; rw [(index_rows t).2.2.1.1]; omega
  | ⟨1, _⟩ => show win0_2.index t 1 * 1024 + 1 * y.val = y.val; rw [(index_rows t).2.2.1.2]; omega

/-- Reading the block of window 3. -/
theorem read_ck (t : Fin cfg0.N) (d : Fin 128) (R : Fin 16384) (A : Buf (Elt Ideal) ((c : Thread nD τ).loc main_v1)) :
    (((cfg0.win 3).blk t).view.read (Elt Ideal) A : Vec Ideal S1x16384x128 .f32) (ix3 (0 : Fin 1) R d) = (A : Vec Ideal S8x16384x128 .f32) (ix3 (bat t) R d) := by
  rw [View.read_apply]
  refine congrArg A (funext fun a => Fin.ext ?_)
  match a with
  | ⟨0, _⟩ => show win0_3.index t 0 * 1 + 1 * 0 = t.val; rw [(index_cache t).1.1]; omega
  | ⟨1, _⟩ => exact win0_3.rect_emb_val_of_index_zero t 1 (index_cache t).1.2.1 _
  | ⟨2, _⟩ => exact win0_3.rect_emb_val_of_index_zero t 2 (index_cache t).1.2.2 _

theorem iblk_ck_row (t : Fin cfg0.N) (d : Fin 128) (R : Fin 16384) :
    (iblk m c 3 t : Vec Ideal S1x16384x128 .f32) (ix3 (0 : Fin 1) R d) = (V m c main_v1 : Vec Ideal S8x16384x128 .f32) (ix3 (bat t) R d) := by
  unfold iblk
  exact read_ck c t d R (V m c main_v1)

theorem iblk_ck (t : Fin cfg0.N) (a : Fin 8) (j : Fin 2048) (d : Fin 128) (R : Fin 16384) (hR : R.val = 8 * j.val + a.val) :
    (iblk m c 3 t : Vec Ideal S1x16384x128 .f32) (ix3 (0 : Fin 1) R d) = argCK m c (ix5 (0 : Fin 1) (bat t) j a d) :=
  (iblk_ck_row m c t d R).trans ((congrFun (V_cacheK m c) _).trans (cache_apply (argCK m c) (bat t) a j d R hR))

/-- Reading the block of window 4. -/
theorem read_cv (t : Fin cfg0.N) (d : Fin 128) (R : Fin 16384) (A : Buf (Elt Ideal) ((c : Thread nD τ).loc main_v3)) :
    (((cfg0.win 4).blk t).view.read (Elt Ideal) A : Vec Ideal S1x16384x128 .f32) (ix3 (0 : Fin 1) R d) = (A : Vec Ideal S8x16384x128 .f32) (ix3 (bat t) R d) := by
  rw [View.read_apply]
  refine congrArg A (funext fun a => Fin.ext ?_)
  match a with
  | ⟨0, _⟩ => show win0_4.index t 0 * 1 + 1 * 0 = t.val; rw [(index_cache t).2.1]; omega
  | ⟨1, _⟩ => exact win0_4.rect_emb_val_of_index_zero t 1 (index_cache t).2.2.1 _
  | ⟨2, _⟩ => exact win0_4.rect_emb_val_of_index_zero t 2 (index_cache t).2.2.2 _

theorem iblk_cv_row (t : Fin cfg0.N) (d : Fin 128) (R : Fin 16384) :
    (iblk m c 4 t : Vec Ideal S1x16384x128 .f32) (ix3 (0 : Fin 1) R d) = (V m c main_v3 : Vec Ideal S8x16384x128 .f32) (ix3 (bat t) R d) := by
  unfold iblk
  exact read_cv c t d R (V m c main_v3)

theorem iblk_cv (t : Fin cfg0.N) (a : Fin 8) (j : Fin 2048) (d : Fin 128) (R : Fin 16384) (hR : R.val = 8 * j.val + a.val) :
    (iblk m c 4 t : Vec Ideal S1x16384x128 .f32) (ix3 (0 : Fin 1) R d) = argCV m c (ix5 (0 : Fin 1) (bat t) j a d) :=
  (iblk_cv_row m c t d R).trans ((congrFun (V_cacheV m c) _).trans (cache_apply (argCV m c) (bat t) a j d R hR))

theorem iblk_tn (t : Fin cfg0.N) (k d : Fin 32) :
    (iblk m c 5 t : Vec Ideal S32x32 .bf16) (ix2 k d) = (V m c main_v10 : Vec Ideal S32x32 .bf16) (ix2 k d) := by
  unfold iblk
  rw [View.read_apply]
  refine congrArg (V m c main_v10) (funext fun a => Fin.ext ?_)
  match a with
  | ⟨0, _⟩ => exact win0_5.rect_emb_val_of_index_zero t 0 (index_tables t).1.1 _
  | ⟨1, _⟩ => exact win0_5.rect_emb_val_of_index_zero t 1 (index_tables t).1.2 _

theorem iblk_tp (t : Fin cfg0.N) (k d : Fin 256) :
    (iblk m c 6 t : Vec Ideal S256x256 .bf16) (ix2 k d) = (V m c main_v17 : Vec Ideal S256x256 .bf16) (ix2 k d) := by
  unfold iblk
  rw [View.read_apply]
  refine congrArg (V m c main_v17) (funext fun a => Fin.ext ?_)
  match a with
  | ⟨0, _⟩ => exact win0_6.rect_emb_val_of_index_zero t 0 (index_tables t).2.1 _
  | ⟨1, _⟩ => exact win0_6.rect_emb_val_of_index_zero t 1 (index_tables t).2.2 _

/-! ## The result -/

/-- The arguments the scores read are real numbers. -/
structure Finite : Prop where
  q : ∀ i, ((argQ m c i).toReal : EReal) = argQ m c i
  k : ∀ i, ((argK m c i).toReal : EReal) = argK m c i
  ck : ∀ i, ((argCK m c i).toReal : EReal) = argCK m c i

/-- What the result array ends holding. -/
def result : Buf (Elt Ideal) ((c : Thread nD τ).loc main_v18) := fun y : S256x1024.Idx =>
  attend (argQ m c) (argK m c) (argV m c) (argCK m c) (argCV m c)
    ⟨(y 0).val / 32, by have h : (y 0).val < 256 := (y 0).isLt; omega⟩ ⟨(y 0).val % 32, Nat.mod_lt _ (by decide)⟩
    ⟨(y 1).val / 128, by have h : (y 1).val < 1024 := (y 1).isLt; omega⟩ ⟨(y 1).val % 128, Nat.mod_lt _ (by decide)⟩

variable {m c}

theorem outs_apply (H : Finite m c) (t : Fin cfg0.N) (r : Fin 32) (a : Fin 8) (d : Fin 128) :
    stored (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (iblk m c 3 t) (iblk m c 4 t) (iblk m c 5 t) (iblk m c 6 t) a (ix2 r d)
      = attend (argQ m c) (argK m c) (argV m c) (argCK m c) (argCV m c) (bat t) r a d := by
  refine headOut_apply (V := fun j => kv (argV m c) (argCV m c) (bat t) a j d) ⟨fun x => ?_, fun j x => ?_, fun i hi j x => ?_, fun j => ?_, fun i hi j => ?_, fun k d => ?_, fun k d => ?_⟩
  · rw [headLoad_apply, iblk_q, H.q]
  · rw [headLoad_apply, iblk_k, kv, dif_neg (by omega), H.k]
    refine congrArg (argK m c) (funext fun z => Fin.ext ?_)
    match z with
    | ⟨0, _⟩ => show 32 * t.val + j.val = 32 * t.val + (2048 + j.val - 2048) % 32; omega
    | ⟨1, _⟩ => rfl
  · rw [rowsLoad_apply, iblk_ck m c t a ⟨1792 - 256 * i + j.val, by omega⟩ x _ (by dsimp only; omega), kv, dif_pos (by omega), H.ck]
  · rw [headLoad_apply, iblk_v]
    show _ = kv _ _ _ _ _ _
    rw [kv, dif_neg (by omega)]
    refine congrArg (argV m c) (funext fun z => Fin.ext ?_)
    match z with
    | ⟨0, _⟩ => show 32 * t.val + j.val = 32 * t.val + (2048 + j.val - 2048) % 32; omega
    | ⟨1, _⟩ => rfl
  · rw [rowsLoad_apply, iblk_cv m c t a ⟨1792 - 256 * i + j.val, by omega⟩ d _ (by dsimp only; omega)]
    show _ = kv _ _ _ _ _ _
    rw [kv, dif_pos (by omega)]
  · rw [show shapeCast S32x32 _ shapeCasts_S32x32_S32x32 = _ from shapeCast_self .., wholeLoad, iblk_tn]
    exact V_lower32 m c k d
  · rw [show shapeCast S256x256 _ shapeCasts_S256x256_S256x256 = _ from shapeCast_self .., wholeLoad, iblk_tp]
    exact V_lower256 m c k d

theorem flushed_eq (H : Finite m c) (t : Fin cfg0.N) :
    (dats m 0 c).flushed 7 t = ((cfg0.win 7).blk t).view.read (Elt Ideal) (result m c) := by
  rw [Value.flushed7_A, out_eq]
  funext y
  rw [View.read_apply]
  have h0 : (y 0).val < 32 := (y 0).isLt
  have h1 : (y 1).val < 1024 := (y 1).isLt
  show block _ _ _ _ _ _ _ _ _ _ _ _ _ _ _ _ _ _ _ _ _ y = _
  unfold block
  refine (outs_apply H t ⟨(y 0).val, h0⟩ ⟨(y 1).val / 128, by omega⟩ ⟨(y 1).val % 128, Nat.mod_lt _ (by decide)⟩).trans ?_
  have e0 : (((cfg0.win 7).blk t).view.emb y 0).val = 32 * t.val + (y 0).val := by
    show win0_7.index t 0 * 32 + 1 * (y 0).val = _; rw [(index_rows t).2.2.2.1]; omega
  have e1 : (((cfg0.win 7).blk t).view.emb y 1).val = (y 1).val := by
    show win0_7.index t 1 * 1024 + 1 * (y 1).val = _; rw [(index_rows t).2.2.2.2]; omega
  unfold result
  congr 1
  · exact Fin.ext (by show t.val = (((cfg0.win 7).blk t).view.emb y 0).val / 32; rw [e0]; omega)
  · exact Fin.ext (by show (y 0).val = (((cfg0.win 7).blk t).view.emb y 0).val % 32; rw [e0]; omega)
  · exact Fin.ext (by show (y 1).val / 128 = (((cfg0.win 7).blk t).view.emb y 1).val / 128; rw [e1])
  · exact Fin.ext (by show (y 1).val % 128 = (((cfg0.win 7).blk t).view.emb y 1).val % 128; rw [e1])

end Cert.KernelIdeal.Sb
-- ==== Proof.SbFinal.lean ====
/- The idealized kernel's run: its result array ends at the attention of the launched arguments. -/
module

public import proofs.«01_k».proof.Proof.SbArray

@[expose] public section

noncomputable section

namespace Cert.KernelIdeal.Sb

open Idealize.ShloMosaic hiding ix0 ix1 ix2 ix3 ix4 ix5
open Idealize.ShloMosaic.TcCoe Idealize.SL.Sem
open Idealize.ShloMosaic.ValueIdx Idealize.ShloMosaic.Tactic Cert.KernelIdeal Cert.KernelIdeal.Gen _root_.Sb
open Idealize.ShloMosaic.Pipeline (Dat)

variable {m : (ℓ : Loc nD τ sig) → Buf (Elt Ideal) ℓ} {c : Dev nD}

theorem xsize_result (t : Fin cfg0.N) : win0_7.size 0 = 32 ∧ win0_7.size 1 = 1024 ∧ win0_7.xsize (grid0.coords t) 0 = 32 ∧ win0_7.xsize (grid0.coords t) 1 = 1024 := by
  revert t; decide +kernel

theorem flushes (t : Fin cfg0.N) : (cfg0.win 7).flush t = true := by
  revert t; decide +kernel

/-- The eight blocks of rows make up the result array. -/
theorem final (H : Finite m c) : (dats m 0 c).arrAt 7 cfg0.N = result m c :=
  (dats m 0 c).arrAt_eq_of_cover 7 (result m c) (fun t _ => flushed_eq H t) fun i => by
    have h0 : (i 0 : Nat) < 256 := (i 0).isLt
    have h1 : (i 1 : Nat) < 1024 := (i 1).isLt
    let t : Fin cfg0.N := ⟨(i 0 : Nat) / 32, lt_of_lt_of_eq (by omega : (i 0 : Nat) / 32 < 8) N_0.symm⟩
    obtain ⟨e0, e1, e2, e3⟩ := xsize_result t
    obtain ⟨i0, i1⟩ := (index_rows t).2.2.2
    refine ⟨t, flushes t, ?_⟩
    show i ∈ ((View.whole main_v18).slice (win0_7.rect t)).set
    rw [View.set_slice_whole, Rect.mem_set_unit]
    intro a
    match a with
    | ⟨0, _⟩ =>
      show win0_7.index t 0 * win0_7.size 0 ≤ (i 0 : Nat) ∧ (i 0 : Nat) < win0_7.index t 0 * win0_7.size 0 + win0_7.xsize (grid0.coords t) 0
      rw [e0, e2, i0]
      show (i 0 : Nat) / 32 * 32 ≤ (i 0 : Nat) ∧ (i 0 : Nat) < (i 0 : Nat) / 32 * 32 + 32
      omega
    | ⟨1, _⟩ =>
      show win0_7.index t 1 * win0_7.size 1 ≤ (i 1 : Nat) ∧ (i 1 : Nat) < win0_7.index t 1 * win0_7.size 1 + win0_7.xsize (grid0.coords t) 1
      rw [e1, e3, i1]
      omega

/-- The run, read: the result at the attention of the arguments, the arguments as launched. -/
theorem run (ρ : Dev nD → PrngReg) (H : ∀ c, Finite m c) : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final (H c)), (h c).2⟩) (Value.run_blocks m ρ)

end Cert.KernelIdeal.Sb
-- ==== Proof.SbPre.lean ====
/- The precondition: where the printed test of the queries and keys is met, every one of them is a real number. -/
module

public import proofs.«01_k».proof.Pre_finite_scores
public import Idealize.ShloMosaic.Lib.ReduceAll
public import Idealize.ShloMosaic.Lib.Pipeline.Value
public import Idealize.ShloMosaic.PureOps.Ideal.Laws
public import Idealize.ShloMosaic.Lib.WordCmp

@[expose] public section

noncomputable section

namespace Cert.Pre_finite_scores

open Idealize.ShloMosaic

/-- The shape relations the printed test takes. -/
theorem facts : Facts where
  bitsLt_bf16_f32 := by decide
  bcast_S_S256x1024 := by decide
  reducesTo_S256x1024_S_d0_1 := by decide
  h_S_ := by decide
  bcast_S_S1x8x2048x8x128 := by decide
  reducesTo_S1x8x2048x8x128_S_d0_1_2_3_4 := by decide

instance : Subsingleton S_.Idx := ⟨fun _ _ => funext fun a => a.elim0⟩

/-- A number whose absolute value is below infinity is a real number. -/
theorem real_of_test (x : EReal) (h : Ideal.cmp .olt (max x (-x)) (Ideal.ofBits .f32 0x7F800000#32) = 1#1) : ((x.toReal : ℝ) : EReal) = x := by
  have ht : Ideal.ofBits .f32 0x7F800000#32 = ⊤ := by
    simp [Ideal.ofBits, Ideal.ieee]
  rw [ht] at h
  have h' : max x (-x) < ⊤ := by
    have := (WordCmp.ofBool_decide_eq_one_iff _).1 h
    exact this
  refine EReal.coe_toReal ?_ ?_
  · rintro rfl; simp at h'
  · rintro rfl; simp at h'

variable [Facts]
open Facts

/-- The test met: the queries, the keys and the cached keys are real numbers. -/
theorem real_of_pre (q k v : FVec Ideal S256x1024 .bf16) (ck cv : FVec Ideal S1x8x2048x8x128 .f32)
    (h : fn (F := Ideal) q k v ck cv = fun _ => 1#1) :
    (∀ i, (((q i : EReal).toReal : ℝ) : EReal) = q i) ∧ (∀ i, (((k i : EReal).toReal : ℝ) : EReal) = k i) ∧ (∀ i, (((ck i : EReal).toReal : ℝ) : EReal) = ck i) := by
  have e := congrFun h (Shape.Idx.first h_S_)
  obtain ⟨e1, e3⟩ := IntOp.andi_eq_one.1 (show IntOp.andi _ _ = 1#1 from e)
  obtain ⟨e1, e2⟩ := IntOp.andi_eq_one.1 (show IntOp.andi _ _ = 1#1 from e1)
  refine ⟨fun i => real_of_test _ ?_, fun i => real_of_test _ ?_, fun i => real_of_test _ ?_⟩
  · exact Host.reduce_andi_all _ _ _ _ _ e1 i
  · exact Host.reduce_andi_all _ _ _ _ _ e2 i
  · exact Host.reduce_andi_all _ _ _ _ _ e3 i

end Cert.Pre_finite_scores
-- ==== Proof.SbWindow.lean ====
/- A float running sum from the end (a window of the whole row, padded high by one less), read at an entry. -/
module

public import Idealize.ShloMosaic.PureOps.Ideal
public import Idealize.ShloMosaic.Lib.Pipeline.Value
public import Idealize.ShloMosaic.Lib.ValueIdx

@[expose] public section

noncomputable section

namespace Sb

open Idealize.ShloMosaic Idealize.ShloMosaic.ValueIdx

/-- Adding up a list's terms from zero. -/
theorem foldl_add {ι : Type} (g : ι → EReal) : ∀ (l : List ι) (z : EReal), l.foldl (fun r n => r + g n) z = z + (l.map g).sum
  | [], z => by simp
  | a :: l, z => by rw [List.foldl_cons, foldl_add g l, List.map_cons, List.sum_cons, add_assoc]

variable (A B C N : ℕ)

abbrev S4 : Shape := ⟨4, ![A, B, C, N]⟩

/-- The windows' positions are those of the last axis. -/
theorem numel_row : (⟨4, ![1, 1, 1, N]⟩ : Shape).numel = N := by
  simp [Shape.numel, Fin.prod_univ_succ]

theorem pos_row (n : Fin (⟨4, ![1, 1, 1, N]⟩ : Shape).numel) :
    (((⟨4, ![1, 1, 1, N]⟩ : Shape).rowMajor.symm n) 0).val = 0 ∧ (((⟨4, ![1, 1, 1, N]⟩ : Shape).rowMajor.symm n) 1).val = 0
    ∧ (((⟨4, ![1, 1, 1, N]⟩ : Shape).rowMajor.symm n) 2).val = 0 ∧ (((⟨4, ![1, 1, 1, N]⟩ : Shape).rowMajor.symm n) 3).val = n.val := by
  generalize hw : (⟨4, ![1, 1, 1, N]⟩ : Shape).rowMajor.symm n = w
  have h0 : (w 0).val < 1 := (w 0).isLt
  have h1 : (w 1).val < 1 := (w 1).isLt
  have h2 : (w 2).val < 1 := (w 2).isLt
  have e := Shape.rowMajor_val_four w
  rw [← hw, Equiv.apply_symm_apply, hw] at e
  have e' : n.val = (((w 0).val * 1 + (w 1).val) * 1 + (w 2).val) * N + (w 3).val := e
  have z0 : (w 0).val = 0 := by omega
  have z1 : (w 1).val = 0 := by omega
  have z2 : (w 2).val = 0 := by omega
  rw [z0, z1, z2] at e'
  refine ⟨z0, z1, z2, ?_⟩
  rw [e']; omega

/-- The terms of a row at `j`, `j + 1`, …, cut at the row's end, sum to those from `j` on. -/
theorem sum_from (f : ℕ → EReal) (j : ℕ) (hj : j < N) (K : ℕ) (hK : K = N) :
    ((List.finRange K).map fun n : Fin K => if j + n.val < N then f (j + n.val) else 0).sum = ∑ k ∈ Finset.Ico j N, f k := by
  subst hK
  rw [← Fin.sum_univ_def, ← Finset.sum_range (fun n => if j + n < K then f (j + n) else 0), Finset.sum_Ico_eq_sum_range]
  refine (Finset.sum_subset (Finset.range_mono (Nat.sub_le K j)) fun n _ hn => ?_).symm.trans ?_
  · rw [Finset.mem_range] at hn
    exact if_neg (by omega)
  · refine Finset.sum_congr rfl fun n hn => if_pos ?_
    rw [Finset.mem_range] at hn
    omega

/-- Entry `j` of a row's running sum from the end is the sum of the row's entries from `j` on. -/
theorem reverse_cumsum (M : ℕ) (hM : M + 1 = N) (x : (S4 A B C N).Idx → EReal) (f : ℕ → EReal) (a : Fin A) (b : Fin B) (c : Fin C) (j : Fin N)
    (hf : ∀ n : Fin N, x (ix4 a b c n) = f n.val)
    (h : (S4 A B C N).ReduceWindows (![1, 1, 1, N] : Fin 4 → Nat) ![1, 1, 1, 1] ![0, 0, 0, 0] ![0, 0, 0, M] (S4 A B C N)) :
    Ideal.hostReduceWindowAdd ![1, 1, 1, N] ![1, 1, 1, 1] ![0, 0, 0, 0] ![0, 0, 0, M] h x 0 (ix4 a b c j) = ∑ k ∈ Finset.Ico j.val N, f k := by
  have hj := j.isLt
  unfold Ideal.hostReduceWindowAdd Host.reduceWindow
  refine (foldl_add _ _ _).trans ?_
  refine (zero_add (M := EReal) _).trans ?_
  refine (congrArg List.sum (List.map_congr_left (g := fun n => if j.val + n.val < N then f (j.val + n.val) else 0) fun n _ => ?_)).trans ?_
  · obtain ⟨e0, e1, e2, e3⟩ := pos_row N n
    by_cases hn : j.val + n.val < N
    · refine (dif_pos fun i => ?_).trans (Eq.trans ?_ (if_pos hn).symm)
      · match i with
        | ⟨0, _⟩ => exact ⟨Nat.zero_le _, by show a.val * 1 + (((⟨4, ![1, 1, 1, N]⟩ : Shape).rowMajor.symm n) 0).val - 0 < A; rw [e0]; have := a.isLt; omega⟩
        | ⟨1, _⟩ => exact ⟨Nat.zero_le _, by show b.val * 1 + (((⟨4, ![1, 1, 1, N]⟩ : Shape).rowMajor.symm n) 1).val - 0 < B; rw [e1]; have := b.isLt; omega⟩
        | ⟨2, _⟩ => exact ⟨Nat.zero_le _, by show c.val * 1 + (((⟨4, ![1, 1, 1, N]⟩ : Shape).rowMajor.symm n) 2).val - 0 < C; rw [e2]; have := c.isLt; omega⟩
        | ⟨3, _⟩ => exact ⟨Nat.zero_le _, by show j.val * 1 + (((⟨4, ![1, 1, 1, N]⟩ : Shape).rowMajor.symm n) 3).val - 0 < N; rw [e3]; omega⟩
      · refine Eq.trans (congrArg x (funext fun i => Fin.ext ?_)) (hf ⟨j.val + n.val, hn⟩)
        match i with
        | ⟨0, _⟩ => show a.val * 1 + (((⟨4, ![1, 1, 1, N]⟩ : Shape).rowMajor.symm n) 0).val - 0 = a.val; rw [e0]; omega
        | ⟨1, _⟩ => show b.val * 1 + (((⟨4, ![1, 1, 1, N]⟩ : Shape).rowMajor.symm n) 1).val - 0 = b.val; rw [e1]; omega
        | ⟨2, _⟩ => show c.val * 1 + (((⟨4, ![1, 1, 1, N]⟩ : Shape).rowMajor.symm n) 2).val - 0 = c.val; rw [e2]; omega
        | ⟨3, _⟩ => show j.val * 1 + (((⟨4, ![1, 1, 1, N]⟩ : Shape).rowMajor.symm n) 3).val - 0 = j.val + n.val; rw [e3]; omega
    · refine (dif_neg fun hin => ?_).trans (if_neg hn).symm
      have h3 : j.val * 1 + (((⟨4, ![1, 1, 1, N]⟩ : Shape).rowMajor.symm n) 3).val - 0 < N := (hin 3).2
      rw [e3] at h3
      omega
  · exact sum_from N f j.val hj _ (numel_row N)

/-- The same of the host's window sum, whose initial value is an array's one entry. -/
theorem reverse_cumsum_host (M : ℕ) (hM : M + 1 = N) (x : FVec Ideal (S4 A B C N) .f32) (f : ℕ → EReal) (a : Fin A) (b : Fin B) (c : Fin C) (j : Fin N)
    (hf : ∀ n : Fin N, x (ix4 a b c n) = f n.val)
    (h : (S4 A B C N).ReduceWindows (![1, 1, 1, N] : Fin 4 → Nat) ![1, 1, 1, 1] ![0, 0, 0, 0] ![0, 0, 0, M] (S4 A B C N))
    {u : Shape} (z : FVec Ideal u .f32) (hu : 0 < u.numel) (hz : z (Shape.Idx.first hu) = (0 : EReal)) :
    Host.reduceWindowAdd ![1, 1, 1, N] ![1, 1, 1, 1] ![0, 0, 0, 0] ![0, 0, 0, M] x z h hu (ix4 a b c j) = ∑ k ∈ Finset.Ico j.val N, f k := by
  unfold Host.reduceWindowAdd
  rw [hz]
  exact reverse_cumsum A B C N M hM x f a b c j hf h

end Sb
-- ==== Proof.SbReference.lean ====
/- The textbook form's result, entry by entry: with real queries and keys it is `Sb.attend`. -/
module

public import proofs.«01_k».proof.Proof.Gen.ReferenceIdeal.Read
public import proofs.«01_k».proof.Proof.SbMath
public import proofs.«01_k».proof.Proof.SbWindow
public import Idealize.ShloMosaic.Lib.WordCmp

@[expose] public section

noncomputable section

namespace Cert.ReferenceIdeal.Sb

open Idealize.ShloMosaic
open Idealize.ShloMosaic.ValueIdx
open Cert.ReferenceIdeal Cert.ReferenceIdeal.Read
open Cert.ReferenceIdeal.Gen
open _root_.Sb

abbrev Own := S256x1024.Idx → EReal
abbrev Cache := S1x8x2048x8x128.Idx → EReal

/-! ## The keys and the values, in one array -/

/-- The joined array past its first 2048 rows. -/
theorem right_piece (A : S8x2048x8x128.Idx → EReal) (B : S8x32x8x128.Idx → EReal) (b a : Fin 8) (j : Fin 2080) (n : Fin 32) (x : Fin 128) (hn : n.val + 2048 = j.val) :
    concatenate S8x2080x8x128 1 [⟨S8x2048x8x128, A⟩, ⟨S8x32x8x128, B⟩] concatenates_S8x2048x8x128_S8x32x8x128_S8x2080x8x128_d1 (ix4 b j a x) = B (ix4 b n a x) :=
  concatenate_pair_apply_right (t := S8x2080x8x128) (s₁ := S8x2048x8x128) (s₂ := S8x32x8x128) 1 A B _ (ix4 b j a x) rfl rfl (ix4 b n a x)
    (fun c hc => by
      match c with
      | ⟨0, _⟩ | ⟨2, _⟩ | ⟨3, _⟩ => rfl
      | ⟨1, _⟩ => exact absurd rfl hc) hn

/-- A batch element's own rows. -/
theorem own_apply (k : Own) (b a : Fin 8) (n : Fin 32) (x : Fin 128) (R : Fin 256) (C : Fin 1024) (hR : R.val = 32 * b.val + n.val) (hC : C.val = 128 * a.val + x.val) :
    val_main_v2 (F := Ideal) k (ix4 b n a x) = k (ix2 R C) := by
  have hb := b.isLt; have ha := a.isLt; have hx := x.isLt; have hn := n.isLt
  have e : idx_main_v2 (ix4 b n a x) = ix2 R C := funext fun c => Fin.ext (by
    match c with
    | ⟨0, _⟩ => show (((b.val * 32 + n.val) * 8 + a.val) * 128 + x.val) / 1024 = R.val; omega
    | ⟨1, _⟩ => show (((b.val * 32 + n.val) * 8 + a.val) * 128 + x.val) % 1024 = C.val; omega)
  rw [val_main_v2_apply, e]
  rfl

/-- The keys' array holds a batch element's cached rows and then its own. -/
theorem keys_apply (k : Own) (ck : Cache) (b a : Fin 8) (j : Fin 2080) (x : Fin 128) :
    val_main_v3 (F := Ideal) k ck (ix4 b j a x) = kv k ck b a j.val x := by
  have hb := b.isLt; have ha := a.isLt; have hx := x.isLt; have hj := j.isLt
  unfold val_main_v3 kv
  by_cases h : j.val < 2048
  · rw [dif_pos h]
    refine (concatenate_pair_apply_left (t := S8x2080x8x128) (s₁ := S8x2048x8x128) (s₂ := S8x32x8x128) 1 (val_main_v0 (F := Ideal) ck) (val_main_v2 (F := Ideal) k) _ _ rfl (ix4 b (⟨j.val, h⟩ : Fin 2048) a x) fun c => ?_).trans ?_
    · match c with
      | ⟨0, _⟩ | ⟨1, _⟩ | ⟨2, _⟩ | ⟨3, _⟩ => rfl
    · rw [val_main_v0_apply]
      refine congrArg ck (funext fun c => Fin.ext ?_)
      match c with
      | ⟨0, _⟩ => rfl
      | ⟨1, _⟩ => show (((b.val * 2048 + j.val) * 8 + a.val) * 128 + x.val) / 2097152 % 8 = b.val; omega
      | ⟨2, _⟩ => show (((b.val * 2048 + j.val) * 8 + a.val) * 128 + x.val) / 1024 % 2048 = j.val; omega
      | ⟨3, _⟩ => show (((b.val * 2048 + j.val) * 8 + a.val) * 128 + x.val) / 128 % 8 = a.val; omega
      | ⟨4, _⟩ => show (((b.val * 2048 + j.val) * 8 + a.val) * 128 + x.val) % 128 = x.val; omega
  · rw [dif_neg h]
    have hj' : j.val - 2048 < 32 := by omega
    refine (right_piece _ _ b a j (⟨j.val - 2048, hj'⟩ : Fin 32) x (by show j.val - 2048 + 2048 = j.val; omega)).trans ?_
    exact own_apply k b a _ x _ _ (by dsimp only; omega) rfl

/-- The values' array is built just as the keys' is. -/
theorem values_apply (v : Own) (cv : Cache) (b a : Fin 8) (j : Fin 2080) (x : Fin 128) :
    val_main_v7 (F := Ideal) v cv (ix4 b j a x) = kv v cv b a j.val x := keys_apply v cv b a j x

/-- The queries by batch element, row and head. -/
theorem queries_apply (q : Own) (b a : Fin 8) (r : Fin 32) (x : Fin 128) :
    val_main_v13 (F := Ideal) q (ix4 b r a x) = q (ix2 (⟨32 * b.val + r.val, by omega⟩ : Fin 256) (⟨128 * a.val + x.val, by omega⟩ : Fin 1024)) := by
  have hb := b.isLt; have ha := a.isLt; have hx := x.isLt; have hr := r.isLt
  rw [val_main_v13_apply, val_main_v12_apply]
  show q _ = q _
  refine congrArg q (funext fun c => Fin.ext ?_)
  match c with
  | ⟨0, _⟩ => show (((b.val * 32 + r.val) * 8 + a.val) * 128 + x.val) / 1024 = 32 * b.val + r.val; omega
  | ⟨1, _⟩ => show (((b.val * 32 + r.val) * 8 + a.val) * 128 + x.val) % 1024 = 128 * a.val + x.val; omega

/-! ## One entry's pointwise arithmetic -/

/-- Softplus with its guard: over the reals the guard never fires. -/
theorem softplus_read (y c : Ideal .f32) (z : ℝ) (hc : c = (0 : EReal)) (hy : y = ((z : ℝ) : EReal)) :
    Scalar.select (FloatOps.cmpf (F := Ideal) .une (FloatOps.subf y c) (FloatOps.subf y c)) (FloatOps.addf y c)
      (FloatOps.addf (FloatOps.maximumf y c) (FloatOps.hostUnary .log1p (FloatOps.hostUnary .exp (FloatOps.hostNegf (FloatOps.hostAbsf (FloatOps.subf y c))))))
      = (sp z : EReal) := by
  subst hc
  subst hy
  have hs : FloatOps.subf (F := Ideal) (φ := .f32) ((z : ℝ) : EReal) (0 : EReal) = ((z : ℝ) : EReal) := sub_zero (z : EReal)
  rw [hs]
  have hg : FloatOps.cmpf (F := Ideal) (φ := .f32) .une ((z : ℝ) : EReal) ((z : ℝ) : EReal) = 0#1 := by
    show BitVec.ofBool (decide ((z : EReal) ≠ (z : EReal))) = 0#1
    simp
  rw [hg]
  exact (if_neg (by decide)).trans (sp_log1p z)

/-- The exponential of a log of a piece added to a difference of sums of logs. -/
theorem exp_read (u v w t : ℝ) (h : -u + (v - w) = t) :
    FloatOps.hostUnary (F := Ideal) (φ := .f32) .exp (FloatOps.addf (-(u : EReal)) (FloatOps.subf (v : EReal) (w : EReal))) = ((Real.exp t : ℝ) : EReal) := by
  subst h
  show Ideal.exp (-(u : EReal) + ((v : EReal) - (w : EReal))) = _
  rw [← EReal.coe_sub, ← EReal.coe_neg, ← EReal.coe_add, Ideal.exp_coe]

section Entry

variable (q k : Own) (ck : Cache)
variable (hq : ∀ i, ((q i).toReal : EReal) = q i) (hk : ∀ i, ((k i).toReal : EReal) = k i) (hck : ∀ i, ((ck i).toReal : EReal) = ck i)

include hk hck in
/-- Real keys: every row of the keys' array is real. -/
theorem kv_real (b a : Fin 8) (j : ℕ) (x : Fin 128) : ((kv k ck b a j x).toReal : EReal) = kv k ck b a j x := by
  unfold kv
  split
  · exact hck _
  · exact hk _

/-- The real scores of a query. -/
abbrev Z (b a : Fin 8) (r : Fin 32) : ℕ → ℝ :=
  scores (fun x => (q (ix2 (⟨32 * b.val + r.val, by omega⟩ : Fin 256) (⟨128 * a.val + x.val, by omega⟩ : Fin 1024))).toReal)
    fun j x => (kv k ck b a j x).toReal

include hq hk hck in
/-- The score array. -/
theorem score_apply (b a : Fin 8) (r : Fin 32) (j : Fin 2080) :
    val_main_v16 (F := Ideal) q k ck (ix4 b a r j) = (Z q k ck b a r j.val : EReal) := by
  rw [val_main_v16_apply, val_main_v15_apply, val_main_cst_apply, val_main_v14_apply]
  show (∑ x : Fin 128, val_main_v13 (F := Ideal) q (lidx_main_v14 (ix4 b a r j) x) * val_main_v3 (F := Ideal) k ck (ridx_main_v14 (ix4 b a r j) x))
    * Ideal.ofBits .f32 0x3DB504F3#32 = _
  rw [ofBits_scale]
  unfold Z scores
  rw [EReal.coe_mul, coe_sum]
  refine congrArg (· * ((scale : ℝ) : EReal)) (Finset.sum_congr rfl fun x _ => ?_)
  have el : lidx_main_v14 (ix4 b a r j) x = ix4 b r a x := funext fun c => by
    match c with
    | ⟨0, _⟩ | ⟨1, _⟩ | ⟨2, _⟩ | ⟨3, _⟩ => rfl
  have er : ridx_main_v14 (ix4 b a r j) x = ix4 b j a x := funext fun c => by
    match c with
    | ⟨0, _⟩ | ⟨1, _⟩ | ⟨2, _⟩ | ⟨3, _⟩ => rfl
  rw [el, er, keys_apply, queries_apply, EReal.coe_mul, hq, kv_real k ck hk hck]

include hq hk hck in
/-- The log of one less a stick's piece: softplus of the score, negated. -/
theorem rest_apply (b a : Fin 8) (r : Fin 32) (j : Fin 2080) :
    val_main_v23 (F := Ideal) q k ck (ix4 b a r j) = -(sp (Z q k ck b a r j.val) : EReal) := by
  rw [val_main_v23_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v3_apply, val_main_call0_call0_v1_apply, val_main_call0_call0_v0_apply, val_main_call0_call0_v2_apply,
    val_main_call0_call0_v5_apply]
  refine congrArg (fun e : EReal => -e) (softplus_read _ _ _ Ideal.ofBits_zero_f32 ?_)
  rw [val_main_call0_v0_apply, val_main_v22_apply, score_apply q k ck hq hk hck]
  exact neg_neg _

include hq hk hck in
/-- The log of a stick's piece: softplus of the negated score, negated. -/
theorem piece_apply (b a : Fin 8) (r : Fin 32) (j : Fin 2080) :
    val_main_v27 (F := Ideal) q k ck (ix4 b a r j) = -(sp (-(Z q k ck b a r j.val)) : EReal) := by
  rw [val_main_v27_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v3_apply, val_main_call3_call0_v1_apply, val_main_call3_call0_v0_apply, val_main_call3_call0_v2_apply,
    val_main_call3_call0_v5_apply]
  refine congrArg (fun e : EReal => -e) (softplus_read _ _ _ Ideal.ofBits_zero_f32 ?_)
  rw [val_main_call3_v0_apply, score_apply q k ck hq hk hck, EReal.coe_neg]
  rfl

/-- The mask: a query sees the keys before its own position. -/
theorem mask_apply (r : Fin 32) (j : Fin 2080) :
    val_main_v21 (F := Ideal) (ix2 r j) = BitVec.ofBool (decide (j.val < 2048 + r.val)) := by
  have hr := r.isLt; have hj := j.isLt
  rw [val_main_v21_apply, val_main_v19_apply, val_main_v17_apply, val_main_v11_apply, val_main_v20_apply, val_main_v18_apply, val_main_v10_apply,
    val_main_v9_apply, val_main_v8_apply, val_main_c_apply]
  show IntOp.cmpi .slt (BitVec.ofNat 32 j.val) (BitVec.ofNat 32 2048 + BitVec.ofNat 32 r.val) = _
  rw [← BitVec.ofNat_add, WordCmp.cmpi_slt_ofNat (by omega) (by omega)]

/-- Choosing by a decided fact. -/
theorem select_ofBool {α : Type} (p : Prop) [Decidable p] (x y : α) : Scalar.select (BitVec.ofBool (decide p)) x y = if p then x else y := by
  by_cases h : p
  · simp [Scalar.select, h]
  · simp [Scalar.select, h]

/-- The index of the mask behind an entry. -/
theorem mask_index (b a : Fin 8) (r : Fin 32) (j : Fin 2080) : idx_main_call1_v1 (ix4 b a r j) = ix2 r j := funext fun c => by
  match c with
  | ⟨0, _⟩ | ⟨1, _⟩ => rfl

include hq hk hck in
/-- The masked logs. -/
theorem masked_apply (b a : Fin 8) (r : Fin 32) (j : Fin 2080) :
    val_main_v24 (F := Ideal) q k ck (ix4 b a r j) = ((-(term (2048 + r.val) (Z q k ck b a r) j.val) : ℝ) : EReal) := by
  rw [val_main_v24_apply, val_main_call1_v1_apply, mask_index, mask_apply, select_ofBool, rest_apply q k ck hq hk hck, val_main_call1_v2_apply]
  unfold term
  by_cases h : j.val < 2048 + r.val
  · rw [if_pos h, if_pos h, EReal.coe_neg]
  · rw [if_neg h, if_neg h, neg_zero, EReal.coe_zero]
    exact Ideal.ofBits_zero_f32

include hq hk hck in
/-- The logs summed from a key to the row's end. -/
theorem tail_apply (b a : Fin 8) (r : Fin 32) (j : Fin 2080) :
    val_main_v25 (F := Ideal) q k ck (ix4 b a r j)
      = ((∑ n ∈ Finset.Ico j.val 2080, -(term (2048 + r.val) (Z q k ck b a r) n) : ℝ) : EReal) := by
  rw [coe_sum]
  refine reverse_cumsum_host 8 8 32 2080 2079 rfl (val_main_v24 (F := Ideal) q k ck) _ b a r j
    (fun n => masked_apply q k ck hq hk hck b a r n) reduceWindows_S8x8x32x2080_S8x8x32x2080_w1s1p0_0_w1s1p0_0_w1s1p0_0_w2080s1p0_2079
    (val_main_call2_v0 (F := Ideal)) h_S_ ?_
  rw [val_main_call2_v0_apply]
  exact Ideal.ofBits_zero_f32

include hq hk hck in
/-- The weights. -/
theorem weight_apply (b a : Fin 8) (r : Fin 32) (j : Fin 2080) :
    val_main_v30 (F := Ideal) q k ck (ix4 b a r j) = (wt 2080 (2048 + r.val) (Z q k ck b a r) j.val : EReal) := by
  have hj := j.isLt
  rw [val_main_v30_apply, val_main_call4_v1_apply, show idx_main_call4_v1 (ix4 b a r j) = ix2 r j from mask_index b a r j, mask_apply, select_ofBool,
    val_main_v29_apply, val_main_v28_apply, val_main_v26_apply, piece_apply q k ck hq hk hck, tail_apply q k ck hq hk hck,
    masked_apply q k ck hq hk hck, val_main_call4_v2_apply]
  unfold wt
  by_cases h : j.val < 2048 + r.val
  · rw [if_pos h, if_pos h]
    refine exp_read _ _ _ _ ?_
    rw [Finset.sum_eq_sum_Ico_succ_bot hj, Finset.sum_neg_distrib, sp_neg]
    unfold after
    have ht : term (2048 + r.val) (Z q k ck b a r) j.val = sp (Z q k ck b a r j.val) := if_pos h
    rw [ht]
    ring
  · rw [if_neg h, if_neg h, EReal.coe_zero]
    exact Ideal.ofBits_zero_f32

include hq hk hck in
/-- The result. -/
theorem result_apply (v : Own) (cv : Cache) (y : S256x1024.Idx) :
    val_main_v34 (F := Ideal) q k v ck cv y = attend q k v ck cv (⟨(y 0).val / 32, by have h : (y 0).val < 256 := (y 0).isLt; omega⟩ : Fin 8)
      (⟨(y 0).val % 32, by omega⟩ : Fin 32) (⟨(y 1).val / 128, by have h : (y 1).val < 1024 := (y 1).isLt; omega⟩ : Fin 8)
      (⟨(y 1).val % 128, by omega⟩ : Fin 128) := by
  have h0 : (y 0).val < 256 := (y 0).isLt
  have h1 : (y 1).val < 1024 := (y 1).isLt
  rw [val_main_v34_apply, val_main_v33_apply]
  show val_main_v32 (F := Ideal) q k v ck cv _ = _
  rw [val_main_v32_apply, val_main_v31_apply]
  unfold attend
  rw [Finset.sum_range]
  refine Finset.sum_congr rfl fun j _ => ?_
  rw [mul_comm]
  refine congrArg₂ (· * ·) (Eq.trans ?_ (weight_apply q k ck hq hk hck _ _ _ j)) (Eq.trans ?_ (values_apply v cv _ _ j _))
  · refine congrArg _ (funext fun c => Fin.ext ?_)
    match c with
    | ⟨0, _⟩ => show ((y 0).val * 1024 + (y 1).val) / 32768 = (y 0).val / 32; omega
    | ⟨1, _⟩ => show ((y 0).val * 1024 + (y 1).val) / 128 % 8 = (y 1).val / 128; omega
    | ⟨2, _⟩ => show ((y 0).val * 1024 + (y 1).val) / 1024 % 32 = (y 0).val % 32; omega
    | ⟨3, _⟩ => rfl
  · refine congrArg _ (funext fun c => Fin.ext ?_)
    match c with
    | ⟨0, _⟩ => show ((y 0).val * 1024 + (y 1).val) / 32768 = (y 0).val / 32; omega
    | ⟨1, _⟩ => rfl
    | ⟨2, _⟩ => show ((y 0).val * 1024 + (y 1).val) / 128 % 8 = (y 1).val / 128; omega
    | ⟨3, _⟩ => show ((y 0).val * 1024 + (y 1).val) % 128 = (y 1).val % 128; omega

end Entry

end Cert.ReferenceIdeal.Sb
-- ==== Proof.FfnBody.lean ====
/- What the feed-forward body leaves at one grid point, as values of the blocks its staging buffers hold: the running sum after
   the first and the middle tiles, and the four parts of 256 rows it stores at the last. -/
module

public import proofs.«01_k».proof.Proof.Gen.FfnIdeal.Frame
public import Idealize.ShloMosaic.Lib.Pipeline.Value
public import Idealize.ShloMosaic.Lib.Pipeline.ValueKit
public import Idealize.ShloMosaic.Lib.Tactic

@[expose] public section

noncomputable section

namespace Cert.FfnIdeal.Layer

open Idealize.ShloMosaic Idealize.ShloMosaic.Tactic Cert.FfnIdeal Cert.FfnIdeal.Gen

variable {F : FTy → Type} [FloatOps F]

theorem hz : (![0, 0] : Fin 2 → Nat) = fun _ => 0 := funext fun a => by fin_cases a <;> rfl

theorem inb_part (r : Fin 4) : ∀ x, (![256 * r.val, 0] : Fin 2 → Nat) x + S256x2048.size x ≤ S1024x2048.size x := fun x => by
  match x with
  | ⟨0, _⟩ => show 256 * r.val + 256 ≤ 1024; omega
  | ⟨1, _⟩ => exact le_refl 2048

/-- Part `r`'s 256 rows. -/
abbrev rows (r : Fin 4) : Rect S1024x2048 := Rect.unit ![256 * r.val, 0] S256x2048.size (inb_part r)

/-- A load of part `r`'s rows out of a staging buffer. -/
abbrev rowsLoad (g : Memref sig .tc .vmem S1024x2048 .f32) (hg : g.IsWhole) (x : Vec F S1024x2048 .f32) (r : Fin 4) : FVec F S256x2048 .f32 :=
  View.readAt (Elt F) g.view (rows r).toLoadRect (hg.unread x)

section
variable (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (x0 : Vec F S1024x2048 .f32) (x1 : Vec F S2048x512 .bf16) (x2 : Vec F S2048x512 .bf16) (x3 : Vec F S512x2048 .bf16) (x4 : Vec F S1x2048 .f32) (x5 : Vec F S1x2048 .f32) (xs0 : Vec F S1024x2048 .f32)

/-- The first tile's point leaves its product in the running sum. -/
theorem first_eq (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 x5 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4 x5)]
  unfold kernelRun0_A
  dsimp only
  rw [View.canon_unit_zero hz]
  simp only [View.readAt_eq_ld, harg2.read_unread, harg3.read_unread, harg4.read_unread, harg5.read_unread,
    View.ld_unit_zero (S := S1024x2048) hz, View.ld_unit_zero (S := S2048x512) hz, View.ld_unit_zero (S := S512x2048) hz]

/-- A middle tile's point adds its product to the running sum. -/
theorem middle_eq (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 x0 x1 x2 x3 x4 x5 xs0)]
  unfold kernelRun0_B
  dsimp only
  rw [View.canon_unit_zero hz]
  simp only [View.readAt_eq_ld, harg2.read_unread, harg3.read_unread, harg4.read_unread, harg5.read_unread, harg9.read_unread,
    View.ld_unit_zero (S := S1024x2048) hz, View.ld_unit_zero (S := S2048x512) hz, View.ld_unit_zero (S := S512x2048) hz]

/-- What a part of 256 rows stores at the last tile's point, from its rows and the tiles. -/
def last (x : FVec F S256x2048 .f32) (wg wu : Vec F S2048x512 .bf16) (wd : Vec F S512x2048 .bf16) (acc : FVec F S256x2048 .f32) (g b : Vec F S1x2048 .f32) : FVec F S256x2048 .f32 :=
  k0_pay8 (k0_pay3 g) (k0_pay4 b) (k0_pay5 x wg wu wd acc) (k0_pay6 x wg wu wd acc) k0_pay7

/-- Part `r`'s store, over the buffers' reads. -/
def stored (r : Fin 4) : FVec F S256x2048 .f32 :=
  last (rowsLoad arg2 harg2 x0 r)
    (View.readAt (Elt F) arg3.view (Rect.unit ![0, 0] S2048x512.size inb_S2048x512_S2048x512_0_0).toLoadRect (harg3.unread x1))
    (View.readAt (Elt F) arg4.view (Rect.unit ![0, 0] S2048x512.size inb_S2048x512_S2048x512_0_0).toLoadRect (harg4.unread x2))
    (View.readAt (Elt F) arg5.view (Rect.unit ![0, 0] S512x2048.size inb_S512x2048_S512x2048_0_0).toLoadRect (harg5.unread x3))
    (rowsLoad arg9 harg9 xs0 r)
    (View.readAt (Elt F) arg6.view (Rect.unit ![0, 0] S1x2048.size inb_S1x2048_S1x2048_0_0).toLoadRect (harg6.unread x4))
    (View.readAt (Elt F) arg7.view (Rect.unit ![0, 0] S1x2048.size inb_S1x2048_S1x2048_0_0).toLoadRect (harg7.unread x5))

set_option maxRecDepth 100000 in
/-- The last tile's stores, last first. -/
theorem run_pieces (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 hc0 hc1 hc2 x0 x1 x2 x3 x4 x5 xs0).1
      = [⟨rows 3, stored arg2 harg2 arg3 harg3 arg4 harg4 arg5 harg5 arg6 harg6 arg7 harg7 arg9 harg9 x0 x1 x2 x3 x4 x5 xs0 3⟩,
        ⟨rows 2, stored arg2 harg2 arg3 harg3 arg4 harg4 arg5 harg5 arg6 harg6 arg7 harg7 arg9 harg9 x0 x1 x2 x3 x4 x5 xs0 2⟩,
        ⟨rows 1, stored arg2 harg2 arg3 harg3 arg4 harg4 arg5 harg5 arg6 harg6 arg7 harg7 arg9 harg9 x0 x1 x2 x3 x4 x5 xs0 1⟩,
        ⟨rows 0, stored arg2 harg2 arg3 harg3 arg4 harg4 arg5 harg5 arg6 harg6 arg7 harg7 arg9 harg9 x0 x1 x2 x3 x4 x5 xs0 0⟩] := by
  sl_kernel_rfl

/-- The output's buffer after the last tile: row `256 r + p` holds what part `r` stores at row `p`. -/
def block (y : S1024x2048.Idx) : Elt F .f32 :=
  stored arg2 harg2 arg3 harg3 arg4 harg4 arg5 harg5 arg6 harg6 arg7 harg7 arg9 harg9 x0 x1 x2 x3 x4 x5 xs0
    ⟨(y 0).val / 256, by have h : (y 0).val < 1024 := (y 0).isLt; omega⟩ (ValueIdx.ix2 ⟨(y 0).val % 256, Nat.mod_lt _ (by decide)⟩ (y 1))

theorem block_piece (r : Fin 4) (x : (rows r).shape.Idx) :
    stored arg2 harg2 arg3 harg3 arg4 harg4 arg5 harg5 arg6 harg6 arg7 harg7 arg9 harg9 x0 x1 x2 x3 x4 x5 xs0 r x
      = block arg2 harg2 arg3 harg3 arg4 harg4 arg5 harg5 arg6 harg6 arg7 harg7 arg9 harg9 x0 x1 x2 x3 x4 x5 xs0 ((rows r).emb x) := by
  have h1 : (x 0).val < 256 := (x 0).isLt
  have e0 : (((rows r).emb x) 0).val = 256 * r.val + (x 0).val := by
    show 256 * r.val + 1 * (x 0).val = _; omega
  have e1 : (((rows r).emb x) 1).val = (x 1).val := by
    show 0 + 1 * (x 1).val = _; omega
  unfold block
  congr 1
  · exact Fin.ext (by show r.val = _; dsimp only; rw [e0]; omega)
  · refine funext fun z => Fin.ext ?_
    match z with
    | ⟨0, _⟩ => show (x 0).val = (((rows r).emb x) 0).val % 256; rw [e0]; omega
    | ⟨1, _⟩ => exact e1.symm

/-- The four stores, read back. -/
theorem last_eq (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2 x0 x1 x2 x3 x4 x5 xs0
      = block arg2 harg2 arg3 harg3 arg4 harg4 arg5 harg5 arg6 harg6 arg7 harg7 arg9 harg9 x0 x1 x2 x3 x4 x5 xs0 := by
  funext y
  unfold out0_C_6
  refine View.read_writes_apply_of_pieces _ _ _ _ ?_ y (cover0_C_6 c i arg2 harg2 arg3 harg3 arg4 harg4 arg5 harg5 arg6 harg6 arg7 harg7 arg8 harg8 arg9 harg9 hc0 hc1 hc2 x0 x1 x2 x3 x4 x5 xs0 y)
  rw [run_pieces]
  simp only [List.forall_mem_cons, List.not_mem_nil, false_imp_iff, implies_true, and_true]
  refine ⟨?_, ?_, ?_, ?_⟩ <;> exact fun _ => block_piece ..
end

end Cert.FfnIdeal.Layer
-- ==== Proof.FfnMath.lean ====
/- The feed-forward layer's result over the extended reals, one row at a time: the gated hidden units, their product with the
   down projection, the two weighted into one row, and that row normalised. -/
module

public import Idealize.ShloMosaic.Lib.ValueIdx
public import Idealize.ShloMosaic.Lib.IdealHost
public import Idealize.ShloMosaic.PureOps.Ideal.Laws

@[expose] public section

noncomputable section

namespace Layer

open Idealize.ShloMosaic

/-- A row of the model's width. -/
abbrev Row := Fin 2048 → EReal

/-- A row's mean. -/
def mean (y : Row) : EReal := Ideal.div (∑ k, y k) (Ideal.ofBits .f32 0x45000000#32)

/-- A row less its mean. -/
def centred (y : Row) : Row := fun j => y j - mean y

/-- The layer norm of a row with gain `g` and shift `b`. -/
def norm (y g b : Row) : Row := fun j =>
  centred y j * Ideal.rsqrt (mean (fun k => centred y k * centred y k) + Ideal.ofBits .f32 0x3727C5AC#32) * g j + b j

/-- The residual row and a sublayer's row, weighted by the two literals. -/
def mixed (x y : Row) : Row := fun j => Ideal.ofBits .f32 0x3F9837F0#32 * x j + Ideal.ofBits .f32 0x3F000000#32 * y j

/-- One hidden unit: the gate's product through `z · logistic z`, times the other product. -/
def hidden (x wg wu : Row) : EReal := (∑ l, x l * wg l) * Ideal.logistic (∑ l, x l * wg l) * (∑ l, x l * wu l)

/-- Hidden unit `k`'s share of column `j` of the down projection's product (0 past the last unit). -/
def share (x : Row) (wg wu : Fin 2048 → Fin 5632 → EReal) (wd : Fin 5632 → Row) (j : Fin 2048) (k : ℕ) : EReal :=
  if h : k < 5632 then hidden x (fun l => wg l ⟨k, h⟩) (fun l => wu l ⟨k, h⟩) * wd ⟨k, h⟩ j else 0

/-- The feed-forward sublayer's row. -/
def ffn (x : Row) (wg wu : Fin 2048 → Fin 5632 → EReal) (wd : Fin 5632 → Row) : Row := fun j =>
  ∑ k : Fin 5632, hidden x (fun l => wg l k) (fun l => wu l k) * wd k j

/-- The shares of all the units make up the row. -/
theorem sum_share (x : Row) (wg wu : Fin 2048 → Fin 5632 → EReal) (wd : Fin 5632 → Row) (j : Fin 2048) :
    ∑ k ∈ Finset.range 5632, share x wg wu wd j k = ffn x wg wu wd j := by
  rw [Finset.sum_range]
  refine Finset.sum_congr rfl fun k _ => ?_
  rw [share, dif_pos k.isLt]

/-- The shares of the units before `n` and of the `w` units from `n` on. -/
theorem sum_share_add (f : ℕ → EReal) (n w : ℕ) :
    ∑ k ∈ Finset.range (n + w), f k = ∑ k ∈ Finset.range n, f k + ∑ k : Fin w, f (n + k.val) := by
  rw [Finset.sum_range_add, Finset.sum_range (n := w)]

end Layer
-- ==== Proof.FfnIdealRead.lean ====
/- The feed-forward body's payloads read at an index over the extended reals. -/
module

public import proofs.«01_k».proof.Proof.FfnBody
public import proofs.«01_k».proof.Proof.FfnMath
public import Idealize.ShloMosaic.Lib.MatmulPlain
public import Idealize.ShloMosaic.Lib.ValueLayout
public import Idealize.ShloMosaic.Lib.ValueLayoutCasts
public import Idealize.ShloMosaic.Lib.Pointwise.Reduce

@[expose] public section

noncomputable section

namespace Cert.FfnIdeal.Layer

open Idealize.ShloMosaic hiding ix0 ix1 ix2 ix3 ix4 ix5
open Idealize.ShloMosaic.ValueIdx Cert.FfnIdeal Cert.FfnIdeal.Gen _root_.Layer

/-- A tile's product at row `p` and column `j`. -/
def tile {n : Nat} (x : (⟨2, ![n, 2048]⟩ : Shape).Idx → EReal) (wg wu : S2048x512.Idx → EReal) (wd : S512x2048.Idx → EReal) (p : Fin n) (j : Fin 2048) : EReal :=
  ∑ k : Fin 512, hidden (fun l => x (ix2 p l)) (fun l => wg (ix2 l k)) (fun l => wu (ix2 l k)) * wd (ix2 k j)

theorem first_apply (x : FVec Ideal S1024x2048 .f32) (wg wu : FVec Ideal S2048x512 .bf16) (wd : FVec Ideal S512x2048 .bf16) (p : Fin 1024) (j : Fin 2048) :
    k0_pay1 (F := Ideal) x wg wu wd (ix2 p j) = tile x wg wu wd p j := by
  unfold k0_pay1
  simp only [shapeCast_self]
  show FloatOps.matmul (DotDims.plain 1024 512 2048) none _ _ _ _ = _
  rw [Ideal.matmul_plain_apply]
  show Ideal.ofBits .f32 0x00000000#32 + _ = _
  rw [Ideal.ofBits_zero_f32, zero_add]
  refine Finset.sum_congr rfl fun k _ => ?_
  have e : ∀ w : FVec Ideal S2048x512 .bf16, (matmul dot_S1024x2048_S2048x512_S1024x512_1_0_0_1_n_n none (truncf .bf16 (x : FVec Ideal S1024x2048 .f32) bitsLt_bf16_f32) (w : FVec Ideal S2048x512 .bf16) (constant S1024x512 .f32 0x00000000#32)) (ix2 p k)
      = ∑ l, x (ix2 p l) * w (ix2 l k) := fun w => by
    show FloatOps.matmul (DotDims.plain 1024 2048 512) none _ _ _ _ = _
    rw [Ideal.matmul_plain_apply]
    show Ideal.ofBits .f32 0x00000000#32 + _ = _
    rw [Ideal.ofBits_zero_f32, zero_add]
    rfl
  refine congrArg (· * wd (ix2 k j)) ?_
  unfold _root_.Layer.hidden
  rw [← e wg, ← e wu]
  rfl

theorem middle_apply (x : FVec Ideal S1024x2048 .f32) (wg wu : FVec Ideal S2048x512 .bf16) (wd : FVec Ideal S512x2048 .bf16) (acc : FVec Ideal S1024x2048 .f32) (p : Fin 1024) (j : Fin 2048) :
    k0_pay2 (F := Ideal) x wg wu wd acc (ix2 p j) = acc (ix2 p j) + tile x wg wu wd p j := by
  rw [← first_apply]
  unfold k0_pay2 k0_pay1
  simp only [shapeCast_self]
  rfl

/-- A part's row before the layer norm. -/
def total (x : S256x2048.Idx → EReal) (wg wu : S2048x512.Idx → EReal) (wd : S512x2048.Idx → EReal) (acc : S256x2048.Idx → EReal) (p : Fin 256) : Row :=
  mixed (fun j => x (ix2 p j)) fun j => acc (ix2 p j) + tile x wg wu wd p j

theorem rowMean_apply (s : FVec Ideal S256x2048 .f32) (p : Fin 256) :
    divf (shapeCast S256x1 (multiReduction .add [1] S256 s 0x00000000#32 reduces_S256x2048_S256 (.inl rfl) rfl) shapeCasts_S256_S256x1)
      (broadcast S256x1 (Scalar.ofBits (F := Ideal) .f32 0x45000000#32)) (ix2 p 0) = mean fun k => s (ix2 p k) := by
  show Ideal.div (shapeCast S256x1 _ shapeCasts_S256_S256x1 (ix2 p 0)) (Ideal.ofBits .f32 0x45000000#32) = _
  rw [shapeCast_a_a1_apply]
  show Ideal.div (Ideal.reduceAdd reduces_S256x2048_S256 s (ix1 p)) _ = _
  rw [Ideal.reduceAdd_r2_a1]
  rfl

theorem column_apply (v : FVec Ideal S256x1 .f32) (p : Fin 256) (j : Fin 2048) : broadcastTo S256x2048 v broadcasts_S256x1_S256x2048 (ix2 p j) = v (ix2 p 0) := by
  refine broadcastTo_apply _ _ _ _ fun x => ?_
  match x with
  | ⟨0, _⟩ => rfl
  | ⟨1, _⟩ => rfl

theorem row_apply (v : FVec Ideal S1x2048 .f32) (p : Fin 256) (j : Fin 2048) : broadcastTo S256x2048 v broadcasts_S1x2048_S256x2048 (ix2 p j) = v (ix2 0 j) := by
  refine broadcastTo_apply _ _ _ _ fun x => ?_
  match x with
  | ⟨0, _⟩ => rfl
  | ⟨1, _⟩ => rfl

/-- A row less its mean, of the part's rows. -/
def centre (y : FVec Ideal S256x2048 .f32) : FVec Ideal S256x2048 .f32 :=
  subf y (broadcastTo S256x2048 (divf (shapeCast S256x1 (multiReduction .add [1] S256 y 0x00000000#32 reduces_S256x2048_S256 (.inl rfl) rfl) shapeCasts_S256_S256x1)
      (broadcast S256x1 (Scalar.ofBits (F := Ideal) .f32 0x45000000#32))) broadcasts_S256x1_S256x2048)

theorem centre_apply (y : FVec Ideal S256x2048 .f32) (p : Fin 256) (j : Fin 2048) : centre y (ix2 p j) = centred (fun k => y (ix2 p k)) j := by
  show y (ix2 p j) - broadcastTo S256x2048 _ broadcasts_S256x1_S256x2048 (ix2 p j) = _
  rw [column_apply, rowMean_apply]
  rfl

/-- A part's rows before the layer norm. -/
def before (x : FVec Ideal S256x2048 .f32) (wg wu : FVec Ideal S2048x512 .bf16) (wd : FVec Ideal S512x2048 .bf16) (acc : FVec Ideal S256x2048 .f32) : FVec Ideal S256x2048 .f32 :=
  let u : FVec Ideal S256x2048 .bf16 := truncf .bf16 x bitsLt_bf16_f32
  let g : FVec Ideal S256x512 .f32 := matmul dot_S256x2048_S2048x512_S256x512_1_0_0_1_n_n none u (wg : FVec Ideal S2048x512 .bf16) (constant S256x512 .f32 0x00000000#32)
  let h : FVec Ideal S256x512 .bf16 := truncf .bf16 (mulf (mulf g (logistic g)) (matmul dot_S256x2048_S2048x512_S256x512_1_0_0_1_n_n none u (wu : FVec Ideal S2048x512 .bf16) (constant S256x512 .f32 0x00000000#32))) bitsLt_bf16_f32
  addf (mulf (broadcast S256x2048 (Scalar.ofBits (F := Ideal) .f32 0x3F9837F0#32)) x) (mulf (broadcast S256x2048 (Scalar.ofBits (F := Ideal) .f32 0x3F000000#32))
    (addf acc (matmul dot_S256x512_S512x2048_S256x2048_1_0_0_1_n_n none h (wd : FVec Ideal S512x2048 .bf16) (constant S256x2048 .f32 0x00000000#32))))

theorem before_apply (x : FVec Ideal S256x2048 .f32) (wg wu : FVec Ideal S2048x512 .bf16) (wd : FVec Ideal S512x2048 .bf16) (acc : FVec Ideal S256x2048 .f32) (p : Fin 256) (j : Fin 2048) :
    before x wg wu wd acc (ix2 p j) = total x wg wu wd acc p j := by
  unfold before total mixed
  dsimp only
  refine congrArg (fun s => Ideal.ofBits .f32 0x3F9837F0#32 * x (ix2 p j) + Ideal.ofBits .f32 0x3F000000#32 * (acc (ix2 p j) + s)) ?_
  show FloatOps.matmul (DotDims.plain 256 512 2048) none _ _ _ _ = _
  rw [Ideal.matmul_plain_apply]
  show Ideal.ofBits .f32 0x00000000#32 + _ = _
  rw [Ideal.ofBits_zero_f32, zero_add]
  refine Finset.sum_congr rfl fun k _ => ?_
  have e : ∀ w : FVec Ideal S2048x512 .bf16, (matmul dot_S256x2048_S2048x512_S256x512_1_0_0_1_n_n none (truncf .bf16 x bitsLt_bf16_f32) (w : FVec Ideal S2048x512 .bf16) (constant S256x512 .f32 0x00000000#32)) (ix2 p k)
      = ∑ l, x (ix2 p l) * w (ix2 l k) := fun w => by
    show FloatOps.matmul (DotDims.plain 256 2048 512) none _ _ _ _ = _
    rw [Ideal.matmul_plain_apply]
    show Ideal.ofBits .f32 0x00000000#32 + _ = _
    rw [Ideal.ofBits_zero_f32, zero_add]
    rfl
  refine congrArg (· * wd (ix2 k j)) ?_
  unfold _root_.Layer.hidden
  rw [← e wg, ← e wu]
  rfl

theorem pay5_eq (x : FVec Ideal S256x2048 .f32) (wg wu : FVec Ideal S2048x512 .bf16) (wd : FVec Ideal S512x2048 .bf16) (acc : FVec Ideal S256x2048 .f32) :
    k0_pay5 (F := Ideal) x wg wu wd acc = centre (before x wg wu wd acc) := by
  unfold k0_pay5
  simp only [shapeCast_self]
  rfl

/-- What a part stores is the layer norm of its rows. -/
theorem last_apply (x : FVec Ideal S256x2048 .f32) (wg wu : FVec Ideal S2048x512 .bf16) (wd : FVec Ideal S512x2048 .bf16) (acc : FVec Ideal S256x2048 .f32) (g b : FVec Ideal S1x2048 .f32) (p : Fin 256) (j : Fin 2048) :
    last x wg wu wd acc g b (ix2 p j) = norm (total x wg wu wd acc p) (fun k => g (ix2 0 k)) (fun k => b (ix2 0 k)) j := by
  have hy : (fun k => before x wg wu wd acc (ix2 p k)) = total x wg wu wd acc p := funext fun k => before_apply x wg wu wd acc p k
  unfold last k0_pay6
  rw [pay5_eq]
  generalize before x wg wu wd acc = y at hy ⊢
  unfold k0_pay8 k0_pay3 k0_pay4 k0_pay7
  simp only [shapeCast_self]
  show centre y (ix2 p j) * broadcastTo S256x2048 _ broadcasts_S256x1_S256x2048 (ix2 p j) * broadcastTo S256x2048 _ broadcasts_S1x2048_S256x2048 (ix2 p j) + broadcastTo S256x2048 _ broadcasts_S1x2048_S256x2048 (ix2 p j) = _
  rw [column_apply, row_apply, row_apply, centre_apply]
  show _ * Ideal.rsqrt (divf (shapeCast S256x1 _ shapeCasts_S256_S256x1) (broadcast S256x1 (Scalar.ofBits (F := Ideal) .f32 0x45000000#32)) (ix2 p 0) + Ideal.ofBits .f32 0x3727C5AC#32) * _ + _ = _
  rw [rowMean_apply]
  unfold _root_.Layer.norm
  rw [hy]
  refine congrArg (fun s => centred (total x wg wu wd acc p) j * Ideal.rsqrt (mean s + Ideal.ofBits .f32 0x3727C5AC#32) * g (ix2 0 j) + b (ix2 0 j)) (funext fun k => ?_)
  show centre y (ix2 p k) * centre y (ix2 p k) = _
  rw [centre_apply, hy]

end Cert.FfnIdeal.Layer
-- ==== Proof.FfnArray.lean ====
/- What the feed-forward call's result array ends holding: every row is the layer norm of its weighted row, of the launched
   arguments. -/
module

public import proofs.«01_k».proof.Proof.FfnIdealRead
public import proofs.«01_k».proof.Proof.Gen.FfnIdeal.Value

@[expose] public section

noncomputable section

namespace Cert.FfnIdeal.Layer

open Idealize.ShloMosaic hiding ix0 ix1 ix2 ix3 ix4 ix5
open Idealize.ShloMosaic.TcCoe Idealize.SL.Sem
open Idealize.ShloMosaic.ValueIdx Idealize.ShloMosaic.Tactic Cert.FfnIdeal Cert.FfnIdeal.Gen _root_.Layer
open Idealize.ShloMosaic.Pipeline (Dat)

variable (m : (ℓ : Loc nD τ sig) → Buf (Elt Ideal) ℓ) (c : Dev nD)

abbrev argX : Vec Ideal S8x2048x2048 .f32 := m ((c : Thread nD τ).loc main_arg0)
abbrev argGate : Vec Ideal S2048x5632 .f32 := m ((c : Thread nD τ).loc main_arg1)
abbrev argUp : Vec Ideal S2048x5632 .f32 := m ((c : Thread nD τ).loc main_arg2)
abbrev argDown : Vec Ideal S5632x2048 .f32 := m ((c : Thread nD τ).loc main_arg3)
abbrev argG : Vec Ideal S2048 .f32 := m ((c : Thread nD τ).loc main_arg4)
abbrev argB : Vec Ideal S2048 .f32 := m ((c : Thread nD τ).loc main_arg5)

/-! ## The arrays the call's windows read -/

/-- The input by rows. -/
theorem V_x : (V m c main_v0 : Vec Ideal S16384x2048 .f32) = shapeCast S16384x2048 (argX m c) shapeCasts_S8x2048x2048_S16384x2048 := by
  show StableHlo.after hostOps0 _ main_v0 = _
  after_results
  rfl

theorem V_gate : (V m c main_v1 : S2048x5632.Idx → EReal) = argGate m c := by
  show StableHlo.after hostOps0 _ main_v1 = _
  after_results
  rfl

theorem V_up : (V m c main_v2 : S2048x5632.Idx → EReal) = argUp m c := by
  show StableHlo.after hostOps0 _ main_v2 = _
  after_results
  rfl

theorem V_down : (V m c main_v3 : S5632x2048.Idx → EReal) = argDown m c := by
  show StableHlo.after hostOps0 _ main_v3 = _
  after_results
  rfl

theorem V_gain : (V m c main_v4 : Vec Ideal S1x2048 .f32) = broadcastInDim S1x2048 ![1] bcast_S2048_S1x2048_1 (argG m c) := by
  show StableHlo.after hostOps0 _ main_v4 = _
  after_results

theorem V_shift : (V m c main_v5 : Vec Ideal S1x2048 .f32) = broadcastInDim S1x2048 ![1] bcast_S2048_S1x2048_1 (argB m c) := by
  show StableHlo.after hostOps0 _ main_v5 = _
  after_results

/-- Row `R` of the input, by its batch element and position. -/
def rowX (x : S8x2048x2048.Idx → EReal) (R : Fin 16384) : Row := fun j => x (ix3 (⟨R.val / 2048, by omega⟩ : Fin 8) (⟨R.val % 2048, Nat.mod_lt _ (by decide)⟩ : Fin 2048) j)

theorem rows_apply (x : Vec Ideal S8x2048x2048 .f32) (R : Fin 16384) (j : Fin 2048) :
    shapeCast S16384x2048 x shapeCasts_S8x2048x2048_S16384x2048 (ix2 R j) = rowX x R j := by
  refine shapeCast_apply _ _ (ix2 R j) _ ?_
  rw [Shape.rowMajor_val_three, Shape.rowMajor_val_two]
  show (R.val / 2048 * 2048 + R.val % 2048) * 2048 + j.val = R.val * 2048 + j.val
  omega

theorem vector_apply (x : Vec Ideal S2048 .f32) (j : Fin 2048) : broadcastInDim S1x2048 ![1] bcast_S2048_S1x2048_1 x (ix2 (0 : Fin 1) j) = x (ix1 j) := by
  refine broadcastInDim_apply _ bcast_S2048_S1x2048_1 x _ (ix1 j) fun a => ?_
  match a with
  | ⟨0, _⟩ => rfl

/-! ## The blocks of a grid point -/

theorem index_x (t : Fin cfg0.N) : win0_0.index t 0 = t.val / 11 ∧ win0_0.index t 1 = 0 := by
  revert t; decide +kernel

theorem index_weights (t : Fin cfg0.N) : (win0_1.index t 0 = 0 ∧ win0_1.index t 1 = t.val % 11) ∧ (win0_2.index t 0 = 0 ∧ win0_2.index t 1 = t.val % 11)
    ∧ (win0_3.index t 0 = t.val % 11 ∧ win0_3.index t 1 = 0) := by
  revert t; decide +kernel

theorem index_vectors (t : Fin cfg0.N) : (win0_4.index t 0 = 0 ∧ win0_4.index t 1 = 0) ∧ (win0_5.index t 0 = 0 ∧ win0_5.index t 1 = 0) := by
  revert t; decide +kernel

theorem lt176 (t : Fin cfg0.N) : t.val < 176 := lt_of_lt_of_eq t.isLt N_0

/-- The array row of row `p` of a grid point's block. -/
abbrev at_row (t : Fin cfg0.N) (p : Fin 1024) : Fin 16384 := ⟨1024 * (t.val / 11) + p.val, by have := lt176 t; omega⟩

/-- The hidden unit of unit `k` of a grid point's tile. -/
abbrev at_unit (t : Fin cfg0.N) (k : Fin 512) : Fin 5632 := ⟨512 * (t.val % 11) + k.val, by omega⟩

/-- Reading the blocks of the windows. -/
theorem read_x (t : Fin cfg0.N) (p : Fin 1024) (j : Fin 2048) (A : Buf (Elt Ideal) ((c : Thread nD τ).loc main_v0)) :
    (((cfg0.win 0).blk t).view.read (Elt Ideal) A : Vec Ideal S1024x2048 .f32) (ix2 p j) = (A : Vec Ideal S16384x2048 .f32) (ix2 (at_row t p) j) := by
  rw [View.read_apply]
  refine congrArg A (funext fun a => Fin.ext ?_)
  match a with
  | ⟨0, _⟩ => show win0_0.index t 0 * 1024 + 1 * p.val = 1024 * (t.val / 11) + p.val; rw [(index_x t).1]; omega
  | ⟨1, _⟩ => exact win0_0.rect_emb_val_of_index_zero t 1 (index_x t).2 _

theorem read_gate (t : Fin cfg0.N) (l : Fin 2048) (k : Fin 512) (A : Buf (Elt Ideal) ((c : Thread nD τ).loc main_v1)) :
    (((cfg0.win 1).blk t).view.read (Elt Ideal) A : Vec Ideal S2048x512 .bf16) (ix2 l k) = (A : Vec Ideal S2048x5632 .bf16) (ix2 l (at_unit t k)) := by
  rw [View.read_apply]
  refine congrArg A (funext fun a => Fin.ext ?_)
  match a with
  | ⟨0, _⟩ => exact win0_1.rect_emb_val_of_index_zero t 0 (index_weights t).1.1 _
  | ⟨1, _⟩ => show win0_1.index t 1 * 512 + 1 * k.val = 512 * (t.val % 11) + k.val; rw [(index_weights t).1.2]; omega

theorem read_up (t : Fin cfg0.N) (l : Fin 2048) (k : Fin 512) (A : Buf (Elt Ideal) ((c : Thread nD τ).loc main_v2)) :
    (((cfg0.win 2).blk t).view.read (Elt Ideal) A : Vec Ideal S2048x512 .bf16) (ix2 l k) = (A : Vec Ideal S2048x5632 .bf16) (ix2 l (at_unit t k)) := by
  rw [View.read_apply]
  refine congrArg A (funext fun a => Fin.ext ?_)
  match a with
  | ⟨0, _⟩ => exact win0_2.rect_emb_val_of_index_zero t 0 (index_weights t).2.1.1 _
  | ⟨1, _⟩ => show win0_2.index t 1 * 512 + 1 * k.val = 512 * (t.val % 11) + k.val; rw [(index_weights t).2.1.2]; omega

theorem read_down (t : Fin cfg0.N) (k : Fin 512) (j : Fin 2048) (A : Buf (Elt Ideal) ((c : Thread nD τ).loc main_v3)) :
    (((cfg0.win 3).blk t).view.read (Elt Ideal) A : Vec Ideal S512x2048 .bf16) (ix2 k j) = (A : Vec Ideal S5632x2048 .bf16) (ix2 (at_unit t k) j) := by
  rw [View.read_apply]
  refine congrArg A (funext fun a => Fin.ext ?_)
  match a with
  | ⟨0, _⟩ => show win0_3.index t 0 * 512 + 1 * k.val = 512 * (t.val % 11) + k.val; rw [(index_weights t).2.2.1]; omega
  | ⟨1, _⟩ => exact win0_3.rect_emb_val_of_index_zero t 1 (index_weights t).2.2.2 _

theorem read_gain (t : Fin cfg0.N) (j : Fin 2048) (A : Buf (Elt Ideal) ((c : Thread nD τ).loc main_v4)) :
    (((cfg0.win 4).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_4.rect_emb_val_of_index_zero t 0 (index_vectors t).1.1 _
  | ⟨1, _⟩ => exact win0_4.rect_emb_val_of_index_zero t 1 (index_vectors t).1.2 _

theorem read_shift (t : Fin cfg0.N) (j : Fin 2048) (A : Buf (Elt Ideal) ((c : Thread nD τ).loc main_v5)) :
    (((cfg0.win 5).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_5.rect_emb_val_of_index_zero t 0 (index_vectors t).2.1 _
  | ⟨1, _⟩ => exact win0_5.rect_emb_val_of_index_zero t 1 (index_vectors t).2.2 _

/-- The input's block at a grid point. -/
theorem iblk_x (t : Fin cfg0.N) (p : Fin 1024) (j : Fin 2048) :
    (iblk m c 0 t : Vec Ideal S1024x2048 .f32) (ix2 p j) = rowX (argX m c) (at_row t p) j := by
  unfold iblk
  exact (read_x c t p j (V m c main_v0)).trans ((congrFun (V_x m c) _).trans (rows_apply (argX m c) (at_row t p) j))

theorem iblk_gate (t : Fin cfg0.N) (l : Fin 2048) (k : Fin 512) :
    (iblk m c 1 t : Vec Ideal S2048x512 .bf16) (ix2 l k) = argGate m c (ix2 l (at_unit t k)) := by
  unfold iblk
  exact (read_gate c t l k (V m c main_v1)).trans (congrFun (V_gate m c) _)

theorem iblk_up (t : Fin cfg0.N) (l : Fin 2048) (k : Fin 512) :
    (iblk m c 2 t : Vec Ideal S2048x512 .bf16) (ix2 l k) = argUp m c (ix2 l (at_unit t k)) := by
  unfold iblk
  exact (read_up c t l k (V m c main_v2)).trans (congrFun (V_up m c) _)

theorem iblk_down (t : Fin cfg0.N) (k : Fin 512) (j : Fin 2048) :
    (iblk m c 3 t : Vec Ideal S512x2048 .bf16) (ix2 k j) = argDown m c (ix2 (at_unit t k) j) := by
  unfold iblk
  exact (read_down c t k j (V m c main_v3)).trans (congrFun (V_down m c) _)

theorem iblk_gain (t : Fin cfg0.N) (j : Fin 2048) : (iblk m c 4 t : Vec Ideal S1x2048 .f32) (ix2 (0 : Fin 1) j) = argG m c (ix1 j) := by
  unfold iblk
  exact (read_gain c t j (V m c main_v4)).trans ((congrFun (V_gain m c) _).trans (vector_apply (argG m c) j))

theorem iblk_shift (t : Fin cfg0.N) (j : Fin 2048) : (iblk m c 5 t : Vec Ideal S1x2048 .f32) (ix2 (0 : Fin 1) j) = argB m c (ix1 j) := by
  unfold iblk
  exact (read_shift c t j (V m c main_v5)).trans ((congrFun (V_shift m c) _).trans (vector_apply (argB m c) j))

/-! ## The running sum -/

/-- The shares of row `R`'s column `j`, of the arguments. -/
abbrev shares (R : Fin 16384) (j : Fin 2048) : ℕ → EReal :=
  share (rowX (argX m c) R) (fun l k => argGate m c (ix2 l k)) (fun l k => argUp m c (ix2 l k)) (fun k j => argDown m c (ix2 k j)) j

/-- A grid point's product is its tile's shares. -/
theorem tile_shares (t : Fin cfg0.N) (p : Fin 1024) (j : Fin 2048) :
    tile (n := 1024) (iblk m c 0 t : Vec Ideal S1024x2048 .f32) (iblk m c 1 t : Vec Ideal S2048x512 .bf16) (iblk m c 2 t : Vec Ideal S2048x512 .bf16) (iblk m c 3 t : Vec Ideal S512x2048 .bf16) p j
      = ∑ k : Fin 512, shares m c (at_row t p) j (512 * (t.val % 11) + k.val) := by
  unfold tile
  refine Finset.sum_congr rfl fun k _ => ?_
  have hk : 512 * (t.val % 11) + k.val < 5632 := by omega
  show _ = share _ _ _ _ j _
  rw [share, dif_pos hk, iblk_down]
  simp only [iblk_x, iblk_gate, iblk_up]

theorem sum_congr_tile (f : ℕ → EReal) (n n' : ℕ) (h : n = n') : ∑ k : Fin 512, f (512 * n + k.val) = ∑ k : Fin 512, f (512 * n' + k.val) := by rw [h]

/-- After the point of tile `f` the running sum holds the shares of the tiles up to `f`. -/
theorem sum_at (q : ℕ) (f : ℕ) : ∀ (n : ℕ) (hn : n < cfg0.N), n = 11 * q + f → f ≤ 9 → ∀ (p : Fin 1024) (j : Fin 2048),
    (outsAt0 m c n hn).2 (ix2 p j) = ∑ k ∈ Finset.range (512 * f + 512), shares m c (at_row ⟨n, hn⟩ p) j k := by
  induction f with
  | zero =>
    intro n hn e hf p j
    have h0 : (⟨n, hn⟩ : Fin cfg0.N).val % 11 = 0 := by dsimp only; omega
    rw [outsAt0_A m c ⟨n, hn⟩ h0 (by omega) (by omega)]
    dsimp only
    rw [first_eq, first_apply, tile_shares, sum_share_add]
    show _ = ∑ k ∈ Finset.range 0, _ + _
    rw [Finset.sum_range_zero, zero_add]
    exact sum_congr_tile (shares m c (at_row ⟨n, hn⟩ p) j) _ _ h0
  | succ f ih =>
    intro n hn e hf p j
    have h1 : (⟨n, hn⟩ : Fin cfg0.N).val % 11 = f + 1 := by dsimp only; omega
    rw [outsAt0_B m c ⟨n, hn⟩ (by omega) (by omega) (by omega)]
    dsimp only
    rw [middle_eq, middle_apply, tile_shares, sum_share_add]
    refine congrArg₂ (· + ·) ?_ (sum_congr_tile (shares m c (at_row ⟨n, hn⟩ p) j) _ _ h1)
    have hr : ∀ hn', at_row ⟨n - 1, hn'⟩ p = at_row ⟨n, hn⟩ p := fun hn' => Fin.ext (by show 1024 * ((n - 1) / 11) + p.val = 1024 * (n / 11) + p.val; omega)
    rw [ih (n - 1) _ (by omega) (by omega) p j, hr]
    rfl

/-! ## The last tile's point -/

section
variable {F : FTy → Type} [FloatOps F]

theorem whole_load {e : EltTy} {n0 n1 : Nat} (g : Memref sig .tc .vmem (⟨2, ![n0, n1]⟩ : Shape) e) (hg : g.IsWhole) (x : Vec F (⟨2, ![n0, n1]⟩ : Shape) e)
    (inb : ∀ z, (![0, 0] : Fin 2 → Nat) z + (![n0, n1] : Fin 2 → Nat) z ≤ (![n0, n1] : Fin 2 → Nat) z) :
    View.readAt (Elt F) g.view (Rect.unit (s := (⟨2, ![n0, n1]⟩ : Shape)) ![0, 0] ![n0, n1] inb).toLoadRect (hg.unread x) = x := by
  rw [View.readAt_eq_ld, hg.read_unread]
  exact View.ld_unit_zero (S := (⟨2, ![n0, n1]⟩ : Shape)) hz _ _

theorem rowsLoad_apply (g : Memref sig .tc .vmem S1024x2048 .f32) (hg : g.IsWhole) (x : Vec F S1024x2048 .f32) (r : Fin 4) (p : Fin 256) (j : Fin 2048) :
    rowsLoad g hg x r (ix2 p j) = x (ix2 (⟨256 * r.val + p.val, by omega⟩ : Fin 1024) j) := by
  show g.view.read (Elt F) (hg.unread x) _ = _
  rw [hg.read_unread]
  refine congrArg x (funext fun z => Fin.ext ?_)
  match z with
  | ⟨0, _⟩ => show 256 * r.val + 1 * p.val = 256 * r.val + p.val; omega
  | ⟨1, _⟩ => show 0 + 1 * j.val = j.val; omega
end

/-- What the output's buffer holds after the last tile's point. -/
theorem out_at (t : Fin cfg0.N) (h : t.val % 11 = 10) (y : S1024x2048.Idx) :
    (outsAt0 m c t.val t.isLt).1 y
      = norm (mixed (rowX (argX m c) (at_row t (y 0))) (ffn (rowX (argX m c) (at_row t (y 0))) (fun l k => argGate m c (ix2 l k)) (fun l k => argUp m c (ix2 l k)) (fun k j => argDown m c (ix2 k j))))
          (fun k => argG m c (ix1 k)) (fun k => argB m c (ix1 k)) (y 1 : Fin 2048) := by
  have hy : (y 0).val < 1024 := (y 0).isLt
  rw [outsAt0_C m c t (by omega) (by omega) h]
  dsimp only
  rw [last_eq]
  unfold block stored
  rw [whole_load (ms0_1 t), whole_load (ms0_2 t), whole_load (ms0_3 t), whole_load (ms0_4 t), whole_load (ms0_5 t)]
  refine (last_apply _ _ _ _ _ _ _ _ _).trans ?_
  have er : (⟨256 * ((y 0).val / 256) + (y 0).val % 256, by omega⟩ : Fin 1024) = y 0 := Fin.ext (by dsimp only; omega)
  have e1 : (fun k => (iblk m c 4 t : Vec Ideal S1x2048 .f32) (ix2 (0 : Fin 1) k)) = fun k => argG m c (ix1 k) := funext fun k => iblk_gain m c t k
  have e2 : (fun k => (iblk m c 5 t : Vec Ideal S1x2048 .f32) (ix2 (0 : Fin 1) k)) = fun k => argB m c (ix1 k) := funext fun k => iblk_shift m c t k
  rw [e1, e2]
  refine congrArg (fun s => norm s (fun k => argG m c (ix1 k)) (fun k => argB m c (ix1 k)) (y 1 : Fin 2048)) ?_
  unfold total
  refine congrArg₂ mixed (funext fun j => ?_) (funext fun j => ?_)
  · rw [rowsLoad_apply]
    dsimp only
    rw [er]
    exact iblk_x m c t (y 0) j
  · rw [rowsLoad_apply]
    dsimp only
    rw [er, ← sum_share]
    refine Eq.trans ?_ (sum_share_add (shares m c (at_row t (y 0)) j) 5120 512).symm
    have hr : ∀ hn', at_row ⟨t.val - 1, hn'⟩ (y 0) = at_row t (y 0) := fun hn' => Fin.ext (by show 1024 * ((t.val - 1) / 11) + (y 0).val = 1024 * (t.val / 11) + (y 0).val; omega)
    refine congrArg₂ (· + ·) ?_ ?_
    · rw [sum_at m c (t.val / 11) 9 (t.val - 1) _ (by omega) (le_refl 9) (y 0) j, hr]
    · refine Eq.trans ?_ ((tile_shares m c t (y 0) j).trans (sum_congr_tile (shares m c (at_row t (y 0)) j) _ 10 h))
      unfold tile
      refine Finset.sum_congr rfl fun k _ => ?_
      have ex : (fun l => rowsLoad (ms0_0 t) (hs0_0 t) (iblk m c 0 t) ⟨(y 0).val / 256, by omega⟩ (ix2 (⟨(y 0).val % 256, Nat.mod_lt _ (by decide)⟩ : Fin 256) l))
          = fun l => (iblk m c 0 t : Vec Ideal S1024x2048 .f32) (ix2 (y 0) l) := funext fun l => by
        rw [rowsLoad_apply]
        dsimp only
        rw [er]
      rw [ex]

/-! ## The result -/

/-- What the result array ends holding. -/
def result : Buf (Elt Ideal) ((c : Thread nD τ).loc main_v6) := fun y : S16384x2048.Idx =>
  norm (mixed (rowX (argX m c) (y 0)) (ffn (rowX (argX m c) (y 0)) (fun l k => argGate m c (ix2 l k)) (fun l k => argUp m c (ix2 l k)) (fun k j => argDown m c (ix2 k j))))
    (fun k => argG m c (ix1 k)) (fun k => argB m c (ix1 k)) (y 1 : Fin 2048)

theorem final : Value.G6 m c = result m c := by
  funext y
  have h0 : (y 0).val < 16384 := (y 0).isLt
  have h1 : (y 1).val < 2048 := (y 1).isLt
  have hp : Value.pt6Of y = 11 * ((y 0).val / 1024) + 10 := by
    show 11 * (1 * ((y 0).val / 1024 - 0) + 1 * ((y 1).val / 2048 - 0)) + 10 = _; omega
  have hN : Value.pt6Of y < cfg0.N := lt_of_lt_of_eq (by rw [hp]; omega) N_0.symm
  unfold Value.G6
  rw [dif_pos hN, ← Value.outsAt0_sweep m c (Value.pt6Of y) hN]
  refine (out_at m c ⟨Value.pt6Of y, hN⟩ (by dsimp only; rw [hp]; omega) _).trans ?_
  have e0 : at_row ⟨Value.pt6Of y, hN⟩ (Value.loc6Of y 0) = y 0 := Fin.ext (by
    show 1024 * (Value.pt6Of y / 11) + (y 0).val % 1024 = (y 0).val; rw [hp]; omega)
  have e1 : (Value.loc6Of y 1 : Fin 2048) = y 1 := Fin.ext (Nat.mod_eq_of_lt h1)
  unfold result
  rw [e0, e1]

/-- The run, read: the result at the layer of the arguments, the arguments as launched. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run m ρ)

end Cert.FfnIdeal.Layer
-- ==== Proof.FfnReferenceRead.lean ====
/- The feed-forward layer's plain form, entry by entry. -/
module

public import proofs.«01_k».proof.Proof.Gen.FfnReferenceIdeal.Read
public import proofs.«01_k».proof.Proof.FfnMath

@[expose] public section

noncomputable section

namespace Cert.FfnReferenceIdeal.Layer

open Idealize.ShloMosaic
open Idealize.ShloMosaic.ValueIdx
open Cert.FfnReferenceIdeal Cert.FfnReferenceIdeal.Read
open Cert.FfnReferenceIdeal.Gen
open _root_.Layer

variable (x : S8x2048x2048.Idx → EReal) (wg wu : S2048x5632.Idx → EReal) (wd : S5632x2048.Idx → EReal) (g b : S2048.Idx → EReal)

/-- The gate's product and the other one. -/
theorem gate_apply (p : Fin 8) (q : Fin 2048) (k : Fin 5632) : val_main_v0 (F := Ideal) x wg (ix3 p q k) = ∑ l, x (ix3 p q l) * wg (ix2 l k) := by
  rw [val_main_v0_apply]
  refine Finset.sum_congr rfl fun l _ => congrArg₂ (· * ·) (congrArg x (funext fun a => Fin.ext ?_)) (congrArg wg (funext fun a => Fin.ext ?_))
  · match a with
    | ⟨0, _⟩ | ⟨1, _⟩ | ⟨2, _⟩ => rfl
  · match a with
    | ⟨0, _⟩ | ⟨1, _⟩ => rfl

theorem up_apply (p : Fin 8) (q : Fin 2048) (k : Fin 5632) : val_main_v2 (F := Ideal) x wu (ix3 p q k) = ∑ l, x (ix3 p q l) * wu (ix2 l k) :=
  gate_apply x wu p q k

theorem hidden_apply (p : Fin 8) (q : Fin 2048) (k : Fin 5632) : val_main_v3 (F := Ideal) x wg wu (ix3 p q k)
    = hidden (fun l => x (ix3 p q l)) (fun l => wg (ix2 l k)) (fun l => wu (ix2 l k)) := by
  rw [val_main_v3_apply, val_main_v1_apply, val_main_call0_v5_apply, val_main_call0_v4_apply, val_main_call0_v3_apply, val_main_call0_v2_apply,
    val_main_call0_v1_apply, val_main_call0_v0_apply, val_main_call0_cst_apply, val_main_call0_cst_0_apply, gate_apply, up_apply]
  show _ * Ideal.div (Ideal.ofBits .f32 0x3F800000#32) (Ideal.ofBits .f32 0x3F800000#32 + Ideal.exp (-_)) * _ = _
  rw [Ideal.ofBits_one_f32]
  rfl

/-- The row a batch element's position is before the layer norm. -/
abbrev row (p : Fin 8) (q : Fin 2048) : Row :=
  mixed (fun j => x (ix3 p q j)) (ffn (fun l => x (ix3 p q l)) (fun l k => wg (ix2 l k)) (fun l k => wu (ix2 l k)) (fun k j => wd (ix2 k j)))

theorem before_apply (p : Fin 8) (q j : Fin 2048) : val_main_v9 (F := Ideal) x wg wu wd (ix3 p q j) = row x wg wu wd p q j := by
  rw [val_main_v9_apply, val_main_v8_apply, val_main_v7_apply, val_main_cst_0_apply, val_main_v6_apply, val_main_v5_apply, val_main_cst_apply, val_main_v4_apply]
  refine congrArg (fun s => Ideal.ofBits .f32 0x3F9837F0#32 * x (ix3 p q j) + Ideal.ofBits .f32 0x3F000000#32 * s) (Finset.sum_congr rfl fun k _ => ?_)
  rw [← hidden_apply]
  refine congrArg₂ (· * ·) (congrArg _ (funext fun a => Fin.ext ?_)) (congrArg wd (funext fun a => Fin.ext ?_))
  · match a with
    | ⟨0, _⟩ | ⟨1, _⟩ | ⟨2, _⟩ => rfl
  · match a with
    | ⟨0, _⟩ | ⟨1, _⟩ => rfl

theorem mean_apply (p : Fin 8) (q : Fin 2048) : val_main_v13 (F := Ideal) x wg wu wd (ix3 p q (0 : Fin 1)) = mean (row x wg wu wd p q) := by
  rw [val_main_v13_apply, val_main_v12_apply, val_main_cst_2_apply, val_main_v11_apply, val_main_v10_apply, val_main_cst_1_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [← before_apply]
  refine congrArg _ (funext fun a => Fin.ext ?_)
  match a with
  | ⟨0, _⟩ | ⟨1, _⟩ | ⟨2, _⟩ => rfl

theorem centred_apply (p : Fin 8) (q j : Fin 2048) : val_main_v15 (F := Ideal) x wg wu wd (ix3 p q j) = centred (row x wg wu wd p q) j := by
  rw [val_main_v15_apply, val_main_v14_apply, before_apply]
  refine congrArg (fun s => row x wg wu wd p q j - s) ?_
  rw [← mean_apply]
  refine congrArg _ (funext fun a => Fin.ext ?_)
  match a with
  | ⟨0, _⟩ | ⟨1, _⟩ | ⟨2, _⟩ => rfl

theorem centred_again (p : Fin 8) (q j : Fin 2048) : val_main_v22 (F := Ideal) x wg wu wd (ix3 p q j) = centred (row x wg wu wd p q) j :=
  centred_apply x wg wu wd p q j

theorem variance_apply (p : Fin 8) (q : Fin 2048) : val_main_v20 (F := Ideal) x wg wu wd (ix3 p q (0 : Fin 1))
    = mean fun k => centred (row x wg wu wd p q) k * centred (row x wg wu wd p q) k := by
  rw [val_main_v20_apply, val_main_v19_apply, val_main_cst_4_apply, val_main_v18_apply, val_main_v17_apply, val_main_cst_3_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [val_main_v16_apply]
  have e : idx_main_v17 (idx_main_v18 (ix3 p q (0 : Fin 1))) k = ix3 p q k := funext fun a => Fin.ext (by
    match a with
    | ⟨0, _⟩ | ⟨1, _⟩ | ⟨2, _⟩ => rfl)
  rw [e, centred_apply]
  rfl

/-- The result at a batch element's position. -/
theorem norm_apply (p : Fin 8) (q j : Fin 2048) : val_main_v33 (F := Ideal) x wg wu wd g b (ix3 p q j)
    = norm (row x wg wu wd p q) (fun k => g (ix1 k)) (fun k => b (ix1 k)) j := by
  rw [val_main_v33_apply, val_main_v30_apply, val_main_v27_apply, centred_again, val_main_v26_apply, val_main_v25_apply, val_main_v24_apply, val_main_v23_apply,
    val_main_cst_5_apply, val_main_v29_apply, val_main_v28_apply, val_main_v32_apply, val_main_v31_apply]
  have e : idx_main_v26 (ix3 p q j) = ix3 p q (0 : Fin 1) := funext fun a => Fin.ext (by
    match a with
    | ⟨0, _⟩ | ⟨1, _⟩ | ⟨2, _⟩ => rfl)
  rw [e, variance_apply]
  have eg : ∀ (h : S2048.Idx), h 0 = j → h = ix1 j := fun h hh => funext fun a => by
    match a with
    | ⟨0, _⟩ => exact hh
  show _ * Ideal.rsqrt (_ + _) * g _ + b _ = _
  rw [eg (idx_main_v28 (idx_main_v29 (ix3 p q j))) rfl, eg (idx_main_v31 (idx_main_v32 (ix3 p q j))) rfl]
  rfl

/-- The result at row `2048 p + q`. -/
theorem result_apply (i : S16384x2048.Idx) : val_main_v34 (F := Ideal) x wg wu wd g b i
    = norm (row x wg wu wd ⟨(i 0).val / 2048, by have h : (i 0).val < 16384 := (i 0).isLt; omega⟩ ⟨(i 0).val % 2048, Nat.mod_lt _ (by decide)⟩)
        (fun k => g (ix1 k)) (fun k => b (ix1 k)) (i 1) := by
  rw [val_main_v34_apply]
  refine Eq.trans ?_ (norm_apply x wg wu wd g b _ _ _)
  have h0 : (i 0).val < 16384 := (i 0).isLt
  have h1 : (i 1).val < 2048 := (i 1).isLt
  refine congrArg _ (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.FfnReferenceIdeal.Layer
-- ==== Proof.FfnSampleBody.lean ====
/- What the feed-forward body leaves at one grid point of the sampled batch's call, whose one tile of rows has all 256 of them:
   the running sum after the first and the middle tiles of hidden units, and the block it stores at the last. -/
module

public import proofs.«01_k».proof.Proof.Gen.FfnSampleIdeal.Frame
public import Idealize.ShloMosaic.Lib.Pipeline.Value
public import Idealize.ShloMosaic.Lib.Pipeline.ValueKit
public import Idealize.ShloMosaic.Lib.Tactic

@[expose] public section

noncomputable section

namespace Cert.FfnSampleIdeal.Layer

open Idealize.ShloMosaic Idealize.ShloMosaic.Tactic Cert.FfnSampleIdeal Cert.FfnSampleIdeal.Gen

variable {F : FTy → Type} [FloatOps F]

theorem hz : (![0, 0] : Fin 2 → Nat) = fun _ => 0 := funext fun a => by fin_cases a <;> rfl

/-- What the last tile's point stores, from the rows, the tiles, the running sum, the gain and the shift. -/
def last (x : Vec F S256x2048 .f32) (wg wu : Vec F S2048x512 .bf16) (wd : Vec F S512x2048 .bf16) (acc : Vec F S256x2048 .f32) (g b : Vec F S1x2048 .f32) : FVec F S256x2048 .f32 :=
  k0_pay3 (k0_pay4 g) (k0_pay5 b) (k0_pay6 x wg wu wd acc) (k0_pay7 x wg wu wd acc) k0_pay8

section
variable (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (x0 : Vec F S256x2048 .f32) (x1 : Vec F S2048x512 .bf16) (x2 : Vec F S2048x512 .bf16) (x3 : Vec F S512x2048 .bf16) (x4 : Vec F S1x2048 .f32) (x5 : Vec F S1x2048 .f32) (xs0 : Vec F S256x2048 .f32)

/-- The first tile's point leaves its product in the running sum. -/
theorem first_eq (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 x5 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4 x5)]
  unfold kernelRun0_A
  dsimp only
  rw [View.canon_unit_zero hz]
  simp only [View.readAt_eq_ld, harg2.read_unread, harg3.read_unread, harg4.read_unread, harg5.read_unread, harg6.read_unread, harg7.read_unread, harg9.read_unread,
    View.ld_unit_zero (S := S256x2048) hz, View.ld_unit_zero (S := S2048x512) hz, View.ld_unit_zero (S := S512x2048) hz, View.ld_unit_zero (S := S1x2048) hz]

/-- A middle tile's point adds its product to the running sum. -/
theorem middle_eq (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 x0 x1 x2 x3 x4 x5 xs0)]
  unfold kernelRun0_B
  dsimp only
  rw [View.canon_unit_zero hz]
  simp only [View.readAt_eq_ld, harg2.read_unread, harg3.read_unread, harg4.read_unread, harg5.read_unread, harg6.read_unread, harg7.read_unread, harg9.read_unread,
    View.ld_unit_zero (S := S256x2048) hz, View.ld_unit_zero (S := S2048x512) hz, View.ld_unit_zero (S := S512x2048) hz, View.ld_unit_zero (S := S1x2048) hz]

/-- The last tile's one store, over the buffers' reads. -/
theorem run_pieces (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 hc0 hc1 hc2 x0 x1 x2 x3 x4 x5 xs0).1
      = [⟨Rect.unit ![0, 0] S256x2048.size inb_S256x2048_S256x2048_0_0,
          last (View.readAt (Elt F) arg2.view (Rect.unit ![0, 0] S256x2048.size inb_S256x2048_S256x2048_0_0).toLoadRect (harg2.unread x0))
            (View.readAt (Elt F) arg3.view (Rect.unit ![0, 0] S2048x512.size inb_S2048x512_S2048x512_0_0).toLoadRect (harg3.unread x1))
            (View.readAt (Elt F) arg4.view (Rect.unit ![0, 0] S2048x512.size inb_S2048x512_S2048x512_0_0).toLoadRect (harg4.unread x2))
            (View.readAt (Elt F) arg5.view (Rect.unit ![0, 0] S512x2048.size inb_S512x2048_S512x2048_0_0).toLoadRect (harg5.unread x3))
            (View.readAt (Elt F) arg9.view (Rect.unit ![0, 0] S256x2048.size inb_S256x2048_S256x2048_0_0).toLoadRect (harg9.unread xs0))
            (View.readAt (Elt F) arg6.view (Rect.unit ![0, 0] S1x2048.size inb_S1x2048_S1x2048_0_0).toLoadRect (harg6.unread x4))
            (View.readAt (Elt F) arg7.view (Rect.unit ![0, 0] S1x2048.size inb_S1x2048_S1x2048_0_0).toLoadRect (harg7.unread x5))⟩] := by
  sl_kernel_rfl

/-- The last tile's point stores the layer norm of the rows. -/
theorem last_eq (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2 x0 x1 x2 x3 x4 x5 xs0 = last x0 x1 x2 x3 xs0 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 hc2 x0 x1 x2 x3 x4 x5 xs0)]
  rw [run_pieces, View.canon_unit_zero hz]
  simp only [View.readAt_eq_ld, harg2.read_unread, harg3.read_unread, harg4.read_unread, harg5.read_unread, harg6.read_unread, harg7.read_unread, harg9.read_unread,
    View.ld_unit_zero (S := S256x2048) hz, View.ld_unit_zero (S := S2048x512) hz, View.ld_unit_zero (S := S512x2048) hz, View.ld_unit_zero (S := S1x2048) hz]
end

end Cert.FfnSampleIdeal.Layer
-- ==== Proof.NormRead.lean ====
/- The layer norm of a tile's rows, and the rows of a batch, read at an index over the extended reals. -/
module

public import proofs.«01_k».proof.Proof.FfnMath
public import Idealize.ShloMosaic.Lib.MatmulPlain
public import Idealize.ShloMosaic.Lib.ValueLayout
public import Idealize.ShloMosaic.Lib.ValueLayoutCasts
public import Idealize.ShloMosaic.Lib.Pointwise.Reduce
public import Idealize.ShloMosaic.Lib.Pipeline.Value

@[expose] public section

noncomputable section

namespace Layer

open Idealize.ShloMosaic hiding ix0 ix1 ix2 ix3 ix4 ix5
open Idealize.ShloMosaic.ValueIdx

variable {n : Nat}

/-- The residual row, weighted by the literal, and a sublayer's row. -/
def joined (x y : Row) : Row := fun j => Ideal.ofBits .f32 0x3F9837F0#32 * x j + y j

/-- Row `R` of a batch, by its batch element and position. -/
def rowOf {w : Nat} (x : (⟨3, ![8, 2048, w]⟩ : Shape).Idx → EReal) (R : Fin 16384) : Fin w → EReal := fun j =>
  x (ix3 (⟨R.val / 2048, by omega⟩ : Fin 8) (⟨R.val % 2048, Nat.mod_lt _ (by decide)⟩ : Fin 2048) j)

/-- The batch laid out by rows. -/
theorem rowOf_apply {w : Nat} (x : (⟨3, ![8, 2048, w]⟩ : Shape).Idx → EReal) (h : (⟨3, ![8, 2048, w]⟩ : Shape).ShapeCasts ⟨2, ![16384, w]⟩) (R : Fin 16384) (j : Fin w) :
    shapeCast ⟨2, ![16384, w]⟩ x h (ix2 R j) = rowOf x R j := by
  refine shapeCast_apply _ _ (ix2 R j) _ ?_
  rw [Shape.rowMajor_val_three, Shape.rowMajor_val_two]
  show (R.val / 2048 * 2048 + R.val % 2048) * w + j.val = R.val * w + j.val
  rw [Nat.div_add_mod']

/-- Row `R` of the output projection: the two sublayers' rows times the upper and the lower half of the weight. -/
def projection (yc ys : (⟨3, ![8, 2048, 1024]⟩ : Shape).Idx → EReal) (w : (⟨2, ![2048, 2048]⟩ : Shape).Idx → EReal) (R : Fin 16384) : Row := fun j =>
  ∑ k : Fin 1024, rowOf yc R k * w (ix2 (⟨k.val, by omega⟩ : Fin 2048) j) + ∑ k : Fin 1024, rowOf ys R k * w (ix2 (⟨1024 + k.val, by omega⟩ : Fin 2048) j)

/-- A row's index is its two coordinates. -/
theorem eta2 {a b : Nat} (y : (⟨2, ![a, b]⟩ : Shape).Idx) : y = ix2 (y 0) (y 1) := funext fun x => by
  match x with
  | ⟨0, _⟩ | ⟨1, _⟩ => rfl

/-- A row's mean, of a tile's rows. -/
theorem tileMean_apply (s : FVec Ideal ⟨2, ![n, 2048]⟩ .f32) (hr : (⟨2, ![n, 2048]⟩ : Shape).Reduces [1] ⟨1, ![n]⟩) (hc : (⟨1, ![n]⟩ : Shape).ShapeCasts ⟨2, ![n, 1]⟩) (p : Fin n) :
    divf (shapeCast ⟨2, ![n, 1]⟩ (multiReduction .add [1] ⟨1, ![n]⟩ s 0x00000000#32 hr (.inl rfl) rfl) hc)
      (broadcast ⟨2, ![n, 1]⟩ (Scalar.ofBits (F := Ideal) .f32 0x45000000#32)) (ix2 p 0) = mean fun k => s (ix2 p k) := by
  show Ideal.div (shapeCast ⟨2, ![n, 1]⟩ _ hc (ix2 p 0)) (Ideal.ofBits .f32 0x45000000#32) = _
  rw [shapeCast_a_a1_apply]
  show Ideal.div (Ideal.reduceAdd hr s (ix1 p)) _ = _
  rw [Ideal.reduceAdd_r2_a1]
  rfl

/-- A column repeated along the rows. -/
theorem tileColumn_apply {w : Nat} (v : FVec Ideal ⟨2, ![n, 1]⟩ .f32) (h : (⟨2, ![n, 1]⟩ : Shape).Broadcasts ⟨2, ![n, w]⟩) (p : Fin n) (j : Fin w) :
    broadcastTo ⟨2, ![n, w]⟩ v h (ix2 p j) = v (ix2 p 0) := by
  refine broadcastTo_apply _ _ _ _ fun x => ?_
  match x with
  | ⟨0, _⟩ =>
    show p.val = if n = 1 then 0 else p.val
    split
    · omega
    · rfl
  | ⟨1, _⟩ => rfl

/-- A row repeated down the columns. -/
theorem tileRow_apply (v : FVec Ideal ⟨2, ![1, 2048]⟩ .f32) (h : (⟨2, ![1, 2048]⟩ : Shape).Broadcasts ⟨2, ![n, 2048]⟩) (p : Fin n) (j : Fin 2048) :
    broadcastTo ⟨2, ![n, 2048]⟩ v h (ix2 p j) = v (ix2 0 j) := by
  refine broadcastTo_apply _ _ _ _ fun x => ?_
  match x with
  | ⟨0, _⟩ => rfl
  | ⟨1, _⟩ => rfl

/-- A tile's rows less their means. -/
def tileCentre (y : FVec Ideal ⟨2, ![n, 2048]⟩ .f32) (hr : (⟨2, ![n, 2048]⟩ : Shape).Reduces [1] ⟨1, ![n]⟩) (hc : (⟨1, ![n]⟩ : Shape).ShapeCasts ⟨2, ![n, 1]⟩)
    (hb : (⟨2, ![n, 1]⟩ : Shape).Broadcasts ⟨2, ![n, 2048]⟩) : FVec Ideal ⟨2, ![n, 2048]⟩ .f32 :=
  subf y (broadcastTo ⟨2, ![n, 2048]⟩ (divf (shapeCast ⟨2, ![n, 1]⟩ (multiReduction .add [1] ⟨1, ![n]⟩ y 0x00000000#32 hr (.inl rfl) rfl) hc)
      (broadcast ⟨2, ![n, 1]⟩ (Scalar.ofBits (F := Ideal) .f32 0x45000000#32))) hb)

theorem tileCentre_apply (y : FVec Ideal ⟨2, ![n, 2048]⟩ .f32) (hr : (⟨2, ![n, 2048]⟩ : Shape).Reduces [1] ⟨1, ![n]⟩) (hc : (⟨1, ![n]⟩ : Shape).ShapeCasts ⟨2, ![n, 1]⟩)
    (hb : (⟨2, ![n, 1]⟩ : Shape).Broadcasts ⟨2, ![n, 2048]⟩) (p : Fin n) (j : Fin 2048) : tileCentre y hr hc hb (ix2 p j) = centred (fun k => y (ix2 p k)) j := by
  show y (ix2 p j) - broadcastTo ⟨2, ![n, 2048]⟩ _ hb (ix2 p j) = _
  rw [tileColumn_apply, tileMean_apply]
  rfl

/-- The layer norm of a tile's rows with gain `g` and shift `b`. -/
def tileNorm (y : FVec Ideal ⟨2, ![n, 2048]⟩ .f32) (g b : FVec Ideal ⟨2, ![1, 2048]⟩ .f32) (hr : (⟨2, ![n, 2048]⟩ : Shape).Reduces [1] ⟨1, ![n]⟩) (hc : (⟨1, ![n]⟩ : Shape).ShapeCasts ⟨2, ![n, 1]⟩)
    (hb : (⟨2, ![n, 1]⟩ : Shape).Broadcasts ⟨2, ![n, 2048]⟩) (hv : (⟨2, ![1, 2048]⟩ : Shape).Broadcasts ⟨2, ![n, 2048]⟩) : FVec Ideal ⟨2, ![n, 2048]⟩ .f32 :=
  addf (mulf (mulf (tileCentre y hr hc hb) (broadcastTo ⟨2, ![n, 2048]⟩ (rsqrt (addf (divf (shapeCast ⟨2, ![n, 1]⟩
      (multiReduction .add [1] ⟨1, ![n]⟩ (mulf (tileCentre y hr hc hb) (tileCentre y hr hc hb)) 0x00000000#32 hr (.inl rfl) rfl) hc)
      (broadcast ⟨2, ![n, 1]⟩ (Scalar.ofBits (F := Ideal) .f32 0x45000000#32))) (broadcast ⟨2, ![n, 1]⟩ (Scalar.ofBits (F := Ideal) .f32 0x3727C5AC#32)))) hb))
      (broadcastTo ⟨2, ![n, 2048]⟩ g hv)) (broadcastTo ⟨2, ![n, 2048]⟩ b hv)

theorem tileNorm_apply (y : FVec Ideal ⟨2, ![n, 2048]⟩ .f32) (g b : FVec Ideal ⟨2, ![1, 2048]⟩ .f32) (hr : (⟨2, ![n, 2048]⟩ : Shape).Reduces [1] ⟨1, ![n]⟩) (hc : (⟨1, ![n]⟩ : Shape).ShapeCasts ⟨2, ![n, 1]⟩)
    (hb : (⟨2, ![n, 1]⟩ : Shape).Broadcasts ⟨2, ![n, 2048]⟩) (hv : (⟨2, ![1, 2048]⟩ : Shape).Broadcasts ⟨2, ![n, 2048]⟩) (p : Fin n) (j : Fin 2048) :
    tileNorm y g b hr hc hb hv (ix2 p j) = norm (fun k => y (ix2 p k)) (fun k => g (ix2 0 k)) (fun k => b (ix2 0 k)) j := by
  show tileCentre y hr hc hb (ix2 p j) * broadcastTo ⟨2, ![n, 2048]⟩ _ hb (ix2 p j) * broadcastTo ⟨2, ![n, 2048]⟩ _ hv (ix2 p j) + broadcastTo ⟨2, ![n, 2048]⟩ _ hv (ix2 p j) = _
  rw [tileColumn_apply, tileRow_apply, tileRow_apply, tileCentre_apply]
  show _ * Ideal.rsqrt (divf (shapeCast ⟨2, ![n, 1]⟩ _ hc) (broadcast ⟨2, ![n, 1]⟩ (Scalar.ofBits (F := Ideal) .f32 0x45000000#32)) (ix2 p 0) + Ideal.ofBits .f32 0x3727C5AC#32) * _ + _ = _
  rw [tileMean_apply]
  unfold _root_.Layer.norm
  refine congrArg (fun s => centred (fun k => y (ix2 p k)) j * Ideal.rsqrt (mean s + Ideal.ofBits .f32 0x3727C5AC#32) * g (ix2 0 j) + b (ix2 0 j)) (funext fun k => ?_)
  show tileCentre y hr hc hb (ix2 p k) * tileCentre y hr hc hb (ix2 p k) = _
  rw [tileCentre_apply]

/-- A plain product into a zero accumulator. -/
theorem product_apply {k w : Nat} {φ₁ φ₂ : FTy} (x : FVec Ideal ⟨2, ![n, k]⟩ φ₁) (y : FVec Ideal ⟨2, ![k, w]⟩ φ₂) (p : Fin n) (j : Fin w) :
    FloatOps.matmul (F := Ideal) (DotDims.plain n k w) none x y (constant ⟨2, ![n, w]⟩ .f32 0x00000000#32) (ix2 p j) = ∑ l, x (ix2 p l) * y (ix2 l j) := by
  rw [Ideal.matmul_plain_apply]
  show Ideal.ofBits .f32 0x00000000#32 + _ = _
  rw [Ideal.ofBits_zero_f32, zero_add]

end Layer
-- ==== Proof.FfnSampleIdealRead.lean ====
/- The feed-forward body's payloads, of the sampled batch's tile of 256 rows, read at an index over the extended reals. -/
module

public import proofs.«01_k».proof.Proof.FfnSampleBody
public import proofs.«01_k».proof.Proof.NormRead

@[expose] public section

noncomputable section

namespace Cert.FfnSampleIdeal.Layer

open Idealize.ShloMosaic hiding ix0 ix1 ix2 ix3 ix4 ix5
open Idealize.ShloMosaic.ValueIdx Cert.FfnSampleIdeal Cert.FfnSampleIdeal.Gen _root_.Layer

variable (x : FVec Ideal S256x2048 .f32) (wg wu : FVec Ideal S2048x512 .bf16) (wd : FVec Ideal S512x2048 .bf16) (acc : FVec Ideal S256x2048 .f32) (g b : FVec Ideal S1x2048 .f32)

/-- A tile's product at row `p` and column `j`. -/
def tile (p : Fin 256) (j : Fin 2048) : EReal :=
  ∑ k : Fin 512, hidden (fun l => x (ix2 p l)) (fun l => wg (ix2 l k)) (fun l => wu (ix2 l k)) * wd (ix2 k j)

/-- The first tile's product, at an index. -/
theorem first_apply (p : Fin 256) (j : Fin 2048) : k0_pay1 (F := Ideal) x wg wu wd (ix2 p j) = tile x wg wu wd p j := by
  unfold k0_pay1
  simp only [shapeCast_self]
  show FloatOps.matmul (F := Ideal) (DotDims.plain 256 512 2048) none _ _ (constant ⟨2, ![256, 2048]⟩ .f32 0x00000000#32) (ix2 p j) = _
  rw [product_apply]
  refine Finset.sum_congr rfl fun k _ => congrArg (· * wd (ix2 k j)) ?_
  have e : ∀ w : FVec Ideal S2048x512 .bf16, (matmul dot_S256x2048_S2048x512_S256x512_1_0_0_1_n_n none (truncf .bf16 x bitsLt_bf16_f32) w (constant S256x512 .f32 0x00000000#32)) (ix2 p k)
      = ∑ l, x (ix2 p l) * w (ix2 l k) := fun w => product_apply (n := 256) (k := 2048) (w := 512) (φ₁ := .bf16) (φ₂ := .bf16) x w p k
  unfold _root_.Layer.hidden
  rw [← e wg, ← e wu]
  rfl

/-- A middle tile adds its product to the running sum. -/
theorem middle_apply (p : Fin 256) (j : Fin 2048) : k0_pay2 (F := Ideal) x wg wu wd acc (ix2 p j) = acc (ix2 p j) + tile x wg wu wd p j := by
  rw [← first_apply]
  unfold k0_pay2 k0_pay1
  simp only [shapeCast_self]
  rfl

/-- A row before the layer norm. -/
def total (p : Fin 256) : Row := mixed (fun j => x (ix2 p j)) fun j => acc (ix2 p j) + tile x wg wu wd p j

/-- The rows before the layer norm: the residual and the running sum with the last tile's product, weighted. -/
def before : FVec Ideal S256x2048 .f32 :=
  addf (mulf (broadcast S256x2048 (Scalar.ofBits (F := Ideal) .f32 0x3F9837F0#32)) x)
    (mulf (broadcast S256x2048 (Scalar.ofBits (F := Ideal) .f32 0x3F000000#32)) (k0_pay2 (F := Ideal) x wg wu wd acc))

theorem before_apply (p : Fin 256) (j : Fin 2048) : before x wg wu wd acc (ix2 p j) = total x wg wu wd acc p j := by
  show Ideal.ofBits .f32 0x3F9837F0#32 * x (ix2 p j) + Ideal.ofBits .f32 0x3F000000#32 * k0_pay2 (F := Ideal) x wg wu wd acc (ix2 p j) = _
  rw [middle_apply]
  rfl

theorem pay6_eq : k0_pay6 (F := Ideal) x wg wu wd acc = tileCentre (before x wg wu wd acc) reduces_S256x2048_S256 shapeCasts_S256_S256x1 broadcasts_S256x1_S256x2048 := by
  unfold k0_pay6 before k0_pay2
  simp only [shapeCast_self]
  rfl

/-- What the last point stores is the layer norm of the rows. -/
theorem last_apply (p : Fin 256) (j : Fin 2048) :
    last (F := Ideal) x wg wu wd acc g b (ix2 p j) = norm (total x wg wu wd acc p) (fun k => g (ix2 0 k)) (fun k => b (ix2 0 k)) j := by
  have hy : (fun k => before x wg wu wd acc (ix2 p k)) = total x wg wu wd acc p := funext fun k => before_apply x wg wu wd acc p k
  rw [← hy]
  unfold last k0_pay7
  rw [pay6_eq]
  unfold k0_pay3 k0_pay4 k0_pay5 k0_pay8
  simp only [shapeCast_self]
  exact tileNorm_apply (n := 256) (before x wg wu wd acc) g b reduces_S256x2048_S256 shapeCasts_S256_S256x1 broadcasts_S256x1_S256x2048 broadcasts_S1x2048_S256x2048 p j

end Cert.FfnSampleIdeal.Layer
-- ==== Proof.FfnSampleArray.lean ====
/- What the feed-forward call's result array ends holding, of the sampled batch: every row is the layer norm of its weighted row, of the launched
   arguments. -/
module

public import proofs.«01_k».proof.Proof.FfnSampleIdealRead
public import proofs.«01_k».proof.Proof.Gen.FfnSampleIdeal.Value

@[expose] public section

noncomputable section

namespace Cert.FfnSampleIdeal.Layer

open Idealize.ShloMosaic hiding ix0 ix1 ix2 ix3 ix4 ix5
open Idealize.ShloMosaic.TcCoe Idealize.SL.Sem
open Idealize.ShloMosaic.ValueIdx Idealize.ShloMosaic.Tactic Cert.FfnSampleIdeal Cert.FfnSampleIdeal.Gen _root_.Layer
open Idealize.ShloMosaic.Pipeline (Dat)

variable (m : (ℓ : Loc nD τ sig) → Buf (Elt Ideal) ℓ) (c : Dev nD)

abbrev argX : Vec Ideal S8x32x2048 .f32 := m ((c : Thread nD τ).loc main_arg0)
abbrev argGate : Vec Ideal S2048x5632 .f32 := m ((c : Thread nD τ).loc main_arg1)
abbrev argUp : Vec Ideal S2048x5632 .f32 := m ((c : Thread nD τ).loc main_arg2)
abbrev argDown : Vec Ideal S5632x2048 .f32 := m ((c : Thread nD τ).loc main_arg3)
abbrev argG : Vec Ideal S2048 .f32 := m ((c : Thread nD τ).loc main_arg4)
abbrev argB : Vec Ideal S2048 .f32 := m ((c : Thread nD τ).loc main_arg5)

/-! ## The arrays the call's windows read -/

/-- The input by rows. -/
theorem V_x : (V m c main_v0 : Vec Ideal S256x2048 .f32) = shapeCast S256x2048 (argX m c) shapeCasts_S8x32x2048_S256x2048 := by
  show StableHlo.after hostOps0 _ main_v0 = _
  after_results
  rfl

theorem V_gate : (V m c main_v1 : S2048x5632.Idx → EReal) = argGate m c := by
  show StableHlo.after hostOps0 _ main_v1 = _
  after_results
  rfl

theorem V_up : (V m c main_v2 : S2048x5632.Idx → EReal) = argUp m c := by
  show StableHlo.after hostOps0 _ main_v2 = _
  after_results
  rfl

theorem V_down : (V m c main_v3 : S5632x2048.Idx → EReal) = argDown m c := by
  show StableHlo.after hostOps0 _ main_v3 = _
  after_results
  rfl

theorem V_gain : (V m c main_v4 : Vec Ideal S1x2048 .f32) = broadcastInDim S1x2048 ![1] bcast_S2048_S1x2048_1 (argG m c) := by
  show StableHlo.after hostOps0 _ main_v4 = _
  after_results

theorem V_shift : (V m c main_v5 : Vec Ideal S1x2048 .f32) = broadcastInDim S1x2048 ![1] bcast_S2048_S1x2048_1 (argB m c) := by
  show StableHlo.after hostOps0 _ main_v5 = _
  after_results

/-- Row `R` of the input, by its batch element and position. -/
def rowX (x : S8x32x2048.Idx → EReal) (R : Fin 256) : Row := fun j => x (ix3 (⟨R.val / 32, by omega⟩ : Fin 8) (⟨R.val % 32, Nat.mod_lt _ (by decide)⟩ : Fin 32) j)

theorem rows_apply (x : Vec Ideal S8x32x2048 .f32) (R : Fin 256) (j : Fin 2048) :
    shapeCast S256x2048 x shapeCasts_S8x32x2048_S256x2048 (ix2 R j) = rowX x R j := by
  refine shapeCast_apply _ _ (ix2 R j) _ ?_
  rw [Shape.rowMajor_val_three, Shape.rowMajor_val_two]
  show (R.val / 32 * 32 + R.val % 32) * 2048 + j.val = R.val * 2048 + j.val
  omega

theorem vector_apply (x : Vec Ideal S2048 .f32) (j : Fin 2048) : broadcastInDim S1x2048 ![1] bcast_S2048_S1x2048_1 x (ix2 (0 : Fin 1) j) = x (ix1 j) := by
  refine broadcastInDim_apply _ bcast_S2048_S1x2048_1 x _ (ix1 j) fun a => ?_
  match a with
  | ⟨0, _⟩ => rfl

/-! ## The blocks of a grid point -/

theorem index_x (t : Fin cfg0.N) : win0_0.index t 0 = t.val / 11 ∧ win0_0.index t 1 = 0 := by
  revert t; decide +kernel

theorem index_weights (t : Fin cfg0.N) : (win0_1.index t 0 = 0 ∧ win0_1.index t 1 = t.val % 11) ∧ (win0_2.index t 0 = 0 ∧ win0_2.index t 1 = t.val % 11)
    ∧ (win0_3.index t 0 = t.val % 11 ∧ win0_3.index t 1 = 0) := by
  revert t; decide +kernel

theorem index_vectors (t : Fin cfg0.N) : (win0_4.index t 0 = 0 ∧ win0_4.index t 1 = 0) ∧ (win0_5.index t 0 = 0 ∧ win0_5.index t 1 = 0) := by
  revert t; decide +kernel

theorem lt11 (t : Fin cfg0.N) : t.val < 11 := lt_of_lt_of_eq t.isLt N_0

/-- The array row of row `p` of a grid point's block. -/
abbrev at_row (t : Fin cfg0.N) (p : Fin 256) : Fin 256 := ⟨256 * (t.val / 11) + p.val, by have := lt11 t; omega⟩

/-- The hidden unit of unit `k` of a grid point's tile. -/
abbrev at_unit (t : Fin cfg0.N) (k : Fin 512) : Fin 5632 := ⟨512 * (t.val % 11) + k.val, by omega⟩

/-- Reading the blocks of the windows. -/
theorem read_x (t : Fin cfg0.N) (p : Fin 256) (j : Fin 2048) (A : Buf (Elt Ideal) ((c : Thread nD τ).loc main_v0)) :
    (((cfg0.win 0).blk t).view.read (Elt Ideal) A : Vec Ideal S256x2048 .f32) (ix2 p j) = (A : Vec Ideal S256x2048 .f32) (ix2 (at_row t p) j) := by
  rw [View.read_apply]
  refine congrArg A (funext fun a => Fin.ext ?_)
  match a with
  | ⟨0, _⟩ => show win0_0.index t 0 * 256 + 1 * p.val = 256 * (t.val / 11) + p.val; rw [(index_x t).1]; omega
  | ⟨1, _⟩ => exact win0_0.rect_emb_val_of_index_zero t 1 (index_x t).2 _

theorem read_gate (t : Fin cfg0.N) (l : Fin 2048) (k : Fin 512) (A : Buf (Elt Ideal) ((c : Thread nD τ).loc main_v1)) :
    (((cfg0.win 1).blk t).view.read (Elt Ideal) A : Vec Ideal S2048x512 .bf16) (ix2 l k) = (A : Vec Ideal S2048x5632 .bf16) (ix2 l (at_unit t k)) := by
  rw [View.read_apply]
  refine congrArg A (funext fun a => Fin.ext ?_)
  match a with
  | ⟨0, _⟩ => exact win0_1.rect_emb_val_of_index_zero t 0 (index_weights t).1.1 _
  | ⟨1, _⟩ => show win0_1.index t 1 * 512 + 1 * k.val = 512 * (t.val % 11) + k.val; rw [(index_weights t).1.2]; omega

theorem read_up (t : Fin cfg0.N) (l : Fin 2048) (k : Fin 512) (A : Buf (Elt Ideal) ((c : Thread nD τ).loc main_v2)) :
    (((cfg0.win 2).blk t).view.read (Elt Ideal) A : Vec Ideal S2048x512 .bf16) (ix2 l k) = (A : Vec Ideal S2048x5632 .bf16) (ix2 l (at_unit t k)) := by
  rw [View.read_apply]
  refine congrArg A (funext fun a => Fin.ext ?_)
  match a with
  | ⟨0, _⟩ => exact win0_2.rect_emb_val_of_index_zero t 0 (index_weights t).2.1.1 _
  | ⟨1, _⟩ => show win0_2.index t 1 * 512 + 1 * k.val = 512 * (t.val % 11) + k.val; rw [(index_weights t).2.1.2]; omega

theorem read_down (t : Fin cfg0.N) (k : Fin 512) (j : Fin 2048) (A : Buf (Elt Ideal) ((c : Thread nD τ).loc main_v3)) :
    (((cfg0.win 3).blk t).view.read (Elt Ideal) A : Vec Ideal S512x2048 .bf16) (ix2 k j) = (A : Vec Ideal S5632x2048 .bf16) (ix2 (at_unit t k) j) := by
  rw [View.read_apply]
  refine congrArg A (funext fun a => Fin.ext ?_)
  match a with
  | ⟨0, _⟩ => show win0_3.index t 0 * 512 + 1 * k.val = 512 * (t.val % 11) + k.val; rw [(index_weights t).2.2.1]; omega
  | ⟨1, _⟩ => exact win0_3.rect_emb_val_of_index_zero t 1 (index_weights t).2.2.2 _

theorem read_gain (t : Fin cfg0.N) (j : Fin 2048) (A : Buf (Elt Ideal) ((c : Thread nD τ).loc main_v4)) :
    (((cfg0.win 4).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_4.rect_emb_val_of_index_zero t 0 (index_vectors t).1.1 _
  | ⟨1, _⟩ => exact win0_4.rect_emb_val_of_index_zero t 1 (index_vectors t).1.2 _

theorem read_shift (t : Fin cfg0.N) (j : Fin 2048) (A : Buf (Elt Ideal) ((c : Thread nD τ).loc main_v5)) :
    (((cfg0.win 5).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_5.rect_emb_val_of_index_zero t 0 (index_vectors t).2.1 _
  | ⟨1, _⟩ => exact win0_5.rect_emb_val_of_index_zero t 1 (index_vectors t).2.2 _

/-- The input's block at a grid point. -/
theorem iblk_x (t : Fin cfg0.N) (p : Fin 256) (j : Fin 2048) :
    (iblk m c 0 t : Vec Ideal S256x2048 .f32) (ix2 p j) = rowX (argX m c) (at_row t p) j := by
  unfold iblk
  exact (read_x c t p j (V m c main_v0)).trans ((congrFun (V_x m c) _).trans (rows_apply (argX m c) (at_row t p) j))

theorem iblk_gate (t : Fin cfg0.N) (l : Fin 2048) (k : Fin 512) :
    (iblk m c 1 t : Vec Ideal S2048x512 .bf16) (ix2 l k) = argGate m c (ix2 l (at_unit t k)) := by
  unfold iblk
  exact (read_gate c t l k (V m c main_v1)).trans (congrFun (V_gate m c) _)

theorem iblk_up (t : Fin cfg0.N) (l : Fin 2048) (k : Fin 512) :
    (iblk m c 2 t : Vec Ideal S2048x512 .bf16) (ix2 l k) = argUp m c (ix2 l (at_unit t k)) := by
  unfold iblk
  exact (read_up c t l k (V m c main_v2)).trans (congrFun (V_up m c) _)

theorem iblk_down (t : Fin cfg0.N) (k : Fin 512) (j : Fin 2048) :
    (iblk m c 3 t : Vec Ideal S512x2048 .bf16) (ix2 k j) = argDown m c (ix2 (at_unit t k) j) := by
  unfold iblk
  exact (read_down c t k j (V m c main_v3)).trans (congrFun (V_down m c) _)

theorem iblk_gain (t : Fin cfg0.N) (j : Fin 2048) : (iblk m c 4 t : Vec Ideal S1x2048 .f32) (ix2 (0 : Fin 1) j) = argG m c (ix1 j) := by
  unfold iblk
  exact (read_gain c t j (V m c main_v4)).trans ((congrFun (V_gain m c) _).trans (vector_apply (argG m c) j))

theorem iblk_shift (t : Fin cfg0.N) (j : Fin 2048) : (iblk m c 5 t : Vec Ideal S1x2048 .f32) (ix2 (0 : Fin 1) j) = argB m c (ix1 j) := by
  unfold iblk
  exact (read_shift c t j (V m c main_v5)).trans ((congrFun (V_shift m c) _).trans (vector_apply (argB m c) j))

/-! ## The running sum -/

/-- The shares of row `R`'s column `j`, of the arguments. -/
abbrev shares (R : Fin 256) (j : Fin 2048) : ℕ → EReal :=
  share (rowX (argX m c) R) (fun l k => argGate m c (ix2 l k)) (fun l k => argUp m c (ix2 l k)) (fun k j => argDown m c (ix2 k j)) j

/-- A grid point's product is its tile's shares. -/
theorem tile_shares (t : Fin cfg0.N) (p : Fin 256) (j : Fin 2048) :
    tile (iblk m c 0 t : Vec Ideal S256x2048 .f32) (iblk m c 1 t : Vec Ideal S2048x512 .bf16) (iblk m c 2 t : Vec Ideal S2048x512 .bf16) (iblk m c 3 t : Vec Ideal S512x2048 .bf16) p j
      = ∑ k : Fin 512, shares m c (at_row t p) j (512 * (t.val % 11) + k.val) := by
  unfold tile
  refine Finset.sum_congr rfl fun k _ => ?_
  have hk : 512 * (t.val % 11) + k.val < 5632 := by omega
  show _ = share _ _ _ _ j _
  rw [share, dif_pos hk, iblk_down]
  simp only [iblk_x, iblk_gate, iblk_up]

theorem sum_congr_tile (f : ℕ → EReal) (n n' : ℕ) (h : n = n') : ∑ k : Fin 512, f (512 * n + k.val) = ∑ k : Fin 512, f (512 * n' + k.val) := by rw [h]

/-- After the point of tile `f` the running sum holds the shares of the tiles up to `f`. -/
theorem sum_at (q : ℕ) (f : ℕ) : ∀ (n : ℕ) (hn : n < cfg0.N), n = 11 * q + f → f ≤ 9 → ∀ (p : Fin 256) (j : Fin 2048),
    (outsAt0 m c n hn).2 (ix2 p j) = ∑ k ∈ Finset.range (512 * f + 512), shares m c (at_row ⟨n, hn⟩ p) j k := by
  induction f with
  | zero =>
    intro n hn e hf p j
    have h0 : (⟨n, hn⟩ : Fin cfg0.N).val % 11 = 0 := by dsimp only; omega
    rw [outsAt0_A m c ⟨n, hn⟩ h0 (by omega) (by omega)]
    dsimp only
    rw [first_eq, first_apply, tile_shares, sum_share_add]
    show _ = ∑ k ∈ Finset.range 0, _ + _
    rw [Finset.sum_range_zero, zero_add]
    exact sum_congr_tile (shares m c (at_row ⟨n, hn⟩ p) j) _ _ h0
  | succ f ih =>
    intro n hn e hf p j
    have h1 : (⟨n, hn⟩ : Fin cfg0.N).val % 11 = f + 1 := by dsimp only; omega
    rw [outsAt0_B m c ⟨n, hn⟩ (by omega) (by omega) (by omega)]
    dsimp only
    rw [middle_eq, middle_apply, tile_shares, sum_share_add]
    refine congrArg₂ (· + ·) ?_ (sum_congr_tile (shares m c (at_row ⟨n, hn⟩ p) j) _ _ h1)
    have hr : ∀ hn', at_row ⟨n - 1, hn'⟩ p = at_row ⟨n, hn⟩ p := fun hn' => Fin.ext (by show 256 * ((n - 1) / 11) + p.val = 256 * (n / 11) + p.val; omega)
    rw [ih (n - 1) _ (by omega) (by omega) p j, hr]
    rfl

/-! ## The last tile's point -/

/-- What the output's buffer holds after the last tile's point. -/
theorem out_at (t : Fin cfg0.N) (h : t.val % 11 = 10) (p : Fin 256) (j : Fin 2048) :
    (outsAt0 m c t.val t.isLt).1 (ix2 p j)
      = norm (mixed (rowX (argX m c) (at_row t p)) (ffn (rowX (argX m c) (at_row t p)) (fun l k => argGate m c (ix2 l k)) (fun l k => argUp m c (ix2 l k)) (fun k j => argDown m c (ix2 k j))))
          (fun k => argG m c (ix1 k)) (fun k => argB m c (ix1 k)) j := by
  rw [outsAt0_C m c t (by omega) (by omega) h]
  dsimp only
  rw [last_eq]
  refine (last_apply _ _ _ _ _ _ _ _ _).trans ?_
  simp only [iblk_gain, iblk_shift]
  refine congrArg (fun s => norm s (fun k => argG m c (ix1 k)) (fun k => argB m c (ix1 k)) j) ?_
  unfold total
  refine congrArg₂ mixed (funext fun j => iblk_x m c t p j) (funext fun j => ?_)
  rw [← sum_share]
  refine Eq.trans ?_ (sum_share_add (shares m c (at_row t p) j) 5120 512).symm
  have hr : ∀ hn', at_row ⟨t.val - 1, hn'⟩ p = at_row t p := fun hn' => Fin.ext (by show 256 * ((t.val - 1) / 11) + p.val = 256 * (t.val / 11) + p.val; omega)
  refine congrArg₂ (· + ·) ?_ ((tile_shares m c t p j).trans (sum_congr_tile (shares m c (at_row t p) j) _ 10 h))
  rw [sum_at m c (t.val / 11) 9 (t.val - 1) _ (by omega) (le_refl 9) p j, hr]

/-! ## The result -/

/-- What the result array ends holding. -/
def result : Buf (Elt Ideal) ((c : Thread nD τ).loc main_v6) := fun y : S256x2048.Idx =>
  norm (mixed (rowX (argX m c) (y 0)) (ffn (rowX (argX m c) (y 0)) (fun l k => argGate m c (ix2 l k)) (fun l k => argUp m c (ix2 l k)) (fun k j => argDown m c (ix2 k j))))
    (fun k => argG m c (ix1 k)) (fun k => argB m c (ix1 k)) (y 1 : Fin 2048)

theorem final : Value.G6 m c = result m c := by
  funext y
  have h0 : (y 0).val < 256 := (y 0).isLt
  have h1 : (y 1).val < 2048 := (y 1).isLt
  have hp : Value.pt6Of y = 11 * ((y 0).val / 256) + 10 := by
    show 11 * (1 * ((y 0).val / 256 - 0) + 1 * ((y 1).val / 2048 - 0)) + 10 = _; omega
  have hN : Value.pt6Of y < cfg0.N := lt_of_lt_of_eq (by rw [hp]; omega) N_0.symm
  unfold Value.G6
  rw [dif_pos hN, ← Value.outsAt0_sweep m c (Value.pt6Of y) hN]
  refine (congrArg _ (eta2 (Value.loc6Of y))).trans ((out_at m c ⟨Value.pt6Of y, hN⟩ (by dsimp only; rw [hp]; omega) (Value.loc6Of y 0) (Value.loc6Of y 1)).trans ?_)
  have e0 : at_row ⟨Value.pt6Of y, hN⟩ (Value.loc6Of y 0) = y 0 := Fin.ext (by
    show 256 * (Value.pt6Of y / 11) + (y 0).val % 256 = (y 0).val; rw [hp]; omega)
  have e1 : (Value.loc6Of y 1 : Fin 2048) = y 1 := Fin.ext (Nat.mod_eq_of_lt h1)
  unfold result
  rw [e0, e1]

/-- The run, read: the result at the layer of the arguments, the arguments as launched. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run m ρ)

end Cert.FfnSampleIdeal.Layer
-- ==== Proof.FfnSampleReferenceRead.lean ====
/- The feed-forward layer's plain form at the sampled batch's shapes, entry by entry. -/
module

public import proofs.«01_k».proof.Proof.Gen.FfnSampleReferenceIdeal.Read
public import proofs.«01_k».proof.Proof.FfnMath

@[expose] public section

noncomputable section

namespace Cert.FfnSampleReferenceIdeal.Layer

open Idealize.ShloMosaic
open Idealize.ShloMosaic.ValueIdx
open Cert.FfnSampleReferenceIdeal Cert.FfnSampleReferenceIdeal.Read
open Cert.FfnSampleReferenceIdeal.Gen
open _root_.Layer

variable (x : S8x32x2048.Idx → EReal) (wg wu : S2048x5632.Idx → EReal) (wd : S5632x2048.Idx → EReal) (g b : S2048.Idx → EReal)

/-- The gate's product and the other one. -/
theorem gate_apply (p : Fin 8) (q : Fin 32) (k : Fin 5632) : val_main_v0 (F := Ideal) x wg (ix3 p q k) = ∑ l, x (ix3 p q l) * wg (ix2 l k) := by
  rw [val_main_v0_apply]
  refine Finset.sum_congr rfl fun l _ => congrArg₂ (· * ·) (congrArg x (funext fun a => Fin.ext ?_)) (congrArg wg (funext fun a => Fin.ext ?_))
  · match a with
    | ⟨0, _⟩ | ⟨1, _⟩ | ⟨2, _⟩ => rfl
  · match a with
    | ⟨0, _⟩ | ⟨1, _⟩ => rfl

theorem up_apply (p : Fin 8) (q : Fin 32) (k : Fin 5632) : val_main_v2 (F := Ideal) x wu (ix3 p q k) = ∑ l, x (ix3 p q l) * wu (ix2 l k) :=
  gate_apply x wu p q k

theorem hidden_apply (p : Fin 8) (q : Fin 32) (k : Fin 5632) : val_main_v3 (F := Ideal) x wg wu (ix3 p q k)
    = hidden (fun l => x (ix3 p q l)) (fun l => wg (ix2 l k)) (fun l => wu (ix2 l k)) := by
  rw [val_main_v3_apply, val_main_v1_apply, val_main_call0_v5_apply, val_main_call0_v4_apply, val_main_call0_v3_apply, val_main_call0_v2_apply,
    val_main_call0_v1_apply, val_main_call0_v0_apply, val_main_call0_cst_apply, val_main_call0_cst_0_apply, gate_apply, up_apply]
  show _ * Ideal.div (Ideal.ofBits .f32 0x3F800000#32) (Ideal.ofBits .f32 0x3F800000#32 + Ideal.exp (-_)) * _ = _
  rw [Ideal.ofBits_one_f32]
  rfl

/-- The row a batch element's position is before the layer norm. -/
abbrev row (p : Fin 8) (q : Fin 32) : Row :=
  mixed (fun j => x (ix3 p q j)) (ffn (fun l => x (ix3 p q l)) (fun l k => wg (ix2 l k)) (fun l k => wu (ix2 l k)) (fun k j => wd (ix2 k j)))

theorem before_apply (p : Fin 8) (q : Fin 32) (j : Fin 2048) : val_main_v9 (F := Ideal) x wg wu wd (ix3 p q j) = row x wg wu wd p q j := by
  rw [val_main_v9_apply, val_main_v8_apply, val_main_v7_apply, val_main_cst_0_apply, val_main_v6_apply, val_main_v5_apply, val_main_cst_apply, val_main_v4_apply]
  refine congrArg (fun s => Ideal.ofBits .f32 0x3F9837F0#32 * x (ix3 p q j) + Ideal.ofBits .f32 0x3F000000#32 * s) (Finset.sum_congr rfl fun k _ => ?_)
  rw [← hidden_apply]
  refine congrArg₂ (· * ·) (congrArg _ (funext fun a => Fin.ext ?_)) (congrArg wd (funext fun a => Fin.ext ?_))
  · match a with
    | ⟨0, _⟩ | ⟨1, _⟩ | ⟨2, _⟩ => rfl
  · match a with
    | ⟨0, _⟩ | ⟨1, _⟩ => rfl

theorem mean_apply (p : Fin 8) (q : Fin 32) : val_main_v13 (F := Ideal) x wg wu wd (ix3 p q (0 : Fin 1)) = mean (row x wg wu wd p q) := by
  rw [val_main_v13_apply, val_main_v12_apply, val_main_cst_2_apply, val_main_v11_apply, val_main_v10_apply, val_main_cst_1_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [← before_apply]
  refine congrArg _ (funext fun a => Fin.ext ?_)
  match a with
  | ⟨0, _⟩ | ⟨1, _⟩ | ⟨2, _⟩ => rfl

theorem centred_apply (p : Fin 8) (q : Fin 32) (j : Fin 2048) : val_main_v15 (F := Ideal) x wg wu wd (ix3 p q j) = centred (row x wg wu wd p q) j := by
  rw [val_main_v15_apply, val_main_v14_apply, before_apply]
  refine congrArg (fun s => row x wg wu wd p q j - s) ?_
  rw [← mean_apply]
  refine congrArg _ (funext fun a => Fin.ext ?_)
  match a with
  | ⟨0, _⟩ | ⟨1, _⟩ | ⟨2, _⟩ => rfl

theorem centred_again (p : Fin 8) (q : Fin 32) (j : Fin 2048) : val_main_v22 (F := Ideal) x wg wu wd (ix3 p q j) = centred (row x wg wu wd p q) j :=
  centred_apply x wg wu wd p q j

theorem variance_apply (p : Fin 8) (q : Fin 32) : val_main_v20 (F := Ideal) x wg wu wd (ix3 p q (0 : Fin 1))
    = mean fun k => centred (row x wg wu wd p q) k * centred (row x wg wu wd p q) k := by
  rw [val_main_v20_apply, val_main_v19_apply, val_main_cst_4_apply, val_main_v18_apply, val_main_v17_apply, val_main_cst_3_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [val_main_v16_apply]
  have e : idx_main_v17 (idx_main_v18 (ix3 p q (0 : Fin 1))) k = ix3 p q k := funext fun a => Fin.ext (by
    match a with
    | ⟨0, _⟩ | ⟨1, _⟩ | ⟨2, _⟩ => rfl)
  rw [e, centred_apply]
  rfl

/-- The result at a batch element's position. -/
theorem norm_apply (p : Fin 8) (q : Fin 32) (j : Fin 2048) : val_main_v33 (F := Ideal) x wg wu wd g b (ix3 p q j)
    = norm (row x wg wu wd p q) (fun k => g (ix1 k)) (fun k => b (ix1 k)) j := by
  rw [val_main_v33_apply, val_main_v30_apply, val_main_v27_apply, centred_again, val_main_v26_apply, val_main_v25_apply, val_main_v24_apply, val_main_v23_apply,
    val_main_cst_5_apply, val_main_v29_apply, val_main_v28_apply, val_main_v32_apply, val_main_v31_apply]
  have e : idx_main_v26 (ix3 p q j) = ix3 p q (0 : Fin 1) := funext fun a => Fin.ext (by
    match a with
    | ⟨0, _⟩ | ⟨1, _⟩ | ⟨2, _⟩ => rfl)
  rw [e, variance_apply]
  have eg : ∀ (h : S2048.Idx), h 0 = j → h = ix1 j := fun h hh => funext fun a => by
    match a with
    | ⟨0, _⟩ => exact hh
  show _ * Ideal.rsqrt (_ + _) * g _ + b _ = _
  rw [eg (idx_main_v28 (idx_main_v29 (ix3 p q j))) rfl, eg (idx_main_v31 (idx_main_v32 (ix3 p q j))) rfl]
  rfl

/-- The result at row `32 p + q`. -/
theorem result_apply (i : S256x2048.Idx) : val_main_v34 (F := Ideal) x wg wu wd g b i
    = norm (row x wg wu wd ⟨(i 0).val / 32, by have h : (i 0).val < 256 := (i 0).isLt; omega⟩ ⟨(i 0).val % 32, Nat.mod_lt _ (by decide)⟩)
        (fun k => g (ix1 k)) (fun k => b (ix1 k)) (i 1) := by
  rw [val_main_v34_apply]
  refine Eq.trans ?_ (norm_apply x wg wu wd g b _ _ _)
  have h0 : (i 0).val < 256 := (i 0).isLt
  have h1 : (i 1).val < 2048 := (i 1).isLt
  refine congrArg _ (funext fun a => Fin.ext ?_)
  match a with
  | ⟨0, _⟩ => show ((i 0).val * 2048 + (i 1).val) / 65536 = (i 0).val / 32; omega
  | ⟨1, _⟩ => show ((i 0).val * 2048 + (i 1).val) / 2048 % 32 = (i 0).val % 32; omega
  | ⟨2, _⟩ => show ((i 0).val * 2048 + (i 1).val) % 2048 = (i 1).val; omega

end Cert.FfnSampleReferenceIdeal.Layer
-- ==== Proof.MemKvArray.lean ====
/- What the call for the memory's keys and values leaves in its four result arrays: the memory's product with each of the two
   weights, by rows and by heads. -/
module

public import proofs.«01_k».proof.Proof.Gen.MemKvIdeal.Value
public import Idealize.ShloMosaic.Lib.MatmulPlain
public import Idealize.ShloMosaic.Lib.IdealHost
public import Idealize.ShloMosaic.Lib.Pipeline.ValueKit
public import Idealize.ShloMosaic.Lib.Tactic
public import Idealize.ShloMosaic.Lib.ValueLayout
public import Idealize.ShloMosaic.Lib.ValueLayoutCasts

@[expose] public section

noncomputable section

namespace Cert.MemKvIdeal.Memory

open Idealize.ShloMosaic hiding ix0 ix1 ix2 ix3 ix4 ix5
open Idealize.ShloMosaic.TcCoe Idealize.SL.Sem
open Idealize.ShloMosaic.ValueIdx Idealize.ShloMosaic.Tactic Cert.MemKvIdeal Cert.MemKvIdeal.Gen
open Idealize.ShloMosaic.Pipeline (Dat)

variable (m : (ℓ : Loc nD τ sig) → Buf (Elt Ideal) ℓ) (c : Dev nD)

abbrev argMem : Vec Ideal S8x256x2048 .f32 := m ((c : Thread nD τ).loc main_arg0)
abbrev argK : Vec Ideal S2048x1024 .f32 := m ((c : Thread nD τ).loc main_arg1)
abbrev argV : Vec Ideal S2048x1024 .f32 := m ((c : Thread nD τ).loc main_arg2)

/-- A request's memory token times a column of a weight. -/
def product (x : S8x256x2048.Idx → EReal) (w : S2048x1024.Idx → EReal) (b : Fin 8) (t : Fin 256) (j : Fin 1024) : EReal :=
  ∑ l : Fin 2048, x (ix3 b t l) * w (ix2 l j)

/-- The product with one row for each token of each request. -/
def byRows (x : S8x256x2048.Idx → EReal) (w : S2048x1024.Idx → EReal) : S2048x1024.Idx → EReal := fun y =>
  product x w ⟨(y 0).val / 256, by have h : (y 0).val < 2048 := (y 0).isLt; omega⟩ ⟨(y 0).val % 256, Nat.mod_lt _ (by decide)⟩ (y 1)

/-- The product with its columns split over the four heads. -/
def byHeads (x : S8x256x2048.Idx → EReal) (w : S2048x1024.Idx → EReal) : S8x256x4x256.Idx → EReal := fun y =>
  product x w (y 0) (y 1) ⟨(y 2).val * 256 + (y 3).val, by have h2 : (y 2).val < 4 := (y 2).isLt; have h3 : (y 3).val < 256 := (y 3).isLt; omega⟩

/-! ## The arrays the call's windows read -/

/-- The memory by rows. -/
theorem V_mem : (V m c main_v2 : Vec Ideal S2048x2048 .f32) = shapeCast S2048x2048 (argMem m c) shapeCasts_S8x256x2048_S2048x2048 := by
  show StableHlo.after hostOps0 _ main_v2 = _
  after_results
  rfl

theorem V_k : (V m c main_v0 : S2048x1024.Idx → EReal) = argK m c := by
  show StableHlo.after hostOps0 _ main_v0 = _
  after_results
  rfl

theorem V_v : (V m c main_v1 : S2048x1024.Idx → EReal) = argV m c := by
  show StableHlo.after hostOps0 _ main_v1 = _
  after_results
  rfl

/-- Row `R` of the memory, by its request and token. -/
theorem rows_apply (x : Vec Ideal S8x256x2048 .f32) (R l : Fin 2048) :
    shapeCast S2048x2048 x shapeCasts_S8x256x2048_S2048x2048 (ix2 R l)
      = x (ix3 (⟨R.val / 256, by omega⟩ : Fin 8) (⟨R.val % 256, Nat.mod_lt _ (by decide)⟩ : Fin 256) l) := by
  refine shapeCast_apply _ _ (ix2 R l) _ ?_
  rw [Shape.rowMajor_val_three, Shape.rowMajor_val_two]
  show (R.val / 256 * 256 + R.val % 256) * 2048 + l.val = R.val * 2048 + l.val
  omega

/-! ## The blocks of a grid point -/

theorem index_in (t : Fin cfg0.N) : (win0_0.index t 0 = t.val ∧ win0_0.index t 1 = 0) ∧ (win0_1.index t 0 = 0 ∧ win0_1.index t 1 = 0)
    ∧ (win0_2.index t 0 = 0 ∧ win0_2.index t 1 = 0) := by
  revert t; decide +kernel

theorem index_flat (t : Fin cfg0.N) : (win0_3.index t 0 = t.val ∧ win0_3.index t 1 = 0) ∧ (win0_4.index t 0 = t.val ∧ win0_4.index t 1 = 0) := by
  revert t; decide +kernel

theorem index_heads (t : Fin cfg0.N) : (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0 ∧ win0_6.index t 3 = 0) := by
  revert t; decide +kernel

theorem lt4 (t : Fin cfg0.N) : t.val < 4 := lt_of_lt_of_eq t.isLt N_0

/-- The array row of row `p` of a grid point's block. -/
abbrev at_row (t : Fin cfg0.N) (p : Fin 512) : Fin 2048 := ⟨512 * t.val + p.val, by have := lt4 t; omega⟩

theorem read_mem (t : Fin cfg0.N) (p : Fin 512) (l : Fin 2048) (A : Buf (Elt Ideal) ((c : Thread nD τ).loc main_v2)) :
    (((cfg0.win 0).blk t).view.read (Elt Ideal) A : Vec Ideal S512x2048 .f32) (ix2 p l) = (A : Vec Ideal S2048x2048 .f32) (ix2 (at_row t p) l) := by
  rw [View.read_apply]
  refine congrArg A (funext fun a => Fin.ext ?_)
  match a with
  | ⟨0, _⟩ => show win0_0.index t 0 * 512 + 1 * p.val = 512 * t.val + p.val; rw [(index_in t).1.1]; omega
  | ⟨1, _⟩ => exact win0_0.rect_emb_val_of_index_zero t 1 (index_in t).1.2 _

theorem read_k (t : Fin cfg0.N) (y : S2048x1024.Idx) (A : Buf (Elt Ideal) ((c : Thread nD τ).loc main_v0)) :
    (((cfg0.win 1).blk t).view.read (Elt Ideal) A : Vec Ideal S2048x1024 .bf16) y = (A : Vec Ideal S2048x1024 .bf16) y := by
  rw [View.read_apply]
  refine congrArg A (funext fun a => Fin.ext ?_)
  match a with
  | ⟨0, _⟩ => exact win0_1.rect_emb_val_of_index_zero t 0 (index_in t).2.1.1 _
  | ⟨1, _⟩ => exact win0_1.rect_emb_val_of_index_zero t 1 (index_in t).2.1.2 _

theorem read_v (t : Fin cfg0.N) (y : S2048x1024.Idx) (A : Buf (Elt Ideal) ((c : Thread nD τ).loc main_v1)) :
    (((cfg0.win 2).blk t).view.read (Elt Ideal) A : Vec Ideal S2048x1024 .bf16) y = (A : Vec Ideal S2048x1024 .bf16) y := by
  rw [View.read_apply]
  refine congrArg A (funext fun a => Fin.ext ?_)
  match a with
  | ⟨0, _⟩ => exact win0_2.rect_emb_val_of_index_zero t 0 (index_in t).2.2.1 _
  | ⟨1, _⟩ => exact win0_2.rect_emb_val_of_index_zero t 1 (index_in t).2.2.2 _

theorem iblk_mem (t : Fin cfg0.N) (p : Fin 512) (l : Fin 2048) : (iblk m c 0 t : Vec Ideal S512x2048 .f32) (ix2 p l)
    = argMem m c (ix3 (⟨(at_row t p).val / 256, by have := (at_row t p).isLt; omega⟩ : Fin 8) (⟨(at_row t p).val % 256, Nat.mod_lt _ (by decide)⟩ : Fin 256) l) := by
  unfold iblk
  exact (read_mem c t p l (V m c main_v2)).trans ((congrFun (V_mem m c) _).trans (rows_apply (argMem m c) (at_row t p) l))

theorem iblk_k (t : Fin cfg0.N) (y : S2048x1024.Idx) : (iblk m c 1 t : Vec Ideal S2048x1024 .bf16) y = argK m c y := by
  unfold iblk
  exact (read_k c t y (V m c main_v0)).trans (congrFun (V_k m c) _)

theorem iblk_v (t : Fin cfg0.N) (y : S2048x1024.Idx) : (iblk m c 2 t : Vec Ideal S2048x1024 .bf16) y = argV m c y := by
  unfold iblk
  exact (read_v c t y (V m c main_v1)).trans (congrFun (V_v m c) _)

/-! ## A grid point's product -/

theorem hz : (![0, 0] : Fin 2 → Nat) = fun _ => 0 := funext fun a => by
  match a with
  | ⟨0, _⟩ | ⟨1, _⟩ => rfl

theorem product_apply (x : FVec Ideal S512x2048 .f32) (w : FVec Ideal S2048x1024 .bf16) (p : Fin 512) (j : Fin 1024) :
    k0_pay8 (F := Ideal) x w (ix2 p j) = ∑ l, x (ix2 p l) * w (ix2 l j) := by
  unfold k0_pay8
  simp only [shapeCast_self]
  show FloatOps.matmul (DotDims.plain 512 2048 1024) none _ _ _ _ = _
  rw [Ideal.matmul_plain_apply]
  show Ideal.ofBits .f32 0x00000000#32 + _ = _
  rw [Ideal.ofBits_zero_f32, zero_add]
  refine Finset.sum_congr rfl fun l _ => ?_
  unfold k0_pay7
  simp only [shapeCast_self]
  rfl

/-- A grid point's product with a weight block that is the whole of `w`. -/
theorem point_product (t : Fin cfg0.N) (w : S2048x1024.Idx → EReal) (b : FVec Ideal S2048x1024 .bf16) (hb : ∀ y, b y = w y) (p : Fin 512) (j : Fin 1024) :
    k0_pay8 (F := Ideal) (iblk m c 0 t : Vec Ideal S512x2048 .f32) b (ix2 p j)
      = product (argMem m c) w ⟨(at_row t p).val / 256, by have := (at_row t p).isLt; omega⟩ ⟨(at_row t p).val % 256, Nat.mod_lt _ (by decide)⟩ j := by
  rw [product_apply]
  unfold product
  exact Finset.sum_congr rfl fun l _ => congrArg₂ (· * ·) (iblk_mem m c t p l) (hb _)

theorem ix2_eta {n0 n1 : Nat} (y : (⟨2, ![n0, n1]⟩ : Shape).Idx) : y = ix2 (y 0) (y 1) := funext fun a => by
  match a with
  | ⟨0, _⟩ | ⟨1, _⟩ => rfl

/-- The second weight's product is the same operation. -/
theorem second_product (x : Vec Ideal S512x2048 .f32) (w : Vec Ideal S2048x1024 .bf16) : k0_pay17 (k0_pay7 x) w = k0_pay8 x w := rfl

theorem out_k_rows (x0 : Vec Ideal S512x2048 .f32) (x1 x2 : Vec Ideal S2048x1024 .bf16) : out0_3 x0 x1 x2 = k0_pay8 x0 x1 := by
  unfold out0_3
  rw [View.canon_unit_zero hz, View.ld_unit_zero (S := S512x2048) hz, View.ld_unit_zero (S := S2048x1024) hz]

theorem out_v_rows (x0 : Vec Ideal S512x2048 .f32) (x1 x2 : Vec Ideal S2048x1024 .bf16) : out0_4 x0 x1 x2 = k0_pay8 x0 x2 := by
  unfold out0_4 k0_pay21
  rw [View.canon_unit_zero hz, View.ld_unit_zero (S := S512x2048) hz, View.ld_unit_zero (S := S2048x1024) hz, second_product]

theorem out_k_heads (x0 : Vec Ideal S512x2048 .f32) (x1 x2 : Vec Ideal S2048x1024 .bf16) (y : S2x256x4x256.Idx) :
    out0_5 x0 x1 x2 y = k0_pay8 x0 x1 (Value.ix5_0 y) := by
  unfold out0_5 k0_pay22
  rw [View.ld_unit_zero (S := S512x2048) hz, View.ld_unit_zero (S := S2048x1024) hz]
  exact Value.canon5_eq x0 x1 y

theorem out_v_heads (x0 : Vec Ideal S512x2048 .f32) (x1 x2 : Vec Ideal S2048x1024 .bf16) (y : S2x256x4x256.Idx) :
    out0_6 x0 x1 x2 y = k0_pay8 x0 x2 (Value.ix6_0 y) := by
  unfold out0_6 k0_pay23 k0_pay21
  rw [View.ld_unit_zero (S := S512x2048) hz, View.ld_unit_zero (S := S2048x1024) hz]
  exact Value.canon6_eq x0 x2 y

/-! ## The result arrays -/

def resultKRows : Buf (Elt Ideal) ((c : Thread nD τ).loc main_v3_0) := byRows (argMem m c) (argK m c)
def resultVRows : Buf (Elt Ideal) ((c : Thread nD τ).loc main_v3_1) := byRows (argMem m c) (argV m c)
def resultKHeads : Buf (Elt Ideal) ((c : Thread nD τ).loc main_v3_2) := byHeads (argMem m c) (argK m c)
def resultVHeads : Buf (Elt Ideal) ((c : Thread nD τ).loc main_v3_3) := byHeads (argMem m c) (argV m c)

/-- A block's entry in the rows' form, at the array's index. -/
theorem point_rows (t : Fin cfg0.N) (w : S2048x1024.Idx → EReal) (b : FVec Ideal S2048x1024 .bf16) (hb : ∀ y, b y = w y) (y : S512x1024.Idx) (i : S2048x1024.Idx)
    (h0 : (i 0).val = 512 * t.val + (y 0).val) (h1 : (i 1).val = (y 1).val) :
    k0_pay8 (F := Ideal) (iblk m c 0 t : Vec Ideal S512x2048 .f32) b y = byRows (argMem m c) w i := by
  rw [ix2_eta y]
  refine (point_product m c t w b hb (y 0) (y 1)).trans ?_
  unfold byRows
  congr 1
  · exact Fin.ext (by dsimp only; rw [h0])
  · exact Fin.ext (by dsimp only; rw [h0])
  · exact Fin.ext h1.symm

/-- A block's entry in the heads' form, at the array's index. -/
theorem point_heads (t : Fin cfg0.N) (w : S2048x1024.Idx → EReal) (b : FVec Ideal S2048x1024 .bf16) (hb : ∀ y, b y = w y) (y : S512x1024.Idx) (i : S8x256x4x256.Idx)
    (h0 : (y 0).val + 512 * t.val = (i 0).val * 256 + (i 1).val) (h1 : (y 1).val = (i 2).val * 256 + (i 3).val) :
    k0_pay8 (F := Ideal) (iblk m c 0 t : Vec Ideal S512x2048 .f32) b y = byHeads (argMem m c) w i := by
  have hi : (i 1).val < 256 := (i 1).isLt
  rw [ix2_eta y]
  refine (point_product m c t w b hb (y 0) (y 1)).trans ?_
  unfold byHeads
  congr 1
  · exact Fin.ext (by show (512 * t.val + (y 0).val) / 256 = (i 0).val; omega)
  · exact Fin.ext (by show (512 * t.val + (y 0).val) % 256 = (i 1).val; omega)
  · exact Fin.ext h1

theorem flushes (t : Fin cfg0.N) : (cfg0.win 3).flush t = true ∧ (cfg0.win 4).flush t = true ∧ (cfg0.win 5).flush t = true ∧ (cfg0.win 6).flush t = true := by
  revert t; decide +kernel

theorem xsize_flat (t : Fin cfg0.N) : (win0_3.size 0 = 512 ∧ win0_3.size 1 = 1024 ∧ win0_3.xsize (grid0.coords t) 0 = 512 ∧ win0_3.xsize (grid0.coords t) 1 = 1024)
    ∧ (win0_4.size 0 = 512 ∧ win0_4.size 1 = 1024 ∧ win0_4.xsize (grid0.coords t) 0 = 512 ∧ win0_4.xsize (grid0.coords t) 1 = 1024) := by
  revert t; decide +kernel

theorem xsize_k_heads (t : Fin cfg0.N) : win0_5.size 0 = 2 ∧ win0_5.xsize (grid0.coords t) 0 = 2 ∧ win0_5.xsize (grid0.coords t) 1 = 256
    ∧ win0_5.xsize (grid0.coords t) 2 = 4 ∧ win0_5.xsize (grid0.coords t) 3 = 256 := by
  revert t; decide +kernel

theorem xsize_v_heads (t : Fin cfg0.N) : win0_6.size 0 = 2 ∧ win0_6.xsize (grid0.coords t) 0 = 2 ∧ win0_6.xsize (grid0.coords t) 1 = 256
    ∧ win0_6.xsize (grid0.coords t) 2 = 4 ∧ win0_6.xsize (grid0.coords t) 3 = 256 := by
  revert t; decide +kernel

theorem final_k_rows : (dats m 0 c).arrAt 3 cfg0.N = resultKRows m c :=
  (dats m 0 c).arrAt_eq_of_cover 3 (resultKRows m c) (fun t _ => by
    rw [Value.flushed3]
    funext y
    rw [View.read_apply]
    show out0_3 _ _ _ y = _
    rw [out_k_rows]
    refine point_rows m c t (argK m c) _ (iblk_k m c t) y _ ?_ ?_
    · show win0_3.index t 0 * 512 + 1 * (y 0).val = _; rw [(index_flat t).1.1]; omega
    · show win0_3.index t 1 * 1024 + 1 * (y 1).val = _; rw [(index_flat t).1.2]; omega) fun i => by
    have h0 : (i 0 : Nat) < 2048 := (i 0).isLt
    have h1 : (i 1 : Nat) < 1024 := (i 1).isLt
    let t : Fin cfg0.N := ⟨(i 0 : Nat) / 512, lt_of_lt_of_eq (by omega : (i 0 : Nat) / 512 < 4) N_0.symm⟩
    obtain ⟨e0, e1, e2, e3⟩ := (xsize_flat t).1
    obtain ⟨i0, i1⟩ := (index_flat t).1
    refine ⟨t, (flushes t).1, ?_⟩
    show i ∈ ((View.whole main_v3_0).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [e0, e2, i0]
      show (i 0 : Nat) / 512 * 512 ≤ (i 0 : Nat) ∧ (i 0 : Nat) < (i 0 : Nat) / 512 * 512 + 512
      omega
    | ⟨1, _⟩ =>
      show win0_3.index t 1 * win0_3.size 1 ≤ (i 1 : Nat) ∧ (i 1 : Nat) < win0_3.index t 1 * win0_3.size 1 + win0_3.xsize (grid0.coords t) 1
      rw [e1, e3, i1]
      omega

theorem final_v_rows : (dats m 0 c).arrAt 4 cfg0.N = resultVRows m c :=
  (dats m 0 c).arrAt_eq_of_cover 4 (resultVRows m c) (fun t _ => by
    rw [Value.flushed4]
    funext y
    rw [View.read_apply]
    show out0_4 _ _ _ y = _
    rw [out_v_rows]
    refine point_rows m c t (argV m c) _ (iblk_v m c t) y _ ?_ ?_
    · show win0_4.index t 0 * 512 + 1 * (y 0).val = _; rw [(index_flat t).2.1]; omega
    · show win0_4.index t 1 * 1024 + 1 * (y 1).val = _; rw [(index_flat t).2.2]; omega) fun i => by
    have h0 : (i 0 : Nat) < 2048 := (i 0).isLt
    have h1 : (i 1 : Nat) < 1024 := (i 1).isLt
    let t : Fin cfg0.N := ⟨(i 0 : Nat) / 512, lt_of_lt_of_eq (by omega : (i 0 : Nat) / 512 < 4) N_0.symm⟩
    obtain ⟨e0, e1, e2, e3⟩ := (xsize_flat t).2
    obtain ⟨i0, i1⟩ := (index_flat t).2
    refine ⟨t, (flushes t).2.1, ?_⟩
    show i ∈ ((View.whole main_v3_1).slice (win0_4.rect t)).set
    rw [View.set_slice_whole, Rect.mem_set_unit]
    intro a
    match a with
    | ⟨0, _⟩ =>
      show win0_4.index t 0 * win0_4.size 0 ≤ (i 0 : Nat) ∧ (i 0 : Nat) < win0_4.index t 0 * win0_4.size 0 + win0_4.xsize (grid0.coords t) 0
      rw [e0, e2, i0]
      show (i 0 : Nat) / 512 * 512 ≤ (i 0 : Nat) ∧ (i 0 : Nat) < (i 0 : Nat) / 512 * 512 + 512
      omega
    | ⟨1, _⟩ =>
      show win0_4.index t 1 * win0_4.size 1 ≤ (i 1 : Nat) ∧ (i 1 : Nat) < win0_4.index t 1 * win0_4.size 1 + win0_4.xsize (grid0.coords t) 1
      rw [e1, e3, i1]
      omega

theorem final_k_heads : (dats m 0 c).arrAt 5 cfg0.N = resultKHeads m c :=
  (dats m 0 c).arrAt_eq_of_cover 5 (resultKHeads m c) (fun t _ => by
    rw [Value.flushed5]
    funext y
    rw [View.read_apply]
    show out0_5 _ _ _ y = _
    rw [out_k_heads]
    obtain ⟨i0, i1, i2, i3⟩ := (index_heads t).1
    have e0 : (((cfg0.win 5).blk t).view.emb y 0).val = 2 * t.val + (y 0).val := by
      show win0_5.index t 0 * 2 + 1 * (y 0).val = _; rw [i0]; omega
    have e1 : (((cfg0.win 5).blk t).view.emb y 1).val = (y 1).val := by
      show win0_5.index t 1 * 256 + 1 * (y 1).val = _; rw [i1]; omega
    have e2 : (((cfg0.win 5).blk t).view.emb y 2).val = (y 2).val := by
      show win0_5.index t 2 * 4 + 1 * (y 2).val = _; rw [i2]; omega
    have e3 : (((cfg0.win 5).blk t).view.emb y 3).val = (y 3).val := by
      show win0_5.index t 3 * 256 + 1 * (y 3).val = _; rw [i3]; omega
    refine point_heads m c t (argK m c) _ (iblk_k m c t) _ _ ?_ ?_
    · rw [e0, e1]; show (y 0).val * 256 + (y 1).val + 512 * t.val = _; omega
    · rw [e2, e3]) fun i => by
    have h0 : (i 0 : Nat) < 8 := (i 0).isLt
    have h1 : (i 1 : Nat) < 256 := (i 1).isLt
    have h2 : (i 2 : Nat) < 4 := (i 2).isLt
    have h3 : (i 3 : Nat) < 256 := (i 3).isLt
    let t : Fin cfg0.N := ⟨(i 0 : Nat) / 2, lt_of_lt_of_eq (by omega : (i 0 : Nat) / 2 < 4) N_0.symm⟩
    obtain ⟨e, e0, e1, e2, e3⟩ := xsize_k_heads t
    obtain ⟨i0, i1, i2, i3⟩ := (index_heads t).1
    refine ⟨t, (flushes t).2.2.1, ?_⟩
    show i ∈ ((View.whole main_v3_2).slice (win0_5.rect t)).set
    rw [View.set_slice_whole, Rect.mem_set_unit]
    intro a
    match a with
    | ⟨0, _⟩ =>
      show win0_5.index t 0 * win0_5.size 0 ≤ (i 0 : Nat) ∧ (i 0 : Nat) < win0_5.index t 0 * win0_5.size 0 + win0_5.xsize (grid0.coords t) 0
      rw [e, e0, i0]
      show (i 0 : Nat) / 2 * 2 ≤ (i 0 : Nat) ∧ (i 0 : Nat) < (i 0 : Nat) / 2 * 2 + 2
      omega
    | ⟨1, _⟩ =>
      show win0_5.index t 1 * win0_5.size 1 ≤ (i 1 : Nat) ∧ (i 1 : Nat) < win0_5.index t 1 * win0_5.size 1 + win0_5.xsize (grid0.coords t) 1
      rw [e1, i1]
      omega
    | ⟨2, _⟩ =>
      show win0_5.index t 2 * win0_5.size 2 ≤ (i 2 : Nat) ∧ (i 2 : Nat) < win0_5.index t 2 * win0_5.size 2 + win0_5.xsize (grid0.coords t) 2
      rw [e2, i2]
      omega
    | ⟨3, _⟩ =>
      show win0_5.index t 3 * win0_5.size 3 ≤ (i 3 : Nat) ∧ (i 3 : Nat) < win0_5.index t 3 * win0_5.size 3 + win0_5.xsize (grid0.coords t) 3
      rw [e3, i3]
      omega

theorem final_v_heads : (dats m 0 c).arrAt 6 cfg0.N = resultVHeads m c :=
  (dats m 0 c).arrAt_eq_of_cover 6 (resultVHeads m c) (fun t _ => by
    rw [Value.flushed6]
    funext y
    rw [View.read_apply]
    show out0_6 _ _ _ y = _
    rw [out_v_heads]
    obtain ⟨i0, i1, i2, i3⟩ := (index_heads t).2
    have e0 : (((cfg0.win 6).blk t).view.emb y 0).val = 2 * t.val + (y 0).val := by
      show win0_6.index t 0 * 2 + 1 * (y 0).val = _; rw [i0]; omega
    have e1 : (((cfg0.win 6).blk t).view.emb y 1).val = (y 1).val := by
      show win0_6.index t 1 * 256 + 1 * (y 1).val = _; rw [i1]; omega
    have e2 : (((cfg0.win 6).blk t).view.emb y 2).val = (y 2).val := by
      show win0_6.index t 2 * 4 + 1 * (y 2).val = _; rw [i2]; omega
    have e3 : (((cfg0.win 6).blk t).view.emb y 3).val = (y 3).val := by
      show win0_6.index t 3 * 256 + 1 * (y 3).val = _; rw [i3]; omega
    refine point_heads m c t (argV m c) _ (iblk_v m c t) _ _ ?_ ?_
    · rw [e0, e1]; show (y 0).val * 256 + (y 1).val + 512 * t.val = _; omega
    · rw [e2, e3]) fun i => by
    have h0 : (i 0 : Nat) < 8 := (i 0).isLt
    have h1 : (i 1 : Nat) < 256 := (i 1).isLt
    have h2 : (i 2 : Nat) < 4 := (i 2).isLt
    have h3 : (i 3 : Nat) < 256 := (i 3).isLt
    let t : Fin cfg0.N := ⟨(i 0 : Nat) / 2, lt_of_lt_of_eq (by omega : (i 0 : Nat) / 2 < 4) N_0.symm⟩
    obtain ⟨e, e0, e1, e2, e3⟩ := xsize_v_heads t
    obtain ⟨i0, i1, i2, i3⟩ := (index_heads t).2
    refine ⟨t, (flushes t).2.2.2, ?_⟩
    show i ∈ ((View.whole main_v3_3).slice (win0_6.rect t)).set
    rw [View.set_slice_whole, Rect.mem_set_unit]
    intro a
    match a with
    | ⟨0, _⟩ =>
      show win0_6.index t 0 * win0_6.size 0 ≤ (i 0 : Nat) ∧ (i 0 : Nat) < win0_6.index t 0 * win0_6.size 0 + win0_6.xsize (grid0.coords t) 0
      rw [e, e0, i0]
      show (i 0 : Nat) / 2 * 2 ≤ (i 0 : Nat) ∧ (i 0 : Nat) < (i 0 : Nat) / 2 * 2 + 2
      omega
    | ⟨1, _⟩ =>
      show win0_6.index t 1 * win0_6.size 1 ≤ (i 1 : Nat) ∧ (i 1 : Nat) < win0_6.index t 1 * win0_6.size 1 + win0_6.xsize (grid0.coords t) 1
      rw [e1, i1]
      omega
    | ⟨2, _⟩ =>
      show win0_6.index t 2 * win0_6.size 2 ≤ (i 2 : Nat) ∧ (i 2 : Nat) < win0_6.index t 2 * win0_6.size 2 + win0_6.xsize (grid0.coords t) 2
      rw [e2, i2]
      omega
    | ⟨3, _⟩ =>
      show win0_6.index t 3 * win0_6.size 3 ≤ (i 3 : Nat) ∧ (i 3 : Nat) < win0_6.index t 3 * win0_6.size 3 + win0_6.xsize (grid0.coords t) 3
      rw [e3, i3]
      omega

/-- The run, read: the four results at the products, the arguments as launched. -/
theorem run (ρ : Dev nD → PrngReg) : θ_run defs (onTc (τ := τ) (main (F := Ideal))) ⟨m, fun _ => 0, ρ⟩ fun r => ∀ c : Dev nD,
      r.2.mem ((c : Thread nD τ).loc main_v3_0) = resultKRows m c
      ∧ r.2.mem ((c : Thread nD τ).loc main_v3_1) = resultVRows m c
      ∧ r.2.mem ((c : Thread nD τ).loc main_v3_2) = resultKHeads m c
      ∧ r.2.mem ((c : Thread nD τ).loc main_v3_3) = resultVHeads m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_k_rows m c), (h c).2.1.trans (final_v_rows m c), (h c).2.2.1.trans (final_k_heads m c),
    (h c).2.2.2.1.trans (final_v_heads m c), (h c).2.2.2.2⟩) (Value.run_blocks m ρ)

end Cert.MemKvIdeal.Memory
-- ==== Proof.MemKvReferenceRead.lean ====
/- The plain form of the memory's keys and values, entry by entry: the product of the memory with a weight. -/
module

public import proofs.«01_k».proof.Proof.Gen.MemKvReferenceIdeal.Read

@[expose] public section

noncomputable section

namespace Cert.MemKvReferenceIdeal.Memory

open Idealize.ShloMosaic
open Idealize.ShloMosaic.ValueIdx
open Cert.MemKvReferenceIdeal Cert.MemKvReferenceIdeal.Read
open Cert.MemKvReferenceIdeal.Gen

variable (x : S8x256x2048.Idx → EReal) (w : S2048x1024.Idx → EReal)

/-- The product at a request, a token and a column. -/
theorem product_apply (i : S8x256x1024.Idx) (b : Fin 8) (t : Fin 256) (j : Fin 1024) (h0 : (i 0).val = b.val) (h1 : (i 1).val = t.val) (h2 : (i 2).val = j.val) :
    val_main_v0 (F := Ideal) x w i = ∑ l : Fin 2048, x (ix3 b t l) * w (ix2 l j) := by
  rw [val_main_v0_apply]
  refine Finset.sum_congr rfl fun l _ => congrArg₂ (· * ·) (congrArg x (funext fun a => Fin.ext ?_)) (congrArg w (funext fun a => Fin.ext ?_))
  · match a with
    | ⟨0, _⟩ => exact h0
    | ⟨1, _⟩ => exact h1
    | ⟨2, _⟩ => rfl
  · match a with
    | ⟨0, _⟩ => rfl
    | ⟨1, _⟩ => exact h2

/-- The product by heads. -/
theorem heads_apply (i : S8x256x4x256.Idx) : val_main_v1 (F := Ideal) x w i
    = ∑ l : Fin 2048, x (ix3 (i 0) (i 1) l) * w (ix2 l (⟨(i 2).val * 256 + (i 3).val, by have h2 : (i 2).val < 4 := (i 2).isLt; have h3 : (i 3).val < 256 := (i 3).isLt; omega⟩ : Fin 1024)) := by
  have h0 : (i 0).val < 8 := (i 0).isLt
  have h1 : (i 1).val < 256 := (i 1).isLt
  have h2 : (i 2).val < 4 := (i 2).isLt
  have h3 : (i 3).val < 256 := (i 3).isLt
  rw [val_main_v1_apply]
  refine product_apply x w _ _ _ _ ?_ ?_ ?_
  · show (((((i 0).val * 256 + (i 1).val) * 4 + (i 2).val) * 256 + (i 3).val) / 262144) = _; omega
  · show (((((i 0).val * 256 + (i 1).val) * 4 + (i 2).val) * 256 + (i 3).val) / 1024 % 256) = _; omega
  · show (((((i 0).val * 256 + (i 1).val) * 4 + (i 2).val) * 256 + (i 3).val) % 1024) = (i 2).val * 256 + (i 3).val; omega

/-- The product by rows. -/
theorem rows_apply (i : S2048x1024.Idx) : val_main_v4 (F := Ideal) x w i
    = ∑ l : Fin 2048, x (ix3 (⟨(i 0).val / 256, by have h : (i 0).val < 2048 := (i 0).isLt; omega⟩ : Fin 8) (⟨(i 0).val % 256, Nat.mod_lt _ (by decide)⟩ : Fin 256) l) * w (ix2 l (i 1)) := by
  have h0 : (i 0).val < 2048 := (i 0).isLt
  have h1 : (i 1).val < 1024 := (i 1).isLt
  rw [val_main_v4_apply, val_main_v1_apply]
  have e0 : (idx_main_v4 i 0).val = ((i 0).val * 1024 + (i 1).val) / 262144 := rfl
  have e1 : (idx_main_v4 i 1).val = ((i 0).val * 1024 + (i 1).val) / 1024 % 256 := rfl
  have e2 : (idx_main_v4 i 2).val = ((i 0).val * 1024 + (i 1).val) / 256 % 4 := rfl
  have e3 : (idx_main_v4 i 3).val = ((i 0).val * 1024 + (i 1).val) % 256 := rfl
  refine product_apply x w _ _ _ _ ?_ ?_ ?_
  · show (((((idx_main_v4 i 0).val * 256 + (idx_main_v4 i 1).val) * 4 + (idx_main_v4 i 2).val) * 256 + (idx_main_v4 i 3).val) / 262144) = (i 0).val / 256
    rw [e0, e1, e2, e3]; omega
  · show (((((idx_main_v4 i 0).val * 256 + (idx_main_v4 i 1).val) * 4 + (idx_main_v4 i 2).val) * 256 + (idx_main_v4 i 3).val) / 1024 % 256) = (i 0).val % 256
    rw [e0, e1, e2, e3]; omega
  · show (((((idx_main_v4 i 0).val * 256 + (idx_main_v4 i 1).val) * 4 + (idx_main_v4 i 2).val) * 256 + (idx_main_v4 i 3).val) % 1024) = (i 1).val
    rw [e0, e1, e2, e3]; omega

/-- The other weight's results are the same functions. -/
theorem second_heads : val_main_v3 (F := Ideal) x w = val_main_v1 (F := Ideal) x w := rfl

theorem second_rows : val_main_v5 (F := Ideal) x w = val_main_v4 (F := Ideal) x w := rfl

end Cert.MemKvReferenceIdeal.Memory
-- ==== Proof.OutProjArray.lean ====
/- What the output projection's call leaves in its result array: every row is the layer norm of the weighted input row plus
   the two sublayers' rows times the two halves of the weight. -/
module

public import proofs.«01_k».proof.Proof.Gen.OutProjIdeal.Value
public import proofs.«01_k».proof.Proof.NormRead
public import Idealize.ShloMosaic.Lib.IdealHost
public import Idealize.ShloMosaic.Lib.Pipeline.ValueKit
public import Idealize.ShloMosaic.Lib.Tactic

@[expose] public section

noncomputable section

namespace Cert.OutProjIdeal.Layer

open Idealize.ShloMosaic hiding ix0 ix1 ix2 ix3 ix4 ix5
open Idealize.ShloMosaic.TcCoe Idealize.SL.Sem
open Idealize.ShloMosaic.ValueIdx Idealize.ShloMosaic.Tactic Cert.OutProjIdeal Cert.OutProjIdeal.Gen _root_.Layer
open Idealize.ShloMosaic.Pipeline (Dat)

/-! ## A grid point's tile -/

/-- A part's rows before the layer norm. -/
def before (x : FVec Ideal S256x2048 .f32) (yc ys : FVec Ideal S256x1024 .bf16) (wc ws : FVec Ideal S1024x2048 .bf16) : FVec Ideal S256x2048 .f32 :=
  addf (mulf (broadcast S256x2048 (Scalar.ofBits (F := Ideal) .f32 0x3F9837F0#32)) x)
    (addf (matmul dot_S256x1024_S1024x2048_S256x2048_1_0_0_1_n_n none yc wc (constant S256x2048 .f32 0x00000000#32))
      (matmul dot_S256x1024_S1024x2048_S256x2048_1_0_0_1_n_n none ys ws (constant S256x2048 .f32 0x00000000#32)))

/-- The two sublayers' row times the two halves of the weight. -/
def projected {n : Nat} (yc ys : (⟨2, ![n, 1024]⟩ : Shape).Idx → EReal) (wc ws : S1024x2048.Idx → EReal) (p : Fin n) : Row := fun j =>
  ∑ k, yc (ix2 p k) * wc (ix2 k j) + ∑ k, ys (ix2 p k) * ws (ix2 k j)

theorem before_apply (x : FVec Ideal S256x2048 .f32) (yc ys : FVec Ideal S256x1024 .bf16) (wc ws : FVec Ideal S1024x2048 .bf16) (p : Fin 256) (j : Fin 2048) :
    before x yc ys wc ws (ix2 p j) = joined (fun j => x (ix2 p j)) (projected yc ys wc ws p) j := by
  unfold before joined projected
  exact congrArg₂ (fun s s' => Ideal.ofBits .f32 0x3F9837F0#32 * x (ix2 p j) + (s + s')) (product_apply yc wc p j) (product_apply ys ws p j)

/-- What the second part stores is the layer norm of its rows. -/
theorem second_eq (x : FVec Ideal S256x2048 .f32) (yc ys : FVec Ideal S256x1024 .bf16) (wc ws : FVec Ideal S1024x2048 .bf16) (g b : FVec Ideal S1x2048 .f32) :
    k0_pay1 (F := Ideal) (k0_pay6 g) (k0_pay7 b) (k0_pay8 yc wc ys ws x) (k0_pay9 yc wc ys ws x) (Scalar.ofBits .f32 0x3727C5AC#32)
      = tileNorm (before x yc ys wc ws) g b reduces_S256x2048_S256 shapeCasts_S256_S256x1 broadcasts_S256x1_S256x2048 broadcasts_S1x2048_S256x2048 := by
  unfold k0_pay1 k0_pay6 k0_pay7 k0_pay9 k0_pay8
  simp only [shapeCast_self]
  rfl

/-- What the first part stores is the layer norm of its rows. -/
theorem first_eq (x : FVec Ideal S256x2048 .f32) (yc ys : FVec Ideal S256x1024 .bf16) (wc ws : FVec Ideal S1024x2048 .bf16) (g b : FVec Ideal S1x2048 .f32) :
    k0_pay5 (F := Ideal) (k0_pay2 b) (k0_pay3 yc wc ys ws x) (k0_pay4 g)
      = tileNorm (before x yc ys wc ws) g b reduces_S256x2048_S256 shapeCasts_S256_S256x1 broadcasts_S256x1_S256x2048 broadcasts_S1x2048_S256x2048 := by
  unfold k0_pay5 k0_pay2 k0_pay3 k0_pay4
  simp only [shapeCast_self]
  rfl

/-- The entry of a grid point's result at row `p` of the tile. -/
def point (x0 : S512x2048.Idx → EReal) (x1 x2 : S512x1024.Idx → EReal) (x3 x4 : S1024x2048.Idx → EReal) (x5 x6 : S1x2048.Idx → EReal) (p : Fin 512) (j : Fin 2048) : EReal :=
  norm (joined (fun l => x0 (ix2 p l)) (projected x1 x2 x3 x4 p)) (fun k => x5 (ix2 0 k)) (fun k => x6 (ix2 0 k)) j

theorem hz : (![0, 0] : Fin 2 → Nat) = fun _ => 0 := funext fun a => by
  match a with
  | ⟨0, _⟩ | ⟨1, _⟩ => rfl

/-- A part's stored tile, from row `o` of the blocks on. -/
theorem part_apply (x0 : Vec Ideal S512x2048 .f32) (x1 x2 : Vec Ideal S512x1024 .bf16) (x3 x4 : Vec Ideal S1024x2048 .bf16) (x5 x6 : Vec Ideal S1x2048 .f32)
    (a0 : FVec Ideal S256x2048 .f32) (a1 a2 : FVec Ideal S256x1024 .bf16) (p : Fin 256) (P : Fin 512) (j : Fin 2048)
    (h0 : ∀ l, a0 (ix2 p l) = x0 (ix2 P l)) (h1 : ∀ l, a1 (ix2 p l) = x1 (ix2 P l)) (h2 : ∀ l, a2 (ix2 p l) = x2 (ix2 P l)) :
    tileNorm (before a0 a1 a2 x3 x4) x5 x6 reduces_S256x2048_S256 shapeCasts_S256_S256x1 broadcasts_S256x1_S256x2048 broadcasts_S1x2048_S256x2048 (ix2 p j)
      = point x0 x1 x2 x3 x4 x5 x6 P j := by
  rw [tileNorm_apply]
  unfold point
  refine congrArg (fun s => norm s (fun k => x5 (ix2 0 k)) (fun k => x6 (ix2 0 k)) j) (funext fun l => ?_)
  rw [before_apply]
  unfold joined projected
  simp only [h0, h1, h2]

/-- What a grid point leaves in its result block. -/
theorem out_apply (x0 : Vec Ideal S512x2048 .f32) (x1 x2 : Vec Ideal S512x1024 .bf16) (x3 x4 : Vec Ideal S1024x2048 .bf16) (x5 x6 : Vec Ideal S1x2048 .f32) (y : S512x2048.Idx) :
    out0_7 (F := Ideal) x0 x1 x2 x3 x4 x5 x6 y = point x0 x1 x2 x3 x4 x5 x6 (y 0) (y 1) := by
  unfold out0_7
  refine View.canon_apply_of_pieces (Val := Elt Ideal) (fun y : S512x2048.Idx => point x0 x1 x2 x3 x4 x5 x6 (y 0) (y 1)) _ ?_ y (cover0_7 _ _ y)
  simp only [List.forall_mem_cons, List.not_mem_nil, false_imp_iff, implies_true, and_true]
  rw [View.ld_unit_zero (S := S1024x2048) hz, View.ld_unit_zero (S := S1024x2048) hz, View.ld_unit_zero (S := S1x2048) hz, View.ld_unit_zero (S := S1x2048) hz, second_eq, first_eq]
  refine ⟨fun x => ?_, fun x => ?_⟩
  · have hx : x = ix2 (x 0 : Fin 256) (x 1 : Fin 2048) := eta2 (a := 256) (b := 2048) x
    have hj : ((r0_5.emb x) 1 : Fin 2048) = (x 1 : Fin 2048) := Fin.ext (by show 0 + 1 * (x 1).val = (x 1).val; omega)
    rw [hj]
    refine (congrArg _ hx).trans (part_apply x0 x1 x2 x3 x4 x5 x6 _ _ _ (x 0) _ (x 1) ?_ ?_ ?_)
    · exact fun l => congrArg x0 (funext fun a => Fin.ext (by
        match a with
        | ⟨0, _⟩ => rfl
        | ⟨1, _⟩ => show 0 + 1 * l.val = l.val; omega))
    · exact fun l => congrArg x1 (funext fun a => Fin.ext (by
        match a with
        | ⟨0, _⟩ => rfl
        | ⟨1, _⟩ => show 0 + 1 * l.val = l.val; omega))
    · exact fun l => congrArg x2 (funext fun a => Fin.ext (by
        match a with
        | ⟨0, _⟩ => rfl
        | ⟨1, _⟩ => show 0 + 1 * l.val = l.val; omega))
  · have hx : x = ix2 (x 0 : Fin 256) (x 1 : Fin 2048) := eta2 (a := 256) (b := 2048) x
    have hj : ((r0_2.emb x) 1 : Fin 2048) = (x 1 : Fin 2048) := Fin.ext (by show 0 + 1 * (x 1).val = (x 1).val; omega)
    rw [hj]
    refine (congrArg _ hx).trans (part_apply x0 x1 x2 x3 x4 x5 x6 _ _ _ (x 0) _ (x 1) ?_ ?_ ?_)
    · exact fun l => congrArg x0 (funext fun a => Fin.ext (by
        match a with
        | ⟨0, _⟩ => rfl
        | ⟨1, _⟩ => show 0 + 1 * l.val = l.val; omega))
    · exact fun l => congrArg x1 (funext fun a => Fin.ext (by
        match a with
        | ⟨0, _⟩ => rfl
        | ⟨1, _⟩ => show 0 + 1 * l.val = l.val; omega))
    · exact fun l => congrArg x2 (funext fun a => Fin.ext (by
        match a with
        | ⟨0, _⟩ => rfl
        | ⟨1, _⟩ => show 0 + 1 * l.val = l.val; omega))

variable (m : (ℓ : Loc nD τ sig) → Buf (Elt Ideal) ℓ) (c : Dev nD)

abbrev argX : Vec Ideal S8x2048x2048 .f32 := m ((c : Thread nD τ).loc main_arg0)
abbrev argConv : Vec Ideal S8x2048x1024 .bf16 := m ((c : Thread nD τ).loc main_arg1)
abbrev argSb : Vec Ideal S8x2048x1024 .bf16 := m ((c : Thread nD τ).loc main_arg2)
abbrev argW : Vec Ideal S2048x2048 .f32 := m ((c : Thread nD τ).loc main_arg3)
abbrev argG : Vec Ideal S2048 .f32 := m ((c : Thread nD τ).loc main_arg4)
abbrev argB : Vec Ideal S2048 .f32 := m ((c : Thread nD τ).loc main_arg5)

/-! ## The arrays the call's windows read -/

theorem V_x : (V m c main_v0 : Vec Ideal S16384x2048 .f32) = shapeCast S16384x2048 (argX m c) shapeCasts_S8x2048x2048_S16384x2048 := by
  show StableHlo.after hostOps0 _ main_v0 = _
  after_results
  rfl

theorem V_conv : (V m c main_v1 : Vec Ideal S16384x1024 .bf16) = shapeCast S16384x1024 (argConv m c) shapeCasts_S8x2048x1024_S16384x1024 := by
  show StableHlo.after hostOps0 _ main_v1 = _
  after_results
  rfl

theorem V_sb : (V m c main_v2 : Vec Ideal S16384x1024 .bf16) = shapeCast S16384x1024 (argSb m c) shapeCasts_S8x2048x1024_S16384x1024 := by
  show StableHlo.after hostOps0 _ main_v2 = _
  after_results
  rfl

theorem V_w : (V m c main_v3 : S2048x2048.Idx → EReal) = argW m c := by
  show StableHlo.after hostOps0 _ main_v3 = _
  after_results
  rfl

theorem V_gain : (V m c main_v4 : Vec Ideal S1x2048 .f32) = broadcastInDim S1x2048 ![1] bcast_S2048_S1x2048_1 (argG m c) := by
  show StableHlo.after hostOps0 _ main_v4 = _
  after_results

theorem V_shift : (V m c main_v5 : Vec Ideal S1x2048 .f32) = broadcastInDim S1x2048 ![1] bcast_S2048_S1x2048_1 (argB m c) := by
  show StableHlo.after hostOps0 _ main_v5 = _
  after_results

theorem vector_apply (x : Vec Ideal S2048 .f32) (j : Fin 2048) : broadcastInDim S1x2048 ![1] bcast_S2048_S1x2048_1 x (ix2 (0 : Fin 1) j) = x (ix1 j) := by
  refine broadcastInDim_apply _ bcast_S2048_S1x2048_1 x _ (ix1 j) fun a => ?_
  match a with
  | ⟨0, _⟩ => rfl

/-! ## The blocks of a grid point -/

theorem index_rows (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) := by
  revert t; decide +kernel

theorem index_weights (t : Fin cfg0.N) : (win0_3.index t 0 = 0 ∧ win0_3.index t 1 = 0) ∧ (win0_4.index t 0 = 1 ∧ win0_4.index t 1 = 0) := by
  revert t; decide +kernel

theorem index_vectors (t : Fin cfg0.N) : (win0_5.index t 0 = 0 ∧ win0_5.index t 1 = 0) ∧ (win0_6.index t 0 = 0 ∧ win0_6.index t 1 = 0) := by
  revert t; decide +kernel

theorem lt32 (t : Fin cfg0.N) : t.val < 32 := lt_of_lt_of_eq t.isLt N_0

/-- The array row of row `p` of a grid point's block. -/
abbrev at_row (t : Fin cfg0.N) (p : Fin 512) : Fin 16384 := ⟨512 * t.val + p.val, by have := lt32 t; omega⟩

/-- Reading the blocks of the windows. -/
theorem read_x (t : Fin cfg0.N) (p : Fin 512) (j : Fin 2048) (A : Buf (Elt Ideal) ((c : Thread nD τ).loc main_v0)) :
    (((cfg0.win 0).blk t).view.read (Elt Ideal) A : Vec Ideal S512x2048 .f32) (ix2 p j) = (A : Vec Ideal S16384x2048 .f32) (ix2 (at_row t p) j) := by
  rw [View.read_apply]
  refine congrArg A (funext fun a => Fin.ext ?_)
  match a with
  | ⟨0, _⟩ => show win0_0.index t 0 * 512 + 1 * p.val = 512 * t.val + p.val; rw [(index_rows t).1.1]; omega
  | ⟨1, _⟩ => exact win0_0.rect_emb_val_of_index_zero t 1 (index_rows t).1.2 _

theorem read_conv (t : Fin cfg0.N) (p : Fin 512) (j : Fin 1024) (A : Buf (Elt Ideal) ((c : Thread nD τ).loc main_v1)) :
    (((cfg0.win 1).blk t).view.read (Elt Ideal) A : Vec Ideal S512x1024 .bf16) (ix2 p j) = (A : Vec Ideal S16384x1024 .bf16) (ix2 (at_row t p) j) := by
  rw [View.read_apply]
  refine congrArg A (funext fun a => Fin.ext ?_)
  match a with
  | ⟨0, _⟩ => show win0_1.index t 0 * 512 + 1 * p.val = 512 * t.val + p.val; rw [(index_rows t).2.1.1]; omega
  | ⟨1, _⟩ => exact win0_1.rect_emb_val_of_index_zero t 1 (index_rows t).2.1.2 _

theorem read_sb (t : Fin cfg0.N) (p : Fin 512) (j : Fin 1024) (A : Buf (Elt Ideal) ((c : Thread nD τ).loc main_v2)) :
    (((cfg0.win 2).blk t).view.read (Elt Ideal) A : Vec Ideal S512x1024 .bf16) (ix2 p j) = (A : Vec Ideal S16384x1024 .bf16) (ix2 (at_row t p) j) := by
  rw [View.read_apply]
  refine congrArg A (funext fun a => Fin.ext ?_)
  match a with
  | ⟨0, _⟩ => show win0_2.index t 0 * 512 + 1 * p.val = 512 * t.val + p.val; rw [(index_rows t).2.2.1.1]; omega
  | ⟨1, _⟩ => exact win0_2.rect_emb_val_of_index_zero t 1 (index_rows t).2.2.1.2 _

theorem read_upper (t : Fin cfg0.N) (k : Fin 1024) (j : Fin 2048) (A : Buf (Elt Ideal) ((c : Thread nD τ).loc main_v3)) :
    (((cfg0.win 3).blk t).view.read (Elt Ideal) A : Vec Ideal S1024x2048 .bf16) (ix2 k j) = (A : Vec Ideal S2048x2048 .bf16) (ix2 (⟨k.val, by omega⟩ : Fin 2048) j) := by
  rw [View.read_apply]
  refine congrArg A (funext fun a => Fin.ext ?_)
  match a with
  | ⟨0, _⟩ => exact win0_3.rect_emb_val_of_index_zero t 0 (index_weights t).1.1 _
  | ⟨1, _⟩ => exact win0_3.rect_emb_val_of_index_zero t 1 (index_weights t).1.2 _

theorem read_lower (t : Fin cfg0.N) (k : Fin 1024) (j : Fin 2048) (A : Buf (Elt Ideal) ((c : Thread nD τ).loc main_v3)) :
    (((cfg0.win 4).blk t).view.read (Elt Ideal) A : Vec Ideal S1024x2048 .bf16) (ix2 k j) = (A : Vec Ideal S2048x2048 .bf16) (ix2 (⟨1024 + k.val, by omega⟩ : Fin 2048) j) := by
  rw [View.read_apply]
  refine congrArg A (funext fun a => Fin.ext ?_)
  match a with
  | ⟨0, _⟩ => show win0_4.index t 0 * 1024 + 1 * k.val = 1024 + k.val; rw [(index_weights t).2.1]; omega
  | ⟨1, _⟩ => exact win0_4.rect_emb_val_of_index_zero t 1 (index_weights t).2.2 _

theorem read_gain (t : Fin cfg0.N) (j : Fin 2048) (A : Buf (Elt Ideal) ((c : Thread nD τ).loc main_v4)) :
    (((cfg0.win 5).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_5.rect_emb_val_of_index_zero t 0 (index_vectors t).1.1 _
  | ⟨1, _⟩ => exact win0_5.rect_emb_val_of_index_zero t 1 (index_vectors t).1.2 _

theorem read_shift (t : Fin cfg0.N) (j : Fin 2048) (A : Buf (Elt Ideal) ((c : Thread nD τ).loc main_v5)) :
    (((cfg0.win 6).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_6.rect_emb_val_of_index_zero t 0 (index_vectors t).2.1 _
  | ⟨1, _⟩ => exact win0_6.rect_emb_val_of_index_zero t 1 (index_vectors t).2.2 _

/-- The blocks, by the call's arguments. -/
theorem iblk_x (t : Fin cfg0.N) (p : Fin 512) (j : Fin 2048) : (iblk m c 0 t : Vec Ideal S512x2048 .f32) (ix2 p j) = rowOf (argX m c) (at_row t p) j := by
  unfold iblk
  exact (read_x c t p j (V m c main_v0)).trans ((congrFun (V_x m c) _).trans (rowOf_apply (argX m c) _ (at_row t p) j))

theorem iblk_conv (t : Fin cfg0.N) (p : Fin 512) (j : Fin 1024) : (iblk m c 1 t : Vec Ideal S512x1024 .bf16) (ix2 p j) = rowOf (w := 1024) (argConv m c) (at_row t p) j := by
  unfold iblk
  exact (read_conv c t p j (V m c main_v1)).trans ((congrFun (V_conv m c) _).trans (rowOf_apply (w := 1024) (argConv m c) _ (at_row t p) j))

theorem iblk_sb (t : Fin cfg0.N) (p : Fin 512) (j : Fin 1024) : (iblk m c 2 t : Vec Ideal S512x1024 .bf16) (ix2 p j) = rowOf (w := 1024) (argSb m c) (at_row t p) j := by
  unfold iblk
  exact (read_sb c t p j (V m c main_v2)).trans ((congrFun (V_sb m c) _).trans (rowOf_apply (w := 1024) (argSb m c) _ (at_row t p) j))

theorem iblk_upper (t : Fin cfg0.N) (k : Fin 1024) (j : Fin 2048) : (iblk m c 3 t : Vec Ideal S1024x2048 .bf16) (ix2 k j) = argW m c (ix2 (⟨k.val, by omega⟩ : Fin 2048) j) := by
  unfold iblk
  exact (read_upper c t k j (V m c main_v3)).trans (congrFun (V_w m c) _)

theorem iblk_lower (t : Fin cfg0.N) (k : Fin 1024) (j : Fin 2048) : (iblk m c 4 t : Vec Ideal S1024x2048 .bf16) (ix2 k j) = argW m c (ix2 (⟨1024 + k.val, by omega⟩ : Fin 2048) j) := by
  unfold iblk
  exact (read_lower c t k j (V m c main_v3)).trans (congrFun (V_w m c) _)

theorem iblk_gain (t : Fin cfg0.N) (j : Fin 2048) : (iblk m c 5 t : Vec Ideal S1x2048 .f32) (ix2 (0 : Fin 1) j) = argG m c (ix1 j) := by
  unfold iblk
  exact (read_gain c t j (V m c main_v4)).trans ((congrFun (V_gain m c) _).trans (vector_apply (argG m c) j))

theorem iblk_shift (t : Fin cfg0.N) (j : Fin 2048) : (iblk m c 6 t : Vec Ideal S1x2048 .f32) (ix2 (0 : Fin 1) j) = argB m c (ix1 j) := by
  unfold iblk
  exact (read_shift c t j (V m c main_v5)).trans ((congrFun (V_shift m c) _).trans (vector_apply (argB m c) j))

/-! ## The result -/

/-- What the result array ends holding. -/
def result : Buf (Elt Ideal) ((c : Thread nD τ).loc main_v6) := fun y : S16384x2048.Idx =>
  norm (joined (rowOf (argX m c) (y 0)) (projection (argConv m c) (argSb m c) (argW m c) (y 0))) (fun k => argG m c (ix1 k)) (fun k => argB m c (ix1 k)) (y 1 : Fin 2048)

/-- A grid point's entry, at the array's index. -/
theorem point_at (t : Fin cfg0.N) (p : Fin 512) (j : Fin 2048) (i : S16384x2048.Idx) (h0 : (i 0).val = 512 * t.val + p.val) (h1 : (i 1).val = j.val) :
    point (iblk m c 0 t : Vec Ideal S512x2048 .f32) (iblk m c 1 t : Vec Ideal S512x1024 .bf16) (iblk m c 2 t : Vec Ideal S512x1024 .bf16) (iblk m c 3 t : Vec Ideal S1024x2048 .bf16)
      (iblk m c 4 t : Vec Ideal S1024x2048 .bf16) (iblk m c 5 t : Vec Ideal S1x2048 .f32) (iblk m c 6 t : Vec Ideal S1x2048 .f32) p j = result m c i := by
  have e0 : (i 0 : Fin 16384) = at_row t p := Fin.ext h0
  have e1 : (i 1 : Fin 2048) = j := Fin.ext h1
  unfold point result
  rw [e0, e1]
  have hg : (fun k => (iblk m c 5 t : Vec Ideal S1x2048 .f32) (ix2 0 k)) = fun k => argG m c (ix1 k) := funext fun k => iblk_gain m c t k
  have hb : (fun k => (iblk m c 6 t : Vec Ideal S1x2048 .f32) (ix2 0 k)) = fun k => argB m c (ix1 k) := funext fun k => iblk_shift m c t k
  rw [hg, hb]
  refine congrArg (fun s => norm s (fun k => argG m c (ix1 k)) (fun k => argB m c (ix1 k)) j) (congrArg₂ joined (funext fun l => iblk_x m c t p l) (funext fun l => ?_))
  unfold projected projection
  exact congrArg₂ (· + ·) (Finset.sum_congr rfl fun k _ => congrArg₂ (· * ·) (iblk_conv m c t p k) (iblk_upper m c t k l))
    (Finset.sum_congr rfl fun k _ => congrArg₂ (· * ·) (iblk_sb m c t p k) (iblk_lower m c t k l))

theorem flushes (t : Fin cfg0.N) : (cfg0.win 7).flush t = true := by
  revert t; decide +kernel

theorem xsize (t : Fin cfg0.N) : win0_7.size 0 = 512 ∧ win0_7.size 1 = 2048 ∧ win0_7.xsize (grid0.coords t) 0 = 512 ∧ win0_7.xsize (grid0.coords t) 1 = 2048 := by
  revert t; decide +kernel

/-- The result array after the run. -/
theorem final : (dats m 0 c).arrAt 7 cfg0.N = result m c :=
  (dats m 0 c).arrAt_eq_of_cover 7 (result m c) (fun t _ => by
    rw [Value.flushed7]
    funext y
    rw [View.read_apply]
    show out0_7 _ _ _ _ _ _ _ y = _
    rw [out_apply]
    refine point_at m c t (y 0) (y 1) _ ?_ ?_
    · show win0_7.index t 0 * 512 + 1 * (y 0).val = _; rw [(index_rows t).2.2.2.1]; omega
    · show win0_7.index t 1 * 2048 + 1 * (y 1).val = _; rw [(index_rows t).2.2.2.2]; omega) fun i => by
    have h0 : (i 0 : Nat) < 16384 := (i 0).isLt
    have h1 : (i 1 : Nat) < 2048 := (i 1).isLt
    let t : Fin cfg0.N := ⟨(i 0 : Nat) / 512, lt_of_lt_of_eq (by omega : (i 0 : Nat) / 512 < 32) N_0.symm⟩
    obtain ⟨e0, e1, e2, e3⟩ := xsize t
    obtain ⟨i0, i1⟩ := (index_rows t).2.2.2
    refine ⟨t, flushes t, ?_⟩
    show i ∈ ((View.whole main_v6).slice (win0_7.rect t)).set
    rw [View.set_slice_whole, Rect.mem_set_unit]
    intro a
    match a with
    | ⟨0, _⟩ =>
      show win0_7.index t 0 * win0_7.size 0 ≤ (i 0 : Nat) ∧ (i 0 : Nat) < win0_7.index t 0 * win0_7.size 0 + win0_7.xsize (grid0.coords t) 0
      rw [e0, e2, i0]
      show (i 0 : Nat) / 512 * 512 ≤ (i 0 : Nat) ∧ (i 0 : Nat) < (i 0 : Nat) / 512 * 512 + 512
      omega
    | ⟨1, _⟩ =>
      show win0_7.index t 1 * win0_7.size 1 ≤ (i 1 : Nat) ∧ (i 1 : Nat) < win0_7.index t 1 * win0_7.size 1 + win0_7.xsize (grid0.coords t) 1
      rw [e1, e3, i1]
      omega

/-- The run, read: the result at the layer of the arguments, the arguments as launched. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.OutProjIdeal.Layer
-- ==== Proof.OutProjReferenceRead.lean ====
/- The output projection's plain form, entry by entry. -/
module

public import proofs.«01_k».proof.Proof.Gen.OutProjReferenceIdeal.Read
public import proofs.«01_k».proof.Proof.NormRead
public import Idealize.ShloMosaic.Lib.ValueIdx

@[expose] public section

noncomputable section

namespace Cert.OutProjReferenceIdeal.Layer

open Idealize.ShloMosaic hiding ix0 ix1 ix2 ix3 ix4 ix5
open Idealize.ShloMosaic.ValueIdx
open Cert.OutProjReferenceIdeal Cert.OutProjReferenceIdeal.Read
open Cert.OutProjReferenceIdeal.Gen
open _root_.Layer

variable (x : S8x2048x2048.Idx → EReal) (yc ys : S8x2048x1024.Idx → EReal) (w : S2048x2048.Idx → EReal) (g b : S2048.Idx → EReal)

/-- The sublayers' results side by side. -/
theorem joined_left (p : Fin 8) (q : Fin 2048) (k : Fin 1024) : val_main_v2 (F := Ideal) yc ys (ix3 p q (⟨k.val, by omega⟩ : Fin 2048)) = yc (ix3 p q k) := by
  unfold val_main_v2
  exact concatenate_pair_apply_left (t := S8x2048x2048) (s₁ := S8x2048x1024) (s₂ := S8x2048x1024) 2 (val_main_v0 (F := Ideal) yc) (val_main_v1 (F := Ideal) ys) _ _ rfl (ix3 p q k) fun a => by
    match a with
    | ⟨0, _⟩ | ⟨1, _⟩ | ⟨2, _⟩ => rfl

theorem joined_right (p : Fin 8) (q : Fin 2048) (k : Fin 1024) : val_main_v2 (F := Ideal) yc ys (ix3 p q (⟨1024 + k.val, by omega⟩ : Fin 2048)) = ys (ix3 p q k) := by
  unfold val_main_v2
  exact concatenate_pair_apply_right (t := S8x2048x2048) (s₁ := S8x2048x1024) (s₂ := S8x2048x1024) 2 (val_main_v0 (F := Ideal) yc) (val_main_v1 (F := Ideal) ys) _ _ rfl rfl (ix3 p q k) (fun a ha => by
    match a, ha with
    | ⟨0, _⟩, _ | ⟨1, _⟩, _ => rfl
    | ⟨2, _⟩, h => exact absurd rfl h) (by show k.val + 1024 = 1024 + k.val; omega)

/-- A sum over 2048 indices, by halves. -/
theorem sum_halves (f : Fin 2048 → EReal) : ∑ k, f k = ∑ k : Fin 1024, f (⟨k.val, by omega⟩ : Fin 2048) + ∑ k : Fin 1024, f (⟨1024 + k.val, by omega⟩ : Fin 2048) :=
  Fin.sum_univ_add (a := 1024) (b := 1024) f

/-- The output projection's row. -/
abbrev projected (p : Fin 8) (q : Fin 2048) : Row := fun j =>
  ∑ k : Fin 1024, yc (ix3 p q k) * w (ix2 (⟨k.val, by omega⟩ : Fin 2048) j) + ∑ k : Fin 1024, ys (ix3 p q k) * w (ix2 (⟨1024 + k.val, by omega⟩ : Fin 2048) j)

theorem projected_apply (p : Fin 8) (q j : Fin 2048) : val_main_v3 (F := Ideal) yc ys w (ix3 p q j) = projected yc ys w p q j := by
  rw [val_main_v3_apply]
  have el : ∀ k : Fin 2048, lidx_main_v3 (ix3 p q j) k = ix3 p q k := fun k => funext fun a => Fin.ext (by
    match a with
    | ⟨0, _⟩ | ⟨1, _⟩ | ⟨2, _⟩ => rfl)
  have er : ∀ k : Fin 2048, ridx_main_v3 (ix3 p q j) k = ix2 k j := fun k => funext fun a => Fin.ext (by
    match a with
    | ⟨0, _⟩ | ⟨1, _⟩ => rfl)
  simp only [el, er]
  rw [sum_halves]
  exact congrArg₂ (· + ·) (Finset.sum_congr rfl fun k _ => congrArg (· * _) (joined_left yc ys p q k)) (Finset.sum_congr rfl fun k _ => congrArg (· * _) (joined_right yc ys p q k))

/-- The row a batch element's position is before the layer norm. -/
abbrev row (p : Fin 8) (q : Fin 2048) : Row := joined (fun j => x (ix3 p q j)) (projected yc ys w p q)

theorem before_apply (p : Fin 8) (q j : Fin 2048) : val_main_v6 (F := Ideal) x yc ys w (ix3 p q j) = row x yc ys w p q j := by
  rw [val_main_v6_apply, val_main_v5_apply, val_main_v4_apply, val_main_cst_apply, projected_apply]
  rfl

theorem mean_apply (p : Fin 8) (q : Fin 2048) : val_main_v10 (F := Ideal) x yc ys w (ix3 p q (0 : Fin 1)) = mean (row x yc ys w p q) := by
  rw [val_main_v10_apply, val_main_v9_apply, val_main_cst_1_apply, val_main_v8_apply, val_main_v7_apply, val_main_cst_0_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [← before_apply]
  refine congrArg _ (funext fun a => Fin.ext ?_)
  match a with
  | ⟨0, _⟩ | ⟨1, _⟩ | ⟨2, _⟩ => rfl

theorem centred_apply (p : Fin 8) (q j : Fin 2048) : val_main_v12 (F := Ideal) x yc ys w (ix3 p q j) = centred (row x yc ys w p q) j := by
  rw [val_main_v12_apply, val_main_v11_apply, before_apply]
  refine congrArg (fun s => row x yc ys w p q j - s) ?_
  rw [← mean_apply]
  refine congrArg _ (funext fun a => Fin.ext ?_)
  match a with
  | ⟨0, _⟩ | ⟨1, _⟩ | ⟨2, _⟩ => rfl

theorem centred_again (p : Fin 8) (q j : Fin 2048) : val_main_v19 (F := Ideal) x yc ys w (ix3 p q j) = centred (row x yc ys w p q) j :=
  centred_apply x yc ys w p q j

theorem variance_apply (p : Fin 8) (q : Fin 2048) : val_main_v17 (F := Ideal) x yc ys w (ix3 p q (0 : Fin 1))
    = mean fun k => centred (row x yc ys w p q) k * centred (row x yc ys w p q) k := by
  rw [val_main_v17_apply, val_main_v16_apply, val_main_cst_3_apply, val_main_v15_apply, val_main_v14_apply, val_main_cst_2_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [val_main_v13_apply]
  have e : idx_main_v14 (idx_main_v15 (ix3 p q (0 : Fin 1))) k = ix3 p q k := funext fun a => Fin.ext (by
    match a with
    | ⟨0, _⟩ | ⟨1, _⟩ | ⟨2, _⟩ => rfl)
  rw [e, centred_apply]
  rfl

/-- The result at a batch element's position. -/
theorem norm_apply (p : Fin 8) (q j : Fin 2048) : val_main_v30 (F := Ideal) x yc ys w g b (ix3 p q j)
    = norm (row x yc ys w p q) (fun k => g (ix1 k)) (fun k => b (ix1 k)) j := by
  rw [val_main_v30_apply, val_main_v27_apply, val_main_v24_apply, centred_again, val_main_v23_apply, val_main_v22_apply, val_main_v21_apply, val_main_v20_apply,
    val_main_cst_4_apply, val_main_v26_apply, val_main_v25_apply, val_main_v29_apply, val_main_v28_apply]
  have e : idx_main_v23 (ix3 p q j) = ix3 p q (0 : Fin 1) := funext fun a => Fin.ext (by
    match a with
    | ⟨0, _⟩ | ⟨1, _⟩ | ⟨2, _⟩ => rfl)
  rw [e, variance_apply]
  have eg : ∀ (h : S2048.Idx), h 0 = j → h = ix1 j := fun h hh => funext fun a => by
    match a with
    | ⟨0, _⟩ => exact hh
  show _ * Ideal.rsqrt (_ + _) * g _ + b _ = _
  rw [eg (idx_main_v25 (idx_main_v26 (ix3 p q j))) rfl, eg (idx_main_v28 (idx_main_v29 (ix3 p q j))) rfl]
  rfl

/-- The result at row `2048 p + q`. -/
theorem result_apply (i : S16384x2048.Idx) : val_main_v31 (F := Ideal) x yc ys w g b i
    = norm (row x yc ys w ⟨(i 0).val / 2048, by have h : (i 0).val < 16384 := (i 0).isLt; omega⟩ ⟨(i 0).val % 2048, Nat.mod_lt _ (by decide)⟩)
        (fun k => g (ix1 k)) (fun k => b (ix1 k)) (i 1) := by
  rw [val_main_v31_apply]
  refine Eq.trans ?_ (norm_apply x yc ys w g b _ _ _)
  have h0 : (i 0).val < 16384 := (i 0).isLt
  have h1 : (i 1).val < 2048 := (i 1).isLt
  refine congrArg _ (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.OutProjReferenceIdeal.Layer
-- ==== Proof.XattnMath.lean ====
/- A row of the cross attention over a memory of 256 entries, in four heads of 256 columns, over the extended reals. -/
module

public import proofs.«01_k».proof.Proof.NormRead

@[expose] public section

noncomputable section

namespace Layer

open Idealize.ShloMosaic hiding ix0 ix1 ix2 ix3 ix4 ix5
open Idealize.ShloMosaic.ValueIdx

/-- The largest of a row's scores, from the literal for minus infinity. -/
def top (s : Fin 256 → EReal) : EReal := Finset.univ.fold max (Ideal.ofBits .f32 0xFF800000#32) s

/-- Taking the maximum with the literal once more changes nothing. -/
theorem max_top (s : Fin 256 → EReal) : max (Ideal.ofBits .f32 0xFF800000#32) (top s) = top s :=
  max_eq_right (Finset.le_fold_max (Ideal.ofBits .f32 0xFF800000#32) |>.2 (Or.inl le_rfl))

/-- The softmax of a row's scores. -/
def softmax (s : Fin 256 → EReal) (m : Fin 256) : EReal := Ideal.div (Ideal.exp (s m - top s)) (∑ l, Ideal.exp (s l - top s))

/-- One head's result: the values weighted by the softmax of the scaled products of the query with the keys. -/
def attended (q : Fin 256 → EReal) (k v : Fin 256 → Fin 256 → EReal) (d : Fin 256) : EReal :=
  ∑ m, softmax (fun m => (∑ l, q l * k m l) * Ideal.ofBits .f32 0x3D800000#32) m * v m d

/-- Column `d` of head `h`. -/
abbrev col (h : Fin 4) (d : Fin 256) : Fin 1024 := ⟨256 * h.val + d.val, by omega⟩

/-- The head of a column, and the column inside its head. -/
abbrev headOf (c : Fin 1024) : Fin 4 := ⟨c.val / 256, by omega⟩
abbrev inHead (c : Fin 1024) : Fin 256 := ⟨c.val % 256, Nat.mod_lt _ (by decide)⟩

theorem col_split (c : Fin 1024) : col (headOf c) (inHead c) = c := Fin.ext (Nat.div_add_mod _ _)

/-- The cross attention's row: the heads' results side by side, times the output weight. -/
def cross (x : Row) (k v : Fin 4 → Fin 256 → Fin 256 → EReal) (wq : (⟨2, ![2048, 1024]⟩ : Shape).Idx → EReal) (wo : (⟨2, ![1024, 2048]⟩ : Shape).Idx → EReal) : Row := fun j =>
  ∑ c : Fin 1024, attended (fun l => ∑ i, x i * wq (ix2 i (col (headOf c) l))) (k (headOf c)) (v (headOf c)) (inHead c) * wo (ix2 c j)

/-- Row `R` of the cross attention of a batch with its memory's keys and values. -/
def attention (x : (⟨3, ![8, 2048, 2048]⟩ : Shape).Idx → EReal) (k v : (⟨4, ![8, 256, 4, 256]⟩ : Shape).Idx → EReal) (wq : (⟨2, ![2048, 1024]⟩ : Shape).Idx → EReal)
    (wo : (⟨2, ![1024, 2048]⟩ : Shape).Idx → EReal) (R : Fin 16384) : Row :=
  cross (rowOf x R) (fun h m l => k (ix4 (⟨R.val / 2048, by omega⟩ : Fin 8) m h l)) (fun h m l => v (ix4 (⟨R.val / 2048, by omega⟩ : Fin 8) m h l)) wq wo

end Layer
-- ==== Proof.XattnBody.lean ====
/- What a part of a grid point of the cross attention stores: its tile, head by head, and that tile read at an index. -/
module

public import proofs.«01_k».proof.Proof.Gen.XattnIdeal.Value
public import proofs.«01_k».proof.Proof.XattnMath
public import Idealize.ShloMosaic.Lib.IdealHost
public import Idealize.ShloMosaic.Lib.Pipeline.ValueKit
public import Idealize.ShloMosaic.Lib.Tactic

@[expose] public section

noncomputable section

namespace Cert.XattnIdeal.Layer

open Idealize.ShloMosaic hiding ix0 ix1 ix2 ix3 ix4 ix5
open Idealize.ShloMosaic.ValueIdx Cert.XattnIdeal Cert.XattnIdeal.Gen _root_.Layer

/-! ## One head of a tile -/

/-- Head `h`'s columns of the queries and of the memory are slices. -/
theorem slices_q (h : Fin 4) : S512x1024.Slices ![0, 256 * h.val] S512x256 := by
  refine ⟨rfl, fun a => ?_⟩
  match a with
  | ⟨0, _⟩ => exact le_refl 512
  | ⟨1, _⟩ => show 256 * h.val + 256 ≤ 1024; omega

theorem slices_m (h : Fin 4) : S256x1024.Slices ![0, 256 * h.val] S256x256 := by
  refine ⟨rfl, fun a => ?_⟩
  match a with
  | ⟨0, _⟩ => exact le_refl 256
  | ⟨1, _⟩ => show 256 * h.val + 256 ≤ 1024; omega

/-- A head's scores: the products of the queries' and the keys' rows, scaled. -/
def scores (q : FVec Ideal S512x1024 .f32) (k : FVec Ideal S256x1024 .bf16) (h : Fin 4) : FVec Ideal S512x256 .f32 :=
  mulf (matmul dot_S512x256_S256x256_S512x256_1_1_0_0_n_n none (truncf .bf16 (extractStridedSlice S512x256 ![0, 256 * h.val] q (slices_q h)) bitsLt_bf16_f32)
    (extractStridedSlice S256x256 ![0, 256 * h.val] k (slices_m h)) (constant S512x256 .f32 0x00000000#32)) (broadcast S512x256 (Scalar.ofBits (F := Ideal) .f32 0x3D800000#32))

/-- The largest score of each row, along the row. -/
def tops (s : FVec Ideal S512x256 .f32) : FVec Ideal S512x256 .f32 :=
  broadcastTo S512x256 (shapeCast S512x1 (multiReduction .maximumf [1] S512 s 0xFF800000#32 reduces_S512x256_S512 (.inl rfl) rfl) shapeCasts_S512_S512x1) broadcasts_S512x1_S512x256

/-- The values weighted by the exponentials over their sums. -/
def weighed (s : FVec Ideal S512x256 .f32) (v : FVec Ideal S256x1024 .bf16) (h : Fin 4) : FVec Ideal S512x256 .bf16 :=
  truncf .bf16 (matmul dot_S512x256_S256x256_S512x256_1_0_0_1_n_n none (truncf .bf16 (divf (exp s) (broadcastTo S512x256
      (shapeCast S512x1 (multiReduction .add [1] S512 (exp s) 0x00000000#32 reduces_S512x256_S512 (.inl rfl) rfl) shapeCasts_S512_S512x1) broadcasts_S512x1_S512x256)) bitsLt_bf16_f32)
    (extractStridedSlice S256x256 ![0, 256 * h.val] v (slices_m h)) (constant S512x256 .f32 0x00000000#32)) bitsLt_bf16_f32

/-- A head's tile. -/
def head (q : FVec Ideal S512x1024 .f32) (k v : FVec Ideal S256x1024 .bf16) (h : Fin 4) : FVec Ideal S512x256 .bf16 :=
  weighed (subf (scores q k h) (tops (scores q k h))) v h

theorem slice_q (q : FVec Ideal S512x1024 .f32) (h : Fin 4) (p : Fin 512) (l : Fin 256) :
    extractStridedSlice S512x256 ![0, 256 * h.val] q (slices_q h) (ix2 p l) = q (ix2 p (col h l)) := by
  refine extractStridedSlice_apply _ _ _ _ _ fun a => ?_
  match a with
  | ⟨0, _⟩ => show p.val = 0 + p.val; omega
  | ⟨1, _⟩ => rfl

theorem slice_m (k : FVec Ideal S256x1024 .bf16) (h : Fin 4) (p l : Fin 256) :
    extractStridedSlice S256x256 ![0, 256 * h.val] k (slices_m h) (ix2 p l) = k (ix2 p (col h l)) := by
  refine extractStridedSlice_apply _ _ _ _ _ fun a => ?_
  match a with
  | ⟨0, _⟩ => show p.val = 0 + p.val; omega
  | ⟨1, _⟩ => rfl

theorem scores_apply (q : FVec Ideal S512x1024 .f32) (k : FVec Ideal S256x1024 .bf16) (h : Fin 4) (p : Fin 512) (m : Fin 256) :
    scores q k h (ix2 p m) = (∑ l, q (ix2 p (col h l)) * k (ix2 m (col h l))) * Ideal.ofBits .f32 0x3D800000#32 := by
  show FloatOps.matmul (DotDims.transposedRhs 512 256 256) none (truncf .bf16 (extractStridedSlice S512x256 ![0, 256 * h.val] q (slices_q h)) bitsLt_bf16_f32)
    (extractStridedSlice S256x256 ![0, 256 * h.val] k (slices_m h)) (constant S512x256 .f32 0x00000000#32) (ix2 p m) * Ideal.ofBits .f32 0x3D800000#32 = _
  rw [Ideal.matmul_transposedRhs_apply]
  show (Ideal.ofBits .f32 0x00000000#32 + _) * _ = _
  rw [Ideal.ofBits_zero_f32, zero_add]
  refine congrArg (· * Ideal.ofBits .f32 0x3D800000#32) (Finset.sum_congr rfl fun l _ => congrArg₂ (· * ·) ?_ (slice_m k h m l))
  exact slice_q q h p l

theorem tops_apply (s : FVec Ideal S512x256 .f32) (p : Fin 512) (m : Fin 256) : tops s (ix2 p m) = top fun m => s (ix2 p m) := by
  unfold tops
  rw [tileColumn_apply, shapeCast_a_a1_apply]
  simp only [pointwise]
  rfl

theorem weighed_apply (s : FVec Ideal S512x256 .f32) (v : FVec Ideal S256x1024 .bf16) (h : Fin 4) (p : Fin 512) (d : Fin 256) :
    weighed s v h (ix2 p d) = ∑ m, Ideal.div (Ideal.exp (s (ix2 p m))) (∑ l, Ideal.exp (s (ix2 p l))) * v (ix2 m (col h d)) := by
  unfold weighed
  refine Eq.trans (product_apply (n := 512) (k := 256) (w := 256) (φ₁ := .bf16) (φ₂ := .bf16) _ _ p d) ?_
  refine Finset.sum_congr rfl fun m _ => congrArg₂ (· * ·) ?_ (slice_m v h m d)
  show Ideal.div (Ideal.exp (s (ix2 p m))) (broadcastTo S512x256 (shapeCast S512x1 _ shapeCasts_S512_S512x1) broadcasts_S512x1_S512x256 (ix2 p m)) = _
  rw [tileColumn_apply, shapeCast_a_a1_apply]
  show Ideal.div _ (Ideal.reduceAdd reduces_S512x256_S512 (exp s) (ix1 p)) = _
  rw [Ideal.reduceAdd_r2_a1]
  rfl

/-- A head's tile at an index. -/
theorem head_apply (q : FVec Ideal S512x1024 .f32) (k v : FVec Ideal S256x1024 .bf16) (h : Fin 4) (p : Fin 512) (d : Fin 256) :
    head q k v h (ix2 p d) = attended (fun l => q (ix2 p (col h l))) (fun m l => k (ix2 m (col h l))) (fun m l => v (ix2 m (col h l))) d := by
  unfold head
  rw [weighed_apply]
  have e : ∀ m, subf (scores q k h) (tops (scores q k h)) (ix2 p m)
      = (∑ l, q (ix2 p (col h l)) * k (ix2 m (col h l))) * Ideal.ofBits .f32 0x3D800000#32
        - top fun m => (∑ l, q (ix2 p (col h l)) * k (ix2 m (col h l))) * Ideal.ofBits .f32 0x3D800000#32 := fun m => by
    show scores q k h (ix2 p m) - tops (scores q k h) (ix2 p m) = _
    rw [tops_apply]
    simp only [scores_apply]
  simp only [e]
  rfl

/-! ## The heads side by side, and the tile's rows before the norm -/

/-- Four heads' tiles side by side. -/
def heads (f : Fin 4 → FVec Ideal S512x256 .bf16) : FVec Ideal S512x1024 .bf16 :=
  concatenate S512x1024 1 [⟨S512x256, f 0⟩, ⟨S512x256, f 1⟩, ⟨S512x256, f 2⟩, ⟨S512x256, f 3⟩] concatenates_S512x256_S512x256_S512x256_S512x256_S512x1024_d1

theorem heads_apply (f : Fin 4 → FVec Ideal S512x256 .bf16) (p : Fin 512) (h : Fin 4) (d : Fin 256) : heads f (ix2 p (col h d)) = f h (ix2 p d) := by
  unfold heads
  have hi : ∀ b : Fin S512x256.rank, b.cast (rfl : S512x256.rank = S512x1024.rank) ≠ 1 → ((ix2 p d : S512x256.Idx) b).val = ((ix2 p (col h d) : S512x1024.Idx) (b.cast rfl)).val := fun b hb => by
    match b, hb with
    | ⟨0, _⟩, _ => rfl
    | ⟨1, _⟩, hb => exact absurd rfl hb
  match h with
  | 0 => exact concatenate_apply_piece (t := S512x1024) 1 _ _ (ix2 p (col 0 d)) 0 (by simp) S512x256 (f 0) rfl rfl 0 rfl (ix2 p d) hi (by show 0 + d.val = 256 * 0 + d.val; omega)
  | 1 => exact concatenate_apply_piece (t := S512x1024) 1 _ _ (ix2 p (col 1 d)) 1 (by simp) S512x256 (f 1) rfl rfl 256 rfl (ix2 p d) hi (by show 256 + d.val = 256 * 1 + d.val; omega)
  | 2 => exact concatenate_apply_piece (t := S512x1024) 1 _ _ (ix2 p (col 2 d)) 2 (by simp) S512x256 (f 2) rfl rfl 512 rfl (ix2 p d) hi (by show 512 + d.val = 256 * 2 + d.val; omega)
  | 3 => exact concatenate_apply_piece (t := S512x1024) 1 _ _ (ix2 p (col 3 d)) 3 (by simp) S512x256 (f 3) rfl rfl 768 rfl (ix2 p d) hi (by show 768 + d.val = 256 * 3 + d.val; omega)

/-- The queries of a tile. -/
def queries (x : FVec Ideal S512x2048 .f32) (wq : FVec Ideal S2048x1024 .bf16) : FVec Ideal S512x1024 .f32 :=
  matmul dot_S512x2048_S2048x1024_S512x1024_1_0_0_1_n_n none (truncf .bf16 x bitsLt_bf16_f32) wq (constant S512x1024 .f32 0x00000000#32)

/-- A tile's rows before the layer norm. -/
def before (x : FVec Ideal S512x2048 .f32) (k v : FVec Ideal S256x1024 .bf16) (wq : FVec Ideal S2048x1024 .bf16) (wo : FVec Ideal S1024x2048 .bf16) : FVec Ideal S512x2048 .f32 :=
  addf (mulf (broadcast S512x2048 (Scalar.ofBits (F := Ideal) .f32 0x3F9837F0#32)) x)
    (matmul dot_S512x1024_S1024x2048_S512x2048_1_0_0_1_n_n none (heads (head (queries x wq) k v)) wo (constant S512x2048 .f32 0x00000000#32))

theorem queries_apply (x : FVec Ideal S512x2048 .f32) (wq : FVec Ideal S2048x1024 .bf16) (p : Fin 512) (c : Fin 1024) :
    queries x wq (ix2 p c) = ∑ i, x (ix2 p i) * wq (ix2 i c) :=
  product_apply (n := 512) (k := 2048) (w := 1024) (φ₁ := .bf16) (φ₂ := .bf16) (truncf .bf16 x bitsLt_bf16_f32) wq p c

theorem before_apply (x : FVec Ideal S512x2048 .f32) (k v : FVec Ideal S256x1024 .bf16) (wq : FVec Ideal S2048x1024 .bf16) (wo : FVec Ideal S1024x2048 .bf16) (p : Fin 512) (j : Fin 2048) :
    before x k v wq wo (ix2 p j) = joined (fun j => x (ix2 p j)) (cross (fun j => x (ix2 p j)) (fun h m l => k (ix2 m (col h l))) (fun h m l => v (ix2 m (col h l))) wq wo) j := by
  unfold before joined
  refine (congrArg (fun s => Ideal.ofBits .f32 0x3F9837F0#32 * x (ix2 p j) + s) (product_apply (n := 512) (k := 1024) (w := 2048) (φ₁ := .bf16) (φ₂ := .bf16)
    (heads (head (queries x wq) k v)) wo p j)).trans ?_
  refine congrArg (fun s => Ideal.ofBits .f32 0x3F9837F0#32 * x (ix2 p j) + s) (Finset.sum_congr rfl fun c _ => congrArg (· * wo (ix2 c j)) ?_)
  refine (congrArg (fun c => heads (head (queries x wq) k v) (ix2 p c)) (col_split c).symm).trans ?_
  show heads (head (queries x wq) k v) (ix2 p (col (headOf c) (inHead c))) = _
  rw [heads_apply, head_apply]
  simp only [queries_apply]

/-! ## The two stored tiles -/

/-- What the first part stores is the layer norm of its rows. -/
theorem first_eq (x : FVec Ideal S512x2048 .f32) (k v : Vec Ideal S1x256x1024 .f32) (wq : FVec Ideal S2048x1024 .bf16) (wo : FVec Ideal S1024x2048 .bf16) (g b : FVec Ideal S1x2048 .f32) :
    k0_pay12 (F := Ideal) (k0_pay4 x) (k0_pay6 k v x wq) (k0_pay9 (k0_pay3 v) (k0_pay7 k x wq) (k0_pay8 k x wq)) (k0_pay10 (k0_pay2 k) (k0_pay3 v) (k0_pay5 x wq))
        (k0_pay11 (k0_pay2 k) (k0_pay3 v) (k0_pay5 x wq)) wo g b
      = tileNorm (before x (k0_pay2 (F := Ideal) k) (k0_pay3 (F := Ideal) v) wq wo) g b reduces_S512x2048_S512 shapeCasts_S512_S512x1 broadcasts_S512x1_S512x2048 broadcasts_S1x2048_S512x2048 := by
  have hq : k0_pay5 (F := Ideal) x wq = queries x wq := by
    unfold k0_pay5 k0_pay4; simp only [shapeCast_self]; rfl
  have h0 : k0_pay6 (F := Ideal) k v x wq = head (queries x wq) (k0_pay2 k) (k0_pay3 v) 0 := by
    unfold k0_pay6; rw [hq]; rfl
  have h1 : k0_pay9 (F := Ideal) (k0_pay3 v) (k0_pay7 k x wq) (k0_pay8 k x wq) = head (queries x wq) (k0_pay2 k) (k0_pay3 v) 1 := by
    unfold k0_pay9 k0_pay8 k0_pay7; rw [hq]; rfl
  have h2 : k0_pay10 (F := Ideal) (k0_pay2 k) (k0_pay3 v) (k0_pay5 x wq) = head (queries x wq) (k0_pay2 k) (k0_pay3 v) 2 := by
    unfold k0_pay10; rw [hq]; rfl
  have h3 : k0_pay11 (F := Ideal) (k0_pay2 k) (k0_pay3 v) (k0_pay5 x wq) = head (queries x wq) (k0_pay2 k) (k0_pay3 v) 3 := by
    unfold k0_pay11; rw [hq]; rfl
  rw [h0, h1, h2, h3]
  unfold k0_pay12 k0_pay4
  simp only [shapeCast_self]
  rfl

/-- What the second part stores is the layer norm of its rows. -/
theorem second_eq (x : FVec Ideal S512x2048 .f32) (k v : FVec Ideal S256x1024 .bf16) (wq : FVec Ideal S2048x1024 .bf16) (wo : FVec Ideal S1024x2048 .bf16) (g b : FVec Ideal S1x2048 .f32) :
    k0_pay1 (F := Ideal) (k0_pay19 k v (k0_pay13 x) (k0_pay14 x wq) (k0_pay16 k v (k0_pay15 x wq)) (k0_pay17 k v (k0_pay14 x wq)) (k0_pay18 k (k0_pay14 x wq)) wo) (k0_pay20 g) (k0_pay21 b)
        (k0_pay22 k v (k0_pay13 x) (k0_pay14 x wq) (k0_pay16 k v (k0_pay15 x wq)) (k0_pay17 k v (k0_pay14 x wq)) (k0_pay18 k (k0_pay14 x wq)) wo)
      = tileNorm (before x k v wq wo) g b reduces_S512x2048_S512 shapeCasts_S512_S512x1 broadcasts_S512x1_S512x2048 broadcasts_S1x2048_S512x2048 := by
  have hq : k0_pay14 (F := Ideal) x wq = queries x wq := by
    unfold k0_pay14 k0_pay13; simp only [shapeCast_self]; rfl
  have h0 : k0_pay16 (F := Ideal) k v (k0_pay15 x wq) = head (queries x wq) k v 0 := by
    unfold k0_pay16 k0_pay15; rw [hq]; rfl
  have h1 : k0_pay17 (F := Ideal) k v (k0_pay14 x wq) = head (queries x wq) k v 1 := by
    unfold k0_pay17; rw [hq]; rfl
  have hb : k0_pay19 (F := Ideal) k v (k0_pay13 x) (k0_pay14 x wq) (k0_pay16 k v (k0_pay15 x wq)) (k0_pay17 k v (k0_pay14 x wq)) (k0_pay18 k (k0_pay14 x wq)) wo = before x k v wq wo := by
    rw [h0, h1, hq]
    unfold k0_pay19 k0_pay18 k0_pay13
    simp only [shapeCast_self]
    rfl
  unfold k0_pay22
  rw [hb]
  unfold k0_pay1 k0_pay20 k0_pay21
  simp only [shapeCast_self]
  rfl

end Cert.XattnIdeal.Layer
-- ==== Proof.XattnArray.lean ====
/- What the cross attention's call leaves in its result array: every row is the layer norm of the weighted input row plus
   its cross attention over the memory of its batch element. -/
module

public import proofs.«01_k».proof.Proof.XattnBody
public import Idealize.ShloMosaic.Lib.IdealHost
public import Idealize.ShloMosaic.Lib.Pipeline.ValueKit
public import Idealize.ShloMosaic.Lib.Tactic

@[expose] public section

noncomputable section

namespace Cert.XattnIdeal.Layer

open Idealize.ShloMosaic hiding ix0 ix1 ix2 ix3 ix4 ix5
open Idealize.ShloMosaic.TcCoe Idealize.SL.Sem
open Idealize.ShloMosaic.ValueIdx Idealize.ShloMosaic.Tactic Cert.XattnIdeal Cert.XattnIdeal.Gen _root_.Layer
open Idealize.ShloMosaic.Pipeline (Dat)

/-! ## A grid point's tile -/

/-- The entry of a grid point's result at row `p` of the tile. -/
def point (x0 : S1024x2048.Idx → EReal) (x1 x2 : S1x256x1024.Idx → EReal) (x3 : S2048x1024.Idx → EReal) (x4 : S1024x2048.Idx → EReal) (x5 x6 : S1x2048.Idx → EReal) (p : Fin 1024) (j : Fin 2048) : EReal :=
  norm (joined (fun l => x0 (ix2 p l)) (cross (fun l => x0 (ix2 p l)) (fun h m l => x1 (ix3 0 m (col h l))) (fun h m l => x2 (ix3 0 m (col h l))) x3 x4))
    (fun k => x5 (ix2 0 k)) (fun k => x6 (ix2 0 k)) j

theorem hz : (![0, 0] : Fin 2 → Nat) = fun _ => 0 := funext fun a => by
  match a with
  | ⟨0, _⟩ | ⟨1, _⟩ => rfl

theorem hz3 : (![0, 0, 0] : Fin 3 → Nat) = fun _ => 0 := funext fun a => by
  match a with
  | ⟨0, _⟩ | ⟨1, _⟩ | ⟨2, _⟩ => rfl

/-- The keys' and the values' block without its leading axis. -/
theorem keys_apply (k : Vec Ideal S1x256x1024 .f32) (m : Fin 256) (c : Fin 1024) : k0_pay2 (F := Ideal) k (ix2 m c) = k (ix3 0 m c) :=
  shapeCast_1ab_ab_apply k shapeCasts_S1x256x1024_S256x1024 m c

theorem values_apply (k : Vec Ideal S1x256x1024 .f32) (m : Fin 256) (c : Fin 1024) : k0_pay3 (F := Ideal) k (ix2 m c) = k (ix3 0 m c) :=
  shapeCast_1ab_ab_apply k shapeCasts_S1x256x1024_S256x1024 m c

/-- A part's stored tile, of the rows `a0` of the block. -/
theorem part_apply (x0 : Vec Ideal S1024x2048 .f32) (x1 x2 : Vec Ideal S1x256x1024 .f32) (x3 : Vec Ideal S2048x1024 .bf16) (x4 : Vec Ideal S1024x2048 .bf16) (x5 x6 : Vec Ideal S1x2048 .f32)
    (a0 : FVec Ideal S512x2048 .f32) (p : Fin 512) (P : Fin 1024) (j : Fin 2048) (h0 : ∀ l, a0 (ix2 p l) = x0 (ix2 P l)) :
    tileNorm (before a0 (k0_pay2 (F := Ideal) x1) (k0_pay3 (F := Ideal) x2) x3 x4) x5 x6 reduces_S512x2048_S512 shapeCasts_S512_S512x1 broadcasts_S512x1_S512x2048 broadcasts_S1x2048_S512x2048 (ix2 p j)
      = point x0 x1 x2 x3 x4 x5 x6 P j := by
  rw [tileNorm_apply]
  unfold point
  refine congrArg (fun s => norm s (fun k => x5 (ix2 0 k)) (fun k => x6 (ix2 0 k)) j) (funext fun l => ?_)
  rw [before_apply]
  simp only [h0, keys_apply, values_apply]

/-- What a grid point leaves in its result block. -/
theorem out_apply (x0 : Vec Ideal S1024x2048 .f32) (x1 x2 : Vec Ideal S1x256x1024 .f32) (x3 : Vec Ideal S2048x1024 .bf16) (x4 : Vec Ideal S1024x2048 .bf16) (x5 x6 : Vec Ideal S1x2048 .f32) (y : S1024x2048.Idx) :
    out0_7 (F := Ideal) x0 x1 x2 x3 x4 x5 x6 y = point x0 x1 x2 x3 x4 x5 x6 (y 0) (y 1) := by
  unfold out0_7
  refine View.canon_apply_of_pieces (Val := Elt Ideal) (fun y : S1024x2048.Idx => point x0 x1 x2 x3 x4 x5 x6 (y 0) (y 1)) _ ?_ y (cover0_7 _ _ y)
  simp only [List.forall_mem_cons, List.not_mem_nil, false_imp_iff, implies_true, and_true]
  unfold k0_pay28 k0_pay29 k0_pay30 k0_pay26 k0_pay27 k0_pay25 k0_pay24 k0_pay23
  rw [View.ld_unit_zero (S := S1x256x1024) hz3, View.ld_unit_zero (S := S1x256x1024) hz3, View.ld_unit_zero (S := S2048x1024) hz, View.ld_unit_zero (S := S1024x2048) hz,
    View.ld_unit_zero (S := S1x2048) hz, View.ld_unit_zero (S := S1x2048) hz, second_eq, first_eq]
  refine ⟨fun x => ?_, fun x => ?_⟩
  · have hx : x = ix2 (x 0 : Fin 512) (x 1 : Fin 2048) := eta2 (a := 512) (b := 2048) x
    have hj : ((r0_5.emb x) 1 : Fin 2048) = (x 1 : Fin 2048) := Fin.ext (by show 0 + 1 * (x 1).val = (x 1).val; omega)
    rw [hj]
    refine (congrArg _ hx).trans (part_apply x0 x1 x2 x3 x4 x5 x6 _ (x 0) _ (x 1) ?_)
    exact fun l => congrArg x0 (funext fun a => Fin.ext (by
      match a with
      | ⟨0, _⟩ => rfl
      | ⟨1, _⟩ => show 0 + 1 * l.val = l.val; omega))
  · have hx : x = ix2 (x 0 : Fin 512) (x 1 : Fin 2048) := eta2 (a := 512) (b := 2048) x
    have hj : ((r0_1.emb x) 1 : Fin 2048) = (x 1 : Fin 2048) := Fin.ext (by show 0 + 1 * (x 1).val = (x 1).val; omega)
    rw [hj]
    refine (congrArg _ hx).trans (part_apply x0 x1 x2 x3 x4 x5 x6 _ (x 0) _ (x 1) ?_)
    exact fun l => congrArg x0 (funext fun a => Fin.ext (by
      match a with
      | ⟨0, _⟩ => rfl
      | ⟨1, _⟩ => show 0 + 1 * l.val = l.val; omega))

variable (m : (ℓ : Loc nD τ sig) → Buf (Elt Ideal) ℓ) (c : Dev nD)

abbrev argX : Vec Ideal S8x2048x2048 .f32 := m ((c : Thread nD τ).loc main_arg0)
abbrev argK : Vec Ideal S8x256x4x256 .f32 := m ((c : Thread nD τ).loc main_arg1)
abbrev argV : Vec Ideal S8x256x4x256 .f32 := m ((c : Thread nD τ).loc main_arg2)
abbrev argWq : Vec Ideal S2048x1024 .f32 := m ((c : Thread nD τ).loc main_arg3)
abbrev argWo : Vec Ideal S1024x2048 .f32 := m ((c : Thread nD τ).loc main_arg4)
abbrev argG : Vec Ideal S2048 .f32 := m ((c : Thread nD τ).loc main_arg5)
abbrev argB : Vec Ideal S2048 .f32 := m ((c : Thread nD τ).loc main_arg6)

/-! ## The arrays the call's windows read -/

theorem V_x : (V m c main_v0 : Vec Ideal S16384x2048 .f32) = shapeCast S16384x2048 (argX m c) shapeCasts_S8x2048x2048_S16384x2048 := by
  show StableHlo.after hostOps0 _ main_v0 = _
  after_results
  rfl

theorem V_k : (V m c main_v1 : Vec Ideal S8x256x1024 .f32) = shapeCast S8x256x1024 (argK m c) shapeCasts_S8x256x4x256_S8x256x1024 := by
  show StableHlo.after hostOps0 _ main_v1 = _
  after_results
  rfl

theorem V_v : (V m c main_v2 : Vec Ideal S8x256x1024 .f32) = shapeCast S8x256x1024 (argV m c) shapeCasts_S8x256x4x256_S8x256x1024 := by
  show StableHlo.after hostOps0 _ main_v2 = _
  after_results
  rfl

theorem V_wq : (V m c main_v3 : S2048x1024.Idx → EReal) = argWq m c := by
  show StableHlo.after hostOps0 _ main_v3 = _
  after_results
  rfl

theorem V_wo : (V m c main_v4 : S1024x2048.Idx → EReal) = argWo m c := by
  show StableHlo.after hostOps0 _ main_v4 = _
  after_results
  rfl

theorem V_gain : (V m c main_v5 : Vec Ideal S1x2048 .f32) = broadcastInDim S1x2048 ![1] bcast_S2048_S1x2048_1 (argG m c) := by
  show StableHlo.after hostOps0 _ main_v5 = _
  after_results

theorem V_shift : (V m c main_v6 : Vec Ideal S1x2048 .f32) = broadcastInDim S1x2048 ![1] bcast_S2048_S1x2048_1 (argB m c) := by
  show StableHlo.after hostOps0 _ main_v6 = _
  after_results

theorem vector_apply (x : Vec Ideal S2048 .f32) (j : Fin 2048) : broadcastInDim S1x2048 ![1] bcast_S2048_S1x2048_1 x (ix2 (0 : Fin 1) j) = x (ix1 j) := by
  refine broadcastInDim_apply _ bcast_S2048_S1x2048_1 x _ (ix1 j) fun a => ?_
  match a with
  | ⟨0, _⟩ => rfl

/-- The memory with its heads side by side. -/
theorem memory_apply (k : Vec Ideal S8x256x4x256 .f32) (b : Fin 8) (n : Fin 256) (h : Fin 4) (l : Fin 256) :
    shapeCast S8x256x1024 k shapeCasts_S8x256x4x256_S8x256x1024 (ix3 b n (col h l)) = k (ix4 b n h l) := by
  refine shapeCast_apply _ _ (ix3 b n (col h l)) (ix4 b n h l) ?_
  rw [Shape.rowMajor_val_four, Shape.rowMajor_val_three]
  show ((b.val * 256 + n.val) * 4 + h.val) * 256 + l.val = (b.val * 256 + n.val) * 1024 + (256 * h.val + l.val)
  omega

/-! ## The blocks of a grid point -/

theorem index_rows (t : Fin cfg0.N) : (win0_0.index t 0 = t.val ∧ win0_0.index t 1 = 0) ∧ (win0_7.index t 0 = t.val ∧ win0_7.index t 1 = 0) := by
  revert t; decide +kernel

theorem index_memory (t : Fin cfg0.N) : (win0_1.index t 0 = t.val / 2 ∧ win0_1.index t 1 = 0 ∧ win0_1.index t 2 = 0)
    ∧ (win0_2.index t 0 = t.val / 2 ∧ win0_2.index t 1 = 0 ∧ win0_2.index t 2 = 0) := by
  revert t; decide +kernel

theorem index_weights (t : Fin cfg0.N) : (win0_3.index t 0 = 0 ∧ win0_3.index t 1 = 0) ∧ (win0_4.index t 0 = 0 ∧ win0_4.index t 1 = 0) := by
  revert t; decide +kernel

theorem index_vectors (t : Fin cfg0.N) : (win0_5.index t 0 = 0 ∧ win0_5.index t 1 = 0) ∧ (win0_6.index t 0 = 0 ∧ win0_6.index t 1 = 0) := by
  revert t; decide +kernel

theorem lt16 (t : Fin cfg0.N) : t.val < 16 := lt_of_lt_of_eq t.isLt N_0

/-- The array row of row `p` of a grid point's block, and the batch element of a grid point. -/
abbrev at_row (t : Fin cfg0.N) (p : Fin 1024) : Fin 16384 := ⟨1024 * t.val + p.val, by have := lt16 t; omega⟩
abbrev at_batch (t : Fin cfg0.N) : Fin 8 := ⟨t.val / 2, by have := lt16 t; omega⟩

/-- Reading the blocks of the windows. -/
theorem read_x (t : Fin cfg0.N) (p : Fin 1024) (j : Fin 2048) (A : Buf (Elt Ideal) ((c : Thread nD τ).loc main_v0)) :
    (((cfg0.win 0).blk t).view.read (Elt Ideal) A : Vec Ideal S1024x2048 .f32) (ix2 p j) = (A : Vec Ideal S16384x2048 .f32) (ix2 (at_row t p) j) := by
  rw [View.read_apply]
  refine congrArg A (funext fun a => Fin.ext ?_)
  match a with
  | ⟨0, _⟩ => show win0_0.index t 0 * 1024 + 1 * p.val = 1024 * t.val + p.val; rw [(index_rows t).1.1]; omega
  | ⟨1, _⟩ => exact win0_0.rect_emb_val_of_index_zero t 1 (index_rows t).1.2 _

theorem read_k (t : Fin cfg0.N) (n : Fin 256) (j : Fin 1024) (A : Buf (Elt Ideal) ((c : Thread nD τ).loc main_v1)) :
    (((cfg0.win 1).blk t).view.read (Elt Ideal) A : Vec Ideal S1x256x1024 .f32) (ix3 0 n j) = (A : Vec Ideal S8x256x1024 .f32) (ix3 (at_batch t) n j) := by
  rw [View.read_apply]
  refine congrArg A (funext fun a => Fin.ext ?_)
  match a with
  | ⟨0, _⟩ => show win0_1.index t 0 * 1 + 1 * 0 = t.val / 2; rw [(index_memory t).1.1]; omega
  | ⟨1, _⟩ => exact win0_1.rect_emb_val_of_index_zero t 1 (index_memory t).1.2.1 _
  | ⟨2, _⟩ => exact win0_1.rect_emb_val_of_index_zero t 2 (index_memory t).1.2.2 _

theorem read_v (t : Fin cfg0.N) (n : Fin 256) (j : Fin 1024) (A : Buf (Elt Ideal) ((c : Thread nD τ).loc main_v2)) :
    (((cfg0.win 2).blk t).view.read (Elt Ideal) A : Vec Ideal S1x256x1024 .f32) (ix3 0 n j) = (A : Vec Ideal S8x256x1024 .f32) (ix3 (at_batch t) n j) := by
  rw [View.read_apply]
  refine congrArg A (funext fun a => Fin.ext ?_)
  match a with
  | ⟨0, _⟩ => show win0_2.index t 0 * 1 + 1 * 0 = t.val / 2; rw [(index_memory t).2.1]; omega
  | ⟨1, _⟩ => exact win0_2.rect_emb_val_of_index_zero t 1 (index_memory t).2.2.1 _
  | ⟨2, _⟩ => exact win0_2.rect_emb_val_of_index_zero t 2 (index_memory t).2.2.2 _

theorem read_wq (t : Fin cfg0.N) (k : Fin 2048) (j : Fin 1024) (A : Buf (Elt Ideal) ((c : Thread nD τ).loc main_v3)) :
    (((cfg0.win 3).blk t).view.read (Elt Ideal) A : Vec Ideal S2048x1024 .bf16) (ix2 k j) = (A : Vec Ideal S2048x1024 .bf16) (ix2 k j) := by
  rw [View.read_apply]
  refine congrArg A (funext fun a => Fin.ext ?_)
  match a with
  | ⟨0, _⟩ => exact win0_3.rect_emb_val_of_index_zero t 0 (index_weights t).1.1 _
  | ⟨1, _⟩ => exact win0_3.rect_emb_val_of_index_zero t 1 (index_weights t).1.2 _

theorem read_wo (t : Fin cfg0.N) (k : Fin 1024) (j : Fin 2048) (A : Buf (Elt Ideal) ((c : Thread nD τ).loc main_v4)) :
    (((cfg0.win 4).blk t).view.read (Elt Ideal) A : Vec Ideal S1024x2048 .bf16) (ix2 k j) = (A : Vec Ideal S1024x2048 .bf16) (ix2 k j) := by
  rw [View.read_apply]
  refine congrArg A (funext fun a => Fin.ext ?_)
  match a with
  | ⟨0, _⟩ => exact win0_4.rect_emb_val_of_index_zero t 0 (index_weights t).2.1 _
  | ⟨1, _⟩ => exact win0_4.rect_emb_val_of_index_zero t 1 (index_weights t).2.2 _

theorem read_gain (t : Fin cfg0.N) (j : Fin 2048) (A : Buf (Elt Ideal) ((c : Thread nD τ).loc main_v5)) :
    (((cfg0.win 5).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_5.rect_emb_val_of_index_zero t 0 (index_vectors t).1.1 _
  | ⟨1, _⟩ => exact win0_5.rect_emb_val_of_index_zero t 1 (index_vectors t).1.2 _

theorem read_shift (t : Fin cfg0.N) (j : Fin 2048) (A : Buf (Elt Ideal) ((c : Thread nD τ).loc main_v6)) :
    (((cfg0.win 6).blk t).view.read (Elt Ideal) A : Vec Ideal S1x2048 .f32) (ix2 (0 : Fin 1) j) = (A : Vec Ideal S1x2048 .f32) (ix2 (0 : Fin 1) j) := by
  rw [View.read_apply]
  refine congrArg A (funext fun a => Fin.ext ?_)
  match a with
  | ⟨0, _⟩ => exact win0_6.rect_emb_val_of_index_zero t 0 (index_vectors t).2.1 _
  | ⟨1, _⟩ => exact win0_6.rect_emb_val_of_index_zero t 1 (index_vectors t).2.2 _

/-- The blocks, by the call's arguments. -/
theorem iblk_x (t : Fin cfg0.N) (p : Fin 1024) (j : Fin 2048) : (iblk m c 0 t : Vec Ideal S1024x2048 .f32) (ix2 p j) = rowOf (argX m c) (at_row t p) j := by
  unfold iblk
  exact (read_x c t p j (V m c main_v0)).trans ((congrFun (V_x m c) _).trans (rowOf_apply (argX m c) _ (at_row t p) j))

theorem iblk_k (t : Fin cfg0.N) (n : Fin 256) (h : Fin 4) (l : Fin 256) : (iblk m c 1 t : Vec Ideal S1x256x1024 .f32) (ix3 0 n (col h l)) = argK m c (ix4 (at_batch t) n h l) := by
  unfold iblk
  exact (read_k c t n (col h l) (V m c main_v1)).trans ((congrFun (V_k m c) _).trans (memory_apply (argK m c) (at_batch t) n h l))

theorem iblk_v (t : Fin cfg0.N) (n : Fin 256) (h : Fin 4) (l : Fin 256) : (iblk m c 2 t : Vec Ideal S1x256x1024 .f32) (ix3 0 n (col h l)) = argV m c (ix4 (at_batch t) n h l) := by
  unfold iblk
  exact (read_v c t n (col h l) (V m c main_v2)).trans ((congrFun (V_v m c) _).trans (memory_apply (argV m c) (at_batch t) n h l))

theorem iblk_wq (t : Fin cfg0.N) : (iblk m c 3 t : S2048x1024.Idx → EReal) = argWq m c := funext fun y => by
  have hy : y = ix2 (y 0 : Fin 2048) (y 1 : Fin 1024) := eta2 (a := 2048) (b := 1024) y
  rw [hy]
  unfold iblk
  exact (read_wq c t (y 0) (y 1) (V m c main_v3)).trans (congrFun (V_wq m c) _)

theorem iblk_wo (t : Fin cfg0.N) : (iblk m c 4 t : S1024x2048.Idx → EReal) = argWo m c := funext fun y => by
  have hy : y = ix2 (y 0 : Fin 1024) (y 1 : Fin 2048) := eta2 (a := 1024) (b := 2048) y
  rw [hy]
  unfold iblk
  exact (read_wo c t (y 0) (y 1) (V m c main_v4)).trans (congrFun (V_wo m c) _)

theorem iblk_gain (t : Fin cfg0.N) (j : Fin 2048) : (iblk m c 5 t : Vec Ideal S1x2048 .f32) (ix2 (0 : Fin 1) j) = argG m c (ix1 j) := by
  unfold iblk
  exact (read_gain c t j (V m c main_v5)).trans ((congrFun (V_gain m c) _).trans (vector_apply (argG m c) j))

theorem iblk_shift (t : Fin cfg0.N) (j : Fin 2048) : (iblk m c 6 t : Vec Ideal S1x2048 .f32) (ix2 (0 : Fin 1) j) = argB m c (ix1 j) := by
  unfold iblk
  exact (read_shift c t j (V m c main_v6)).trans ((congrFun (V_shift m c) _).trans (vector_apply (argB m c) j))

/-! ## The result -/

/-- What the result array ends holding. -/
def result : Buf (Elt Ideal) ((c : Thread nD τ).loc main_v7) := fun y : S16384x2048.Idx =>
  norm (joined (rowOf (argX m c) (y 0)) (attention (argX m c) (argK m c) (argV m c) (argWq m c) (argWo m c) (y 0))) (fun k => argG m c (ix1 k)) (fun k => argB m c (ix1 k)) (y 1 : Fin 2048)

/-- A grid point's entry, at the array's index. -/
theorem point_at (t : Fin cfg0.N) (p : Fin 1024) (j : Fin 2048) (i : S16384x2048.Idx) (h0 : (i 0).val = 1024 * t.val + p.val) (h1 : (i 1).val = j.val) :
    point (iblk m c 0 t : Vec Ideal S1024x2048 .f32) (iblk m c 1 t : Vec Ideal S1x256x1024 .f32) (iblk m c 2 t : Vec Ideal S1x256x1024 .f32) (iblk m c 3 t : Vec Ideal S2048x1024 .bf16)
      (iblk m c 4 t : Vec Ideal S1024x2048 .bf16) (iblk m c 5 t : Vec Ideal S1x2048 .f32) (iblk m c 6 t : Vec Ideal S1x2048 .f32) p j = result m c i := by
  have e0 : (i 0 : Fin 16384) = at_row t p := Fin.ext h0
  have e1 : (i 1 : Fin 2048) = j := Fin.ext h1
  have eb : (⟨(at_row t p).val / 2048, by omega⟩ : Fin 8) = at_batch t := Fin.ext (by show (1024 * t.val + p.val) / 2048 = t.val / 2; omega)
  unfold point result attention
  rw [e0, e1, eb]
  have hg : (fun k => (iblk m c 5 t : Vec Ideal S1x2048 .f32) (ix2 0 k)) = fun k => argG m c (ix1 k) := funext fun k => iblk_gain m c t k
  have hb : (fun k => (iblk m c 6 t : Vec Ideal S1x2048 .f32) (ix2 0 k)) = fun k => argB m c (ix1 k) := funext fun k => iblk_shift m c t k
  have hx : (fun l => (iblk m c 0 t : Vec Ideal S1024x2048 .f32) (ix2 p l)) = rowOf (argX m c) (at_row t p) := funext fun l => iblk_x m c t p l
  have hk : (fun h n l => (iblk m c 1 t : Vec Ideal S1x256x1024 .f32) (ix3 0 n (col h l))) = fun h n l => argK m c (ix4 (at_batch t) n h l) := funext fun h => funext fun n => funext fun l => iblk_k m c t n h l
  have hv : (fun h n l => (iblk m c 2 t : Vec Ideal S1x256x1024 .f32) (ix3 0 n (col h l))) = fun h n l => argV m c (ix4 (at_batch t) n h l) := funext fun h => funext fun n => funext fun l => iblk_v m c t n h l
  rw [hg, hb, hx, hk, hv, iblk_wq, iblk_wo]

theorem flushes (t : Fin cfg0.N) : (cfg0.win 7).flush t = true := by
  revert t; decide +kernel

theorem xsize (t : Fin cfg0.N) : win0_7.size 0 = 1024 ∧ win0_7.size 1 = 2048 ∧ win0_7.xsize (grid0.coords t) 0 = 1024 ∧ win0_7.xsize (grid0.coords t) 1 = 2048 := by
  revert t; decide +kernel

/-- The result array after the run. -/
theorem final : (dats m 0 c).arrAt 7 cfg0.N = result m c :=
  (dats m 0 c).arrAt_eq_of_cover 7 (result m c) (fun t _ => by
    rw [Value.flushed7]
    funext y
    rw [View.read_apply]
    show out0_7 _ _ _ _ _ _ _ y = _
    rw [out_apply]
    refine point_at m c t (y 0) (y 1) _ ?_ ?_
    · show win0_7.index t 0 * 1024 + 1 * (y 0).val = _; rw [(index_rows t).2.1]; omega
    · show win0_7.index t 1 * 2048 + 1 * (y 1).val = _; rw [(index_rows t).2.2]; omega) fun i => by
    have h0 : (i 0 : Nat) < 16384 := (i 0).isLt
    have h1 : (i 1 : Nat) < 2048 := (i 1).isLt
    let t : Fin cfg0.N := ⟨(i 0 : Nat) / 1024, lt_of_lt_of_eq (by omega : (i 0 : Nat) / 1024 < 16) N_0.symm⟩
    obtain ⟨e0, e1, e2, e3⟩ := xsize t
    obtain ⟨i0, i1⟩ := (index_rows t).2
    refine ⟨t, flushes t, ?_⟩
    show i ∈ ((View.whole main_v7).slice (win0_7.rect t)).set
    rw [View.set_slice_whole, Rect.mem_set_unit]
    intro a
    match a with
    | ⟨0, _⟩ =>
      show win0_7.index t 0 * win0_7.size 0 ≤ (i 0 : Nat) ∧ (i 0 : Nat) < win0_7.index t 0 * win0_7.size 0 + win0_7.xsize (grid0.coords t) 0
      rw [e0, e2, i0]
      show (i 0 : Nat) / 1024 * 1024 ≤ (i 0 : Nat) ∧ (i 0 : Nat) < (i 0 : Nat) / 1024 * 1024 + 1024
      omega
    | ⟨1, _⟩ =>
      show win0_7.index t 1 * win0_7.size 1 ≤ (i 1 : Nat) ∧ (i 1 : Nat) < win0_7.index t 1 * win0_7.size 1 + win0_7.xsize (grid0.coords t) 1
      rw [e1, e3, i1]
      omega

/-- The run, read: the result at the layer of the arguments, the arguments as launched. -/
theorem run (ρ : Dev nD → PrngReg) : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.XattnIdeal.Layer
-- ==== Proof.XattnReferenceRead.lean ====
/- The cross attention's plain form, entry by entry. -/
module

public import proofs.«01_k».proof.Proof.Gen.XattnReferenceIdeal.Read
public import proofs.«01_k».proof.Proof.NormRead
public import proofs.«01_k».proof.Proof.XattnMath

@[expose] public section

noncomputable section

namespace Cert.XattnReferenceIdeal.Layer

open Idealize.ShloMosaic hiding ix0 ix1 ix2 ix3 ix4 ix5
open Idealize.ShloMosaic.ValueIdx
open Cert.XattnReferenceIdeal Cert.XattnReferenceIdeal.Read
open Cert.XattnReferenceIdeal.Gen
open _root_.Layer

variable (x : S8x2048x2048.Idx → EReal) (mk mv : S8x256x4x256.Idx → EReal) (wq : S2048x1024.Idx → EReal) (wo : S1024x2048.Idx → EReal) (g b : S2048.Idx → EReal)

/-- The queries of a position, by columns. -/
abbrev query (p : Fin 8) (q : Fin 2048) : Fin 1024 → EReal := fun c => ∑ i, x (ix3 p q i) * wq (ix2 i c)

theorem query_apply (p : Fin 8) (q : Fin 2048) (c : Fin 1024) : val_main_v0 (F := Ideal) x wq (ix3 p q c) = query x wq p q c := by
  rw [val_main_v0_apply]
  refine Finset.sum_congr rfl fun k _ => congrArg₂ (fun a b => x a * wq b) (funext fun a => Fin.ext ?_) (funext fun a => Fin.ext ?_)
  · match a with
    | ⟨0, _⟩ | ⟨1, _⟩ | ⟨2, _⟩ => rfl
  · match a with
    | ⟨0, _⟩ | ⟨1, _⟩ => rfl

theorem split_apply (p : Fin 8) (q : Fin 2048) (h : Fin 4) (l : Fin 256) : val_main_v1 (F := Ideal) x wq (ix4 p q h l) = query x wq p q (col h l) := by
  rw [val_main_v1_apply]
  have e : idx_main_v1 (ix4 p q h l) = ix3 p q (col h l) := funext fun a => Fin.ext (by
    match a with
    | ⟨0, _⟩ => show (((p.val * 2048 + q.val) * 4 + h.val) * 256 + l.val) / 2097152 = p.val; omega
    | ⟨1, _⟩ => show (((p.val * 2048 + q.val) * 4 + h.val) * 256 + l.val) / 1024 % 2048 = q.val; omega
    | ⟨2, _⟩ => show (((p.val * 2048 + q.val) * 4 + h.val) * 256 + l.val) % 1024 = 256 * h.val + l.val; omega)
  rw [e, query_apply]

/-- The scaled scores of a head's query. -/
abbrev score (p : Fin 8) (q : Fin 2048) (h : Fin 4) : Fin 256 → EReal := fun n =>
  (∑ l, query x wq p q (col h l) * mk (ix4 p n h l)) * Ideal.ofBits .f32 0x3D800000#32

theorem score_apply (p : Fin 8) (q : Fin 2048) (h : Fin 4) (n : Fin 256) : val_main_v4 (F := Ideal) x mk wq (ix4 p h q n) = score x mk wq p q h n := by
  rw [val_main_v4_apply, val_main_v2_apply, val_main_v3_apply, val_main_cst_apply]
  refine congrArg (· * Ideal.ofBits .f32 0x3D800000#32) (Finset.sum_congr rfl fun l _ => congrArg₂ (· * ·) ?_ ?_)
  · have e : lidx_main_v2 (ix4 p h q n) l = ix4 p q h l := funext fun a => Fin.ext (by
      match a with
      | ⟨0, _⟩ | ⟨1, _⟩ | ⟨2, _⟩ | ⟨3, _⟩ => rfl)
    rw [e, split_apply]
  · exact congrArg mk (funext fun a => Fin.ext (by
      match a with
      | ⟨0, _⟩ | ⟨1, _⟩ | ⟨2, _⟩ | ⟨3, _⟩ => rfl))

/-- The largest score. -/
theorem top_apply (p : Fin 8) (q : Fin 2048) (h : Fin 4) : val_main_v7 (F := Ideal) x mk wq (ix3 p h q) = top (score x mk wq p q h) := by
  have e : val_main_v5 (F := Ideal) x mk wq (ix3 p h q) = top (score x mk wq p q h) := by
    unfold val_main_v5
    simp only [pointwise]
    show Finset.univ.fold max (Ideal.ofBits .f32 0xFF800000#32) _ = Finset.univ.fold max (Ideal.ofBits .f32 0xFF800000#32) _
    exact congrArg (fun f => Finset.univ.fold max (Ideal.ofBits .f32 0xFF800000#32) f) (funext fun n => score_apply x mk wq p q h n)
  rw [val_main_v7_apply, val_main_v6_apply, val_main_cst_1_apply, e]
  exact max_top _

theorem weight_apply (p : Fin 8) (q : Fin 2048) (h : Fin 4) (n : Fin 256) :
    val_main_v11 (F := Ideal) x mk wq (ix4 p h q n) = Ideal.exp (score x mk wq p q h n - top (score x mk wq p q h)) := by
  rw [val_main_v11_apply, val_main_v10_apply, score_apply, val_main_v9_apply, val_main_v8_apply]
  have e : idx_main_v8 (idx_main_v9 (ix4 p h q n)) = ix3 p h q := funext fun a => Fin.ext (by
    match a with
    | ⟨0, _⟩ | ⟨1, _⟩ | ⟨2, _⟩ => rfl)
  rw [e, top_apply]
  rfl

theorem softmax_apply (p : Fin 8) (q : Fin 2048) (h : Fin 4) (n : Fin 256) : val_main_v15 (F := Ideal) x mk wq (ix4 p h q n) = softmax (score x mk wq p q h) n := by
  rw [val_main_v15_apply, weight_apply, val_main_v14_apply, val_main_v13_apply]
  have e : idx_main_v13 (idx_main_v14 (ix4 p h q n)) = ix3 p h q := funext fun a => Fin.ext (by
    match a with
    | ⟨0, _⟩ | ⟨1, _⟩ | ⟨2, _⟩ => rfl)
  rw [e, val_main_v12_apply, val_main_cst_2_apply]
  have ek : ∀ k : Fin 256, idx_main_v12 (ix3 p h q) k = ix4 p h q k := fun k => funext fun a => Fin.ext (by
    match a with
    | ⟨0, _⟩ | ⟨1, _⟩ | ⟨2, _⟩ | ⟨3, _⟩ => rfl)
  simp only [ek, weight_apply]
  show Ideal.div _ (Ideal.ofBits .f32 0x00000000#32 + _) = _
  rw [Ideal.ofBits_zero_f32, zero_add]
  rfl

/-- A head's result. -/
theorem attended_apply (p : Fin 8) (q : Fin 2048) (h : Fin 4) (d : Fin 256) : val_main_v16 (F := Ideal) x mk mv wq (ix4 p h d q)
    = attended (fun l => query x wq p q (col h l)) (fun n l => mk (ix4 p n h l)) (fun n l => mv (ix4 p n h l)) d := by
  rw [val_main_v16_apply]
  unfold attended
  refine Finset.sum_congr rfl fun n _ => (mul_comm _ _).trans (congrArg₂ (· * ·) ?_ ?_)
  · have e : ridx_main_v16 (ix4 p h d q) n = ix4 p h q n := funext fun a => Fin.ext (by
      match a with
      | ⟨0, _⟩ | ⟨1, _⟩ | ⟨2, _⟩ | ⟨3, _⟩ => rfl)
    rw [e, softmax_apply]
  · exact congrArg mv (funext fun a => Fin.ext (by
      match a with
      | ⟨0, _⟩ | ⟨1, _⟩ | ⟨2, _⟩ | ⟨3, _⟩ => rfl))

/-- The heads' results side by side. -/
theorem heads_apply (p : Fin 8) (q : Fin 2048) (c : Fin 1024) : val_main_v18 (F := Ideal) x mk mv wq (ix3 p q c)
    = attended (fun l => query x wq p q (col (headOf c) l)) (fun n l => mk (ix4 p n (headOf c) l)) (fun n l => mv (ix4 p n (headOf c) l)) (inHead c) := by
  rw [val_main_v18_apply, val_main_v17_apply]
  have e : idx_main_v17 (idx_main_v18 (ix3 p q c)) = ix4 p (headOf c) (inHead c) q := funext fun a => Fin.ext (by
    match a with
    | ⟨0, _⟩ => show ((p.val * 2048 + q.val) * 1024 + c.val) / 2097152 = p.val; omega
    | ⟨1, _⟩ => show ((p.val * 2048 + q.val) * 1024 + c.val) / 256 % 4 = c.val / 256; omega
    | ⟨2, _⟩ => show ((p.val * 2048 + q.val) * 1024 + c.val) % 256 = c.val % 256; omega
    | ⟨3, _⟩ => show ((p.val * 2048 + q.val) * 1024 + c.val) / 1024 % 2048 = q.val; omega)
  rw [e, attended_apply]

/-- The cross attention's row. -/
abbrev crossed (p : Fin 8) (q : Fin 2048) : Row := cross (fun j => x (ix3 p q j)) (fun h n l => mk (ix4 p n h l)) (fun h n l => mv (ix4 p n h l)) wq wo

theorem crossed_apply (p : Fin 8) (q j : Fin 2048) : val_main_v19 (F := Ideal) x mk mv wq wo (ix3 p q j) = crossed x mk mv wq wo p q j := by
  rw [val_main_v19_apply]
  unfold crossed cross
  refine Finset.sum_congr rfl fun c _ => congrArg₂ (· * ·) ?_ ?_
  · have e : lidx_main_v19 (ix3 p q j) c = ix3 p q c := funext fun a => Fin.ext (by
      match a with
      | ⟨0, _⟩ | ⟨1, _⟩ | ⟨2, _⟩ => rfl)
    rw [e, heads_apply]
  · exact congrArg wo (funext fun a => Fin.ext (by
      match a with
      | ⟨0, _⟩ | ⟨1, _⟩ => rfl))

/-- The row a batch element's position is before the layer norm. -/
abbrev row (p : Fin 8) (q : Fin 2048) : Row := joined (fun j => x (ix3 p q j)) (crossed x mk mv wq wo p q)

theorem before_apply (p : Fin 8) (q j : Fin 2048) : val_main_v22 (F := Ideal) x mk mv wq wo (ix3 p q j) = row x mk mv wq wo p q j := by
  rw [val_main_v22_apply, val_main_v21_apply, val_main_v20_apply, val_main_cst_3_apply, crossed_apply]
  rfl

theorem mean_apply (p : Fin 8) (q : Fin 2048) : val_main_v26 (F := Ideal) x mk mv wq wo (ix3 p q (0 : Fin 1)) = mean (row x mk mv wq wo p q) := by
  rw [val_main_v26_apply, val_main_v25_apply, val_main_cst_5_apply, val_main_v24_apply, val_main_v23_apply, val_main_cst_4_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [← before_apply]
  refine congrArg _ (funext fun a => Fin.ext ?_)
  match a with
  | ⟨0, _⟩ | ⟨1, _⟩ | ⟨2, _⟩ => rfl

theorem centred_apply (p : Fin 8) (q j : Fin 2048) : val_main_v28 (F := Ideal) x mk mv wq wo (ix3 p q j) = centred (row x mk mv wq wo p q) j := by
  rw [val_main_v28_apply, val_main_v27_apply, before_apply]
  refine congrArg (fun s => row x mk mv wq wo p q j - s) ?_
  rw [← mean_apply]
  refine congrArg _ (funext fun a => Fin.ext ?_)
  match a with
  | ⟨0, _⟩ | ⟨1, _⟩ | ⟨2, _⟩ => rfl

theorem centred_again (p : Fin 8) (q j : Fin 2048) : val_main_v35 (F := Ideal) x mk mv wq wo (ix3 p q j) = centred (row x mk mv wq wo p q) j :=
  centred_apply x mk mv wq wo p q j

theorem variance_apply (p : Fin 8) (q : Fin 2048) : val_main_v33 (F := Ideal) x mk mv wq wo (ix3 p q (0 : Fin 1))
    = mean fun k => centred (row x mk mv wq wo p q) k * centred (row x mk mv wq wo p q) k := by
  rw [val_main_v33_apply, val_main_v32_apply, val_main_cst_7_apply, val_main_v31_apply, val_main_v30_apply, val_main_cst_6_apply]
  show Ideal.div (Ideal.ofBits .f32 0x00000000#32 + _) _ = _
  rw [Ideal.ofBits_zero_f32, zero_add]
  refine congrArg (fun s => Ideal.div s (Ideal.ofBits .f32 0x45000000#32)) (Finset.sum_congr rfl fun k _ => ?_)
  rw [val_main_v29_apply]
  have e : idx_main_v30 (idx_main_v31 (ix3 p q (0 : Fin 1))) k = ix3 p q k := funext fun a => Fin.ext (by
    match a with
    | ⟨0, _⟩ | ⟨1, _⟩ | ⟨2, _⟩ => rfl)
  rw [e, centred_apply]
  rfl

/-- The result at a batch element's position. -/
theorem norm_apply (p : Fin 8) (q j : Fin 2048) : val_main_v46 (F := Ideal) x mk mv wq wo g b (ix3 p q j)
    = norm (row x mk mv wq wo p q) (fun k => g (ix1 k)) (fun k => b (ix1 k)) j := by
  rw [val_main_v46_apply, val_main_v43_apply, val_main_v40_apply, centred_again, val_main_v39_apply, val_main_v38_apply, val_main_v37_apply, val_main_v36_apply,
    val_main_cst_8_apply, val_main_v42_apply, val_main_v41_apply, val_main_v45_apply, val_main_v44_apply]
  have e : idx_main_v39 (ix3 p q j) = ix3 p q (0 : Fin 1) := funext fun a => Fin.ext (by
    match a with
    | ⟨0, _⟩ | ⟨1, _⟩ | ⟨2, _⟩ => rfl)
  rw [e, variance_apply]
  have eg : ∀ (h : S2048.Idx), h 0 = j → h = ix1 j := fun h hh => funext fun a => by
    match a with
    | ⟨0, _⟩ => exact hh
  show _ * Ideal.rsqrt (_ + _) * g _ + b _ = _
  rw [eg (idx_main_v41 (idx_main_v42 (ix3 p q j))) rfl, eg (idx_main_v44 (idx_main_v45 (ix3 p q j))) rfl]
  rfl

/-- The result at row `2048 p + q`. -/
theorem result_apply (i : S16384x2048.Idx) : val_main_v47 (F := Ideal) x mk mv wq wo g b i
    = norm (row x mk mv wq wo ⟨(i 0).val / 2048, by have h : (i 0).val < 16384 := (i 0).isLt; omega⟩ ⟨(i 0).val % 2048, Nat.mod_lt _ (by decide)⟩)
        (fun k => g (ix1 k)) (fun k => b (ix1 k)) (i 1) := by
  rw [val_main_v47_apply]
  refine Eq.trans ?_ (norm_apply x mk mv wq wo g b _ _ _)
  have h0 : (i 0).val < 16384 := (i 0).isLt
  have h1 : (i 1).val < 2048 := (i 1).isLt
  refine congrArg _ (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.XattnReferenceIdeal.Layer
-- ==== Proof.lean ====
/- The proof of the claims. Each kernel's run and its plain form's run are read to one array each, and the arrays are the same:
   the attention over the cache (modules `Sb…`), the feed-forward part with its norm (`Ffn…`, and
   `FfnSample…` at the sampled batch's shapes), the memory's keys and values
   (`MemKv…`), the output projection (`OutProj…`), the cross attention (`Xattn…`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.FfnReferenceIdeal
public import proofs.«01_k».proof.Proof.Gen.MemKvReferenceIdeal
public import proofs.«01_k».proof.Proof.Gen.FfnIdeal.Value
public import proofs.«01_k».proof.Proof.Gen.MemKvIdeal.Value
public import proofs.«01_k».proof.Proof.Gen.FfnReferenceIdeal.Run
public import proofs.«01_k».proof.Proof.Gen.FfnReferenceIdeal.Read
public import proofs.«01_k».proof.Proof.Gen.MemKvReferenceIdeal.Run
public import proofs.«01_k».proof.Proof.Gen.MemKvReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnIdeal.Value
public import proofs.«01_k».proof.Proof.Gen.XattnReferenceIdeal
public import proofs.«01_k».proof.Proof.Gen.XattnReferenceIdeal.Run
public import proofs.«01_k».proof.Proof.Gen.XattnReferenceIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.Gen.FfnSampleReferenceIdeal.Read
public import proofs.«01_k».proof.Proof.SbFinal
public import proofs.«01_k».proof.Proof.SbPre
public import proofs.«01_k».proof.Proof.SbReference
public import proofs.«01_k».proof.Proof.FfnArray
public import proofs.«01_k».proof.Proof.FfnReferenceRead
public import proofs.«01_k».proof.Proof.FfnSampleArray
public import proofs.«01_k».proof.Proof.FfnSampleReferenceRead
public import proofs.«01_k».proof.Proof.MemKvArray
public import proofs.«01_k».proof.Proof.MemKvReferenceRead
public import proofs.«01_k».proof.Proof.OutProjArray
public import proofs.«01_k».proof.Proof.OutProjReferenceRead
public import proofs.«01_k».proof.Proof.XattnArray
public import proofs.«01_k».proof.Proof.XattnReferenceRead
public import Idealize.ShloMosaic.Adequacy
public import Idealize.ShloMosaic.Init

@[expose] public section

noncomputable section

namespace Cert.Proof

open Idealize.ShloMosaic Idealize.SL.Sem Cert.Kernel

instance : Cert.Pre_finite_scores.Facts := Cert.Pre_finite_scores.facts

instance : Cert.KernelIdeal.Facts := Cert.KernelIdeal.Gen.facts

instance : Cert.ReferenceIdeal.Facts := Cert.ReferenceIdeal.Gen.facts

instance : Cert.FfnIdeal.Facts := Cert.FfnIdeal.Gen.facts

instance : Cert.FfnReferenceIdeal.Facts := Cert.FfnReferenceIdeal.Gen.facts

instance : Cert.MemKvIdeal.Facts := Cert.MemKvIdeal.Gen.facts

instance : Cert.MemKvReferenceIdeal.Facts := Cert.MemKvReferenceIdeal.Gen.facts

instance : Cert.OutProjIdeal.Facts := Cert.OutProjIdeal.Gen.facts

instance : Cert.OutProjReferenceIdeal.Facts := Cert.OutProjReferenceIdeal.Gen.facts

instance : Cert.XattnIdeal.Facts := Cert.XattnIdeal.Gen.facts

instance : Cert.XattnReferenceIdeal.Facts := Cert.XattnReferenceIdeal.Gen.facts

instance : Cert.FfnSampleIdeal.Facts := Cert.FfnSampleIdeal.Gen.facts

instance : Cert.FfnSampleReferenceIdeal.Facts := Cert.FfnSampleReferenceIdeal.Gen.facts

/-- The precondition's test, met at a device's launched arguments, makes the queries, the keys and the cached keys real. -/
theorem finite_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Sb.Finite m c := by
  obtain ⟨hq, hk, hck⟩ := Cert.Pre_finite_scores.real_of_pre _ _ _ _ _ (h c)
  exact ⟨hq, hk, hck⟩

/-- The textbook form's run: it ends with no counter raised and its arguments as launched. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's attention and the textbook form's end at the same array. -/
theorem same_attention : Cert.algebraic_KernelIdeal_ReferenceIdeal_pre_finite_scores := by
  intro m ρ m' ρ' hpre hargs
  have H := fun c => finite_of_pre m hpre c
  refine ⟨fun c => Cert.KernelIdeal.Sb.result m c, Cert.KernelIdeal.Sb.run ρ H, ?_⟩
  refine (θ_run Cert.ReferenceIdeal.defs _ _).mono (fun r h c => ⟨(h c).1.trans ?_, (h c).2⟩) (Cert.ReferenceIdeal.Value.run (F := Ideal) m' ρ')
  obtain ⟨e0, e1, e2, e3, e4⟩ := hargs c
  rw [Cert.ReferenceIdeal.Read.val_main_v34_eq, e0, e1, e2, e3, e4]
  exact funext fun y => Cert.ReferenceIdeal.Sb.result_apply _ _ _ (H c).q (H c).k (H c).ck _ _ y

/-- The plain feed-forward part's run: it ends with no counter raised and its arguments as launched. -/
theorem ffn_reference_frame : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The feed-forward kernel and the plain form end at the same array. -/
theorem same_ffn : Cert.algebraic_FfnIdeal_FfnReferenceIdeal := by
  intro m ρ m' ρ' _ hargs
  refine ⟨fun c => Cert.FfnIdeal.Layer.result m c, Cert.FfnIdeal.Layer.run m ρ, ?_⟩
  refine (θ_run Cert.FfnReferenceIdeal.defs _ _).mono (fun r h c => ⟨(h c).1.trans ?_, (h c).2⟩) (Cert.FfnReferenceIdeal.Value.run (F := Ideal) m' ρ')
  obtain ⟨e0, e1, e2, e3, e4, e5⟩ := hargs c
  rw [Cert.FfnReferenceIdeal.Read.val_main_v34_eq, e0, e1, e2, e3, e4, e5]
  exact funext fun y => Cert.FfnReferenceIdeal.Layer.result_apply _ _ _ _ _ _ y

/-- The plain run for the memory's keys and values: it ends with no counter raised and its arguments as launched. -/
theorem mem_kv_reference_frame : Cert.quiescent_MemKvReferenceIdeal := fun m ρ _ =>
  (θ_run Cert.MemKvReferenceIdeal.defs _ _).mono (fun r h => ⟨fun c => (h c).2.2.2.2, sem_eq_zero_of_no_sems (by decide) r.2⟩)
    (Cert.MemKvReferenceIdeal.Value.run (F := Ideal) m ρ)

/-- The kernel for the memory's keys and values and the plain form end at the same four arrays. -/
theorem same_mem_kv : Cert.algebraic_MemKvIdeal_MemKvReferenceIdeal := by
  intro m ρ m' ρ' _ hargs
  refine ⟨fun c => Cert.MemKvIdeal.Memory.resultKRows m c, fun c => Cert.MemKvIdeal.Memory.resultVRows m c, fun c => Cert.MemKvIdeal.Memory.resultKHeads m c,
    fun c => Cert.MemKvIdeal.Memory.resultVHeads m c, Cert.MemKvIdeal.Memory.run m ρ, ?_⟩
  refine (θ_run Cert.MemKvReferenceIdeal.defs _ _).mono
    (fun r h c => ⟨(h c).1.trans ?_, (h c).2.1.trans ?_, (h c).2.2.1.trans ?_, (h c).2.2.2.1.trans ?_, (h c).2.2.2.2⟩) (Cert.MemKvReferenceIdeal.Value.run (F := Ideal) m' ρ')
  all_goals obtain ⟨e0, e1, e2⟩ := hargs c
  · rw [Cert.MemKvReferenceIdeal.Read.val_main_v4_eq, e0, e1]
    exact funext fun y => Cert.MemKvReferenceIdeal.Memory.rows_apply _ _ y
  · rw [Cert.MemKvReferenceIdeal.Read.val_main_v5_eq, e0, e2, Cert.MemKvReferenceIdeal.Memory.second_rows]
    exact funext fun y => Cert.MemKvReferenceIdeal.Memory.rows_apply _ _ y
  · rw [Cert.MemKvReferenceIdeal.Read.val_main_v1_eq, e0, e1]
    exact funext fun y => Cert.MemKvReferenceIdeal.Memory.heads_apply _ _ y
  · rw [Cert.MemKvReferenceIdeal.Read.val_main_v3_eq, e0, e2, Cert.MemKvReferenceIdeal.Memory.second_heads]
    exact funext fun y => Cert.MemKvReferenceIdeal.Memory.heads_apply _ _ y

/-- The plain output projection's run: it ends with no counter raised and its arguments as launched. -/
theorem out_proj_reference_frame : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The output projection's kernel and the plain form end at the same array. -/
theorem same_out_proj : Cert.algebraic_OutProjIdeal_OutProjReferenceIdeal := by
  intro m ρ m' ρ' _ hargs
  refine ⟨fun c => Cert.OutProjIdeal.Layer.result m c, Cert.OutProjIdeal.Layer.run m ρ, ?_⟩
  refine (θ_run Cert.OutProjReferenceIdeal.defs _ _).mono (fun r h c => ⟨(h c).1.trans ?_, (h c).2⟩) (Cert.OutProjReferenceIdeal.Value.run (F := Ideal) m' ρ')
  obtain ⟨e0, e1, e2, e3, e4, e5⟩ := hargs c
  rw [Cert.OutProjReferenceIdeal.Read.val_main_v31_eq, e0, e1, e2, e3, e4, e5]
  exact funext fun y => Cert.OutProjReferenceIdeal.Layer.result_apply _ _ _ _ _ _ y

/-- The plain cross attention's run: it ends with no counter raised and its arguments as launched. -/
theorem xattn_reference_frame : Cert.quiescent_XattnReferenceIdeal := fun m ρ _ =>
  (θ_run Cert.XattnReferenceIdeal.defs _ _).mono (fun r h => ⟨fun c => (h c).2, sem_eq_zero_of_no_sems (by decide) r.2⟩)
    (Cert.XattnReferenceIdeal.Value.run (F := Ideal) m ρ)

/-- The cross attention's kernel and the plain form end at the same array. -/
theorem same_xattn : Cert.algebraic_XattnIdeal_XattnReferenceIdeal := by
  intro m ρ m' ρ' _ hargs
  refine ⟨fun c => Cert.XattnIdeal.Layer.result m c, Cert.XattnIdeal.Layer.run m ρ, ?_⟩
  refine (θ_run Cert.XattnReferenceIdeal.defs _ _).mono (fun r h c => ⟨(h c).1.trans ?_, (h c).2⟩) (Cert.XattnReferenceIdeal.Value.run (F := Ideal) m' ρ')
  obtain ⟨e0, e1, e2, e3, e4, e5, e6⟩ := hargs c
  rw [Cert.XattnReferenceIdeal.Read.val_main_v47_eq, e0, e1, e2, e3, e4, e5, e6]
  exact funext fun y => Cert.XattnReferenceIdeal.Layer.result_apply _ _ _ _ _ _ _ y

/-- The plain feed-forward part's run on the sampled batch: it ends with no counter raised and its arguments as launched. -/
theorem ffn_sample_reference_frame : Cert.quiescent_FfnSampleReferenceIdeal := fun m ρ _ =>
  (θ_run Cert.FfnSampleReferenceIdeal.defs _ _).mono (fun r h => ⟨fun c => (h c).2, sem_eq_zero_of_no_sems (by decide) r.2⟩)
    (Cert.FfnSampleReferenceIdeal.Value.run (F := Ideal) m ρ)

/-- On the sampled batch the feed-forward kernel and the plain form end at the same array. -/
theorem same_ffn_sample : Cert.algebraic_FfnSampleIdeal_FfnSampleReferenceIdeal := by
  intro m ρ m' ρ' _ hargs
  refine ⟨fun c => Cert.FfnSampleIdeal.Layer.result m c, Cert.FfnSampleIdeal.Layer.run m ρ, ?_⟩
  refine (θ_run Cert.FfnSampleReferenceIdeal.defs _ _).mono (fun r h c => ⟨(h c).1.trans ?_, (h c).2⟩) (Cert.FfnSampleReferenceIdeal.Value.run (F := Ideal) m' ρ')
  obtain ⟨e0, e1, e2, e3, e4, e5⟩ := hargs c
  rw [Cert.FfnSampleReferenceIdeal.Read.val_main_v34_eq, e0, e1, e2, e3, e4, e5]
  exact funext fun y => Cert.FfnSampleReferenceIdeal.Layer.result_apply _ _ _ _ _ _ y

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.MemKv.Gen.facts, Cert.MemKvIdeal.Gen.facts, Cert.MemKvReferenceIdeal.Gen.facts,
  Cert.OutProj.Gen.facts, Cert.OutProjIdeal.Gen.facts, Cert.OutProjReferenceIdeal.Gen.facts,
  Cert.Xattn.Gen.facts, Cert.XattnIdeal.Gen.facts, Cert.XattnReferenceIdeal.Gen.facts,
  Cert.FfnSample.Gen.facts, Cert.FfnSampleIdeal.Gen.facts, Cert.FfnSampleReferenceIdeal.Gen.facts, Cert.Pre_finite_scores.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Ffn.Gen.frame m ρ, fun m ρ _ => Cert.FfnIdeal.Gen.frame m ρ, ffn_reference_frame,
  fun m ρ _ => Cert.MemKv.Gen.frame m ρ, fun m ρ _ => Cert.MemKvIdeal.Gen.frame m ρ, mem_kv_reference_frame,
  fun m ρ _ => Cert.OutProj.Gen.frame m ρ, fun m ρ _ => Cert.OutProjIdeal.Gen.frame m ρ, out_proj_reference_frame,
  fun m ρ _ => Cert.Xattn.Gen.frame m ρ, fun m ρ _ => Cert.XattnIdeal.Gen.frame m ρ, xattn_reference_frame,
  fun m ρ _ => Cert.FfnSample.Gen.frame m ρ, fun m ρ _ => Cert.FfnSampleIdeal.Gen.frame m ρ, ffn_sample_reference_frame,
  IdealRules.named_const.statement Cert.KernelIdeal.κ "neg_log2_e" .f32 0xBFB8AA3B#32 ((-((Real.log 2)⁻¹) : ℝ) : EReal) rfl,
  same_attention, trivial, same_ffn, trivial, same_mem_kv, trivial, same_out_proj, trivial, same_xattn, trivial, same_ffn_sample⟩

end Cert.Proof

end
